-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "stop" .f32 0xC3160A50#32 (((-104) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v35) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  IdealRules.named_const.Statement Cert.Kernel6Ideal.κ "s" .f32 0x3DB504F3#32 (((Real.sqrt 128)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v45)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite6.lean ====
abbrev S16384x3584 : Shape := ⟨2, ![16384, 3584]⟩
abbrev S256x512 : Shape := ⟨2, ![256, 512]⟩
abbrev S_ : Shape := ⟨0, ![]⟩

class Facts : Prop where
  bitsLt_bf16_f32 : FTy.bits .bf16 < FTy.bits .f32
  bcast_S_S16384x3584 : S_.BroadcastsInDim S16384x3584 (![] : Fin 0 → Fin S16384x3584.rank)
  reducesTo_S16384x3584_S_d0_1 : S16384x3584.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S16384x3584 .bf16) (main_arg1 : FVec F S256x512 .f32) (main_arg2 : FVec F S256x512 .f32) : IVec S_ 1 :=
  let main_v0 : FVec F S16384x3584 .f32 := (extf .f32 · bitsLt_bf16_f32) main_arg0
  let main_v1 : FVec F S16384x3584 .f32 := Host.absf main_v0
  let main_cst : FVec F S_ .f32 := constant S_ .f32 0x7F800000#32
  let main_v2 : FVec F S16384x3584 .f32 := broadcastInDim S16384x3584 ![] bcast_S_S16384x3584 main_cst
  let main_v3 : IVec S16384x3584 1 := cmpf .olt main_v1 main_v2
  let main_c : IVec S_ 1 := constantI S_ 1 1#1
  let main_v4 : IVec S_ 1 := (fun x v => Host.reduce IntOp.andi x v reducesTo_S16384x3584_S_d0_1 h_S_) main_v3 main_c
  let main_v5 : FVec F S256x512 .f32 := Host.absf main_arg1
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v4 main_v8
  let main_v10 : FVec F S256x512 .f32 := Host.absf main_arg2
  let main_cst_2 : FVec F S_ .f32 := constant S_ .f32 0x7F800000#32
  let main_v11 : FVec F S256x512 .f32 := broadcastInDim S256x512 ![] bcast_S_S256x512 main_cst_2
  let main_v12 : IVec S256x512 1 := cmpf .olt main_v10 main_v11
  let main_c_3 : IVec S_ 1 := constantI S_ 1 1#1
  let main_v13 : IVec S_ 1 := (fun x v => Host.reduce IntOp.andi x v reducesTo_S256x512_S_d0_1 h_S_) main_v12 main_c_3
  let main_v14 : IVec S_ 1 := andi main_v9 main_v13
  main_v14
-- ==== Pre_finite7.lean ====
abbrev S16384x3584 : Shape := ⟨2, ![16384, 3584]⟩
abbrev S8x257 : Shape := ⟨2, ![8, 257]⟩
abbrev S_ : Shape := ⟨0, ![]⟩

class Facts : Prop where
  bitsLt_bf16_f32 : FTy.bits .bf16 < FTy.bits .f32
  bcast_S_S16384x3584 : S_.BroadcastsInDim S16384x3584 (![] : Fin 0 → Fin S16384x3584.rank)
  reducesTo_S16384x3584_S_d0_1 : S16384x3584.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16384x3584 .bf16) (main_arg1 : FVec F S8x257 .f32) : IVec S_ 1 :=
  let main_v0 : FVec F S16384x3584 .f32 := (extf .f32 · bitsLt_bf16_f32) main_arg0
  let main_v1 : FVec F S16384x3584 .f32 := Host.absf main_v0
  let main_cst : FVec F S_ .f32 := constant S_ .f32 0x7F800000#32
  let main_v2 : FVec F S16384x3584 .f32 := broadcastInDim S16384x3584 ![] bcast_S_S16384x3584 main_cst
  let main_v3 : IVec S16384x3584 1 := cmpf .olt main_v1 main_v2
  let main_c : IVec S_ 1 := constantI S_ 1 1#1
  let main_v4 : IVec S_ 1 := (fun x v => Host.reduce IntOp.andi x v reducesTo_S16384x3584_S_d0_1 h_S_) main_v3 main_c
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  let main_c_1 : IVec S_ 1 := constantI S_ 1 1#1
  let main_v8 : IVec S_ 1 := (fun x v => Host.reduce IntOp.andi x v reducesTo_S8x257_S_d0_1 h_S_) main_v7 main_c_1
  let main_v9 : IVec S_ 1 := andi main_v4 main_v8
  main_v9
-- ==== Kernel.lean ====
abbrev S16384x3584 : Shape := ⟨2, ![16384, 3584]⟩
abbrev S16384x512 : Shape := ⟨2, ![16384, 512]⟩
abbrev S256x512 : Shape := ⟨2, ![256, 512]⟩
abbrev S2 : Shape := ⟨1, ![2]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 2
  | .vmem => 14
  | .smem => 0
  | _ => 0

abbrev bufTy : (tb : Table) → Fin (tcTables nBuf tb) → BufTy
  | .hbm, ⟨0, _⟩ => ⟨S16384x3584, .bf16⟩
  | .hbm, ⟨1, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 64], ![false, false]⟩

def k0_mult1 (arg12 : BitVec 32) : BitVec 32 :=
  let c256_i32 : BitVec 32 := 256#32
  let v735 : BitVec 32 := Scalar.muli arg12 c256_i32
  v735

def k0_mult2 (i : grid0.Coords) : BitVec 32 :=
  let c512_i32_283 : BitVec 32 := 512#32
  let arg0 : BitVec 32 := BitVec.ofNat 32 (i 0).val
  let c512_i32 : BitVec 32 := 512#32
  let v737 : BitVec 32 := Scalar.muli arg0 c512_i32
  let v738 : BitVec 32 := Scalar.addi c512_i32_283 v737
  v738
def k0_mult3 (i : grid0.Coords) : BitVec 32 :=
  let c1024_i32 : BitVec 32 := 1024#32
  let arg0 : BitVec 32 := BitVec.ofNat 32 (i 0).val
  let c512_i32_284 : BitVec 32 := 512#32
  let v740 : BitVec 32 := Scalar.muli arg0 c512_i32_284
  let v741 : BitVec 32 := Scalar.addi c1024_i32 v740
  v741
def k0_off1 (i : grid0.Coords) (arg12 : BitVec 32) (c512_i32_283 : BitVec 32) : Fin 2 → Nat :=
  let c256_i32 : BitVec 32 := 256#32
  let v735 : BitVec 32 := Scalar.muli arg12 c256_i32
  let v736 : BitVec 32 := v735
  let arg0 : BitVec 32 := BitVec.ofNat 32 (i 0).val
  let c512_i32 : BitVec 32 := 512#32
  let v737 : BitVec 32 := Scalar.muli arg0 c512_i32
  let v738 : BitVec 32 := Scalar.addi c512_i32_283 v737
  let v739 : BitVec 32 := v738
  ![v736.toNat, v739.toNat]

def k0_chk1 (i : grid0.Coords) (arg12 : BitVec 32) : Prop :=
  (256 ∣ (k0_mult1 arg12).toNat) ∧
  (∀ (r : Fin 2), ∀ a, (k0_off1 i arg12 (BitVec.ofNat 32 (512 + 512 * r.val))) a + S256x512.size a ≤ S16384x3584.size a) ∧
  (∀ (r : Fin 2), ∀ (hinb : ∀ a, (k0_off1 i arg12 (BitVec.ofNat 32 (512 + 512 * r.val))) a + S256x512.size a ≤ S16384x3584.size a), (Rect.unit (s := S16384x3584) (k0_off1 i arg12 (BitVec.ofNat 32 (512 + 512 * r.val))) S256x512.size hinb).WholeWords (EltTy.packing .bf16))
theorem k0_mult1_dvd : ∀ (i : grid0.Coords) (arg12 : BitVec 32) (k0_hw1 : k0_chk1 i arg12), 256 ∣ (k0_mult1 arg12).toNat := fun i arg12 k0_hw1 => k0_hw1.1
theorem k0_off1_inb : ∀ (i : grid0.Coords) (arg12 : BitVec 32) (k0_hw1 : k0_chk1 i arg12), ∀ (r : Fin 2), ∀ a, (k0_off1 i arg12 (BitVec.ofNat 32 (512 + 512 * r.val))) a + S256x512.size a ≤ S16384x3584.size a := fun i arg12 k0_hw1 r => k0_hw1.2.1 r
theorem k0_off1_wordsbf16 : ∀ (i : grid0.Coords) (arg12 : BitVec 32) (k0_hw1 : k0_chk1 i arg12), ∀ (r : Fin 2), (Rect.unit (s := S16384x3584) (k0_off1 i arg12 (BitVec.ofNat 32 (512 + 512 * r.val))) S256x512.size (k0_off1_inb i arg12 k0_hw1 r)).WholeWords (EltTy.packing .bf16) := fun i arg12 k0_hw1 r => k0_hw1.2.2 r (k0_off1_inb i arg12 k0_hw1 r)

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let v2 : BitVec 32 := Scalar.addi c1_i32_0 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.addi c2_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "stop" => some (((-104) * (Real.log 2)⁻¹ : ℝ) : EReal)
  | _ => none
-- ==== ReferenceIdeal.lean ====
abbrev S16384x3584 : Shape := ⟨2, ![16384, 3584]⟩
abbrev S16384x512 : Shape := ⟨2, ![16384, 512]⟩
abbrev S16384x8x64 : Shape := ⟨3, ![16384, 8, 64]⟩
abbrev S8x16384x16384 : Shape := ⟨3, ![8, 16384, 16384]⟩
abbrev S16384x16384 : Shape := ⟨2, ![16384, 16384]⟩
abbrev S1x16384x16384 : Shape := ⟨3, ![1, 16384, 16384]⟩
abbrev S_ : Shape := ⟨0, ![]⟩
abbrev S8x64x256x64x256 : Shape := ⟨5, ![8, 64, 256, 64, 256]⟩
abbrev S8x64x256x64x1 : Shape := ⟨5, ![8, 64, 256, 64, 1]⟩
abbrev S8x64x256x64 : Shape := ⟨4, ![8, 64, 256, 64]⟩
abbrev S64x64 : Shape := ⟨2, ![64, 64]⟩
abbrev S64x63 : Shape := ⟨2, ![64, 63]⟩
abbrev S64x1 : Shape := ⟨2, ![64, 1]⟩
abbrev S64x256x64 : Shape := ⟨3, ![64, 256, 64]⟩
abbrev S16384x64 : Shape := ⟨2, ![16384, 64]⟩
abbrev S16384x64x256 : Shape := ⟨3, ![16384, 64, 256]⟩
abbrev S8x64x16384 : Shape := ⟨3, ![8, 64, 16384]⟩

abbrev nBuf : Space → Nat
  | .hbm => 94
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S16384x512, .bf16⟩
  | .hbm, ⟨2, _⟩ => ⟨S16384x8x64, .bf16⟩
  | .hbm, ⟨3, _⟩ => ⟨S16384x512, .bf16⟩
  | .hbm, ⟨4, _⟩ => ⟨S16384x8x64, .bf16⟩
  | .hbm, ⟨5, _⟩ => ⟨S8x16384x16384, .f32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S1x16384x16384, .i1⟩
  | .hbm, ⟨10, _⟩ => ⟨S8x16384x16384, .f32⟩
  | .hbm, ⟨11, _⟩ => ⟨S8x16384x16384, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S8x16384x16384, .f32⟩
  | .hbm, ⟨16, _⟩ => ⟨S8x16384x16384, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S_, .f32⟩
  | .hbm, ⟨29, _⟩ => ⟨S8x16384x16384, .i1⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S_, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S8x16384x16384, .i1⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x64x256x64x256, .f32⟩
  | .hbm, ⟨55, _⟩ => ⟨S8x64x256x64x1, .f32⟩
  | .hbm, ⟨56, _⟩ => ⟨S8x64x256x64, .f32⟩
  | .hbm, ⟨57, _⟩ => ⟨S_, .f32⟩
  | .hbm, ⟨58, _⟩ => ⟨S64x64, .f32⟩
  | .hbm, ⟨59, _⟩ => ⟨S64x63, .f32⟩
  | .hbm, ⟨60, _⟩ => ⟨S_, .f32⟩
  | .hbm, ⟨61, _⟩ => ⟨S64x1, .f32⟩
  | .hbm, ⟨62, _⟩ => ⟨S64x64, .f32⟩
  | .hbm, ⟨63, _⟩ => ⟨S64x64, .i32⟩
  | .hbm, ⟨64, _⟩ => ⟨S_, .i32⟩
  | .hbm, ⟨65, _⟩ => ⟨S64x64, .i32⟩
  | .hbm, ⟨66, _⟩ => ⟨S64x64, .i32⟩
  | .hbm, ⟨67, _⟩ => ⟨S64x64, .i32⟩
  | .hbm, ⟨68, _⟩ => ⟨S64x64, .i1⟩
  | .hbm, ⟨69, _⟩ => ⟨S_, .f32⟩
  | .hbm, ⟨70, _⟩ => ⟨S64x64, .f32⟩
  | .hbm, ⟨71, _⟩ => ⟨S64x64, .i1⟩
  | .hbm, ⟨72, _⟩ => ⟨S64x64, .i1⟩
  | .hbm, ⟨73, _⟩ => ⟨S64x256x64, .i1⟩
  | .hbm, ⟨74, _⟩ => ⟨S16384x64, .i1⟩
  | .hbm, ⟨75, _⟩ => ⟨S16384x64x256, .i1⟩
  | .hbm, ⟨76, _⟩ => ⟨S16384x16384, .i1⟩
  | .hbm, ⟨77, _⟩ => ⟨S16384x16384, .i32⟩
  | .hbm, ⟨78, _⟩ => ⟨S16384x16384, .i32⟩
  | .hbm, ⟨79, _⟩ => ⟨S16384x16384, .i1⟩
  | .hbm, ⟨80, _⟩ => ⟨S16384x16384, .i1⟩
  | .hbm, ⟨81, _⟩ => ⟨S1x16384x16384, .i1⟩
  | .hbm, ⟨82, _⟩ => ⟨S_, .f32⟩
  | .hbm, ⟨83, _⟩ => ⟨S_, .f32⟩
  | .hbm, ⟨84, _⟩ => ⟨S8x16384x16384, .i1⟩
  | .hbm, ⟨85, _⟩ => ⟨S8x16384x16384, .f32⟩
  | .hbm, ⟨86, _⟩ => ⟨S8x16384x16384, .f32⟩
  | .hbm, ⟨87, _⟩ => ⟨S8x16384x16384, .bf16⟩
  | .hbm, ⟨88, _⟩ => ⟨S16384x512, .bf16⟩
  | .hbm, ⟨89, _⟩ => ⟨S16384x8x64, .bf16⟩
  | .hbm, ⟨90, _⟩ => ⟨S8x64x16384, .f32⟩
  | .hbm, ⟨91, _⟩ => ⟨S16384x8x64, .f32⟩
  | .hbm, ⟨92, _⟩ => ⟨S16384x512, .f32⟩
  | .hbm, ⟨93, _⟩ => ⟨S16384x512, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v10 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_call2_cst : Ref sig .tc := ⟨.hbm, 32, rfl⟩
abbrev main_call2_v0 : Ref sig .tc := ⟨.hbm, 33, rfl⟩
abbrev main_v12 : Ref sig .tc := ⟨.hbm, 34, rfl⟩
abbrev main_call3_v0 : Ref sig .tc := ⟨.hbm, 35, rfl⟩
abbrev main_call3_call0_cst : Ref sig .tc := ⟨.hbm, 36, rfl⟩
abbrev main_call3_call0_v0 : Ref sig .tc := ⟨.hbm, 37, rfl⟩
abbrev main_call3_call0_v1 : Ref sig .tc := ⟨.hbm, 38, rfl⟩
abbrev main_call3_call0_v2 : Ref sig .tc := ⟨.hbm, 39, rfl⟩
abbrev main_call3_call0_v3 : Ref sig .tc := ⟨.hbm, 40, rfl⟩
abbrev main_call3_call0_v4 : Ref sig .tc := ⟨.hbm, 41, rfl⟩
abbrev main_call3_call0_v5 : Ref sig .tc := ⟨.hbm, 42, rfl⟩
abbrev main_call3_call0_v6 : Ref sig .tc := ⟨.hbm, 43, rfl⟩
abbrev main_call3_call0_v7 : Ref sig .tc := ⟨.hbm, 44, rfl⟩
abbrev main_call3_call0_v8 : Ref sig .tc := ⟨.hbm, 45, rfl⟩
abbrev main_call3_call0_v9 : Ref sig .tc := ⟨.hbm, 46, rfl⟩
abbrev main_call3_call0_v10 : Ref sig .tc := ⟨.hbm, 47, rfl⟩
abbrev main_call3_call0_v11 : Ref sig .tc := ⟨.hbm, 48, rfl⟩
abbrev main_call3_v1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_v20 : Ref sig .tc := ⟨.hbm, 58, rfl⟩
abbrev main_v21 : Ref sig .tc := ⟨.hbm, 59, rfl⟩
abbrev main_cst_1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_2 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_3 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x6656 : Shape := ⟨2, ![1024, 6656]⟩
abbrev S1x3072 : Shape := ⟨2, ![1, 3072]⟩
abbrev S16384x3584 : Shape := ⟨2, ![16384, 3584]⟩
abbrev S16384x512 : Shape := ⟨2, ![16384, 512]⟩
abbrev S16384x3072 : Shape := ⟨2, ![16384, 3072]⟩
abbrev S512x1024 : Shape := ⟨2, ![512, 1024]⟩
abbrev S512x3584 : Shape := ⟨2, ![512, 3584]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6656, .f32⟩
  | .hbm, ⟨3, _⟩ => ⟨S1x3072, .f32⟩
  | .hbm, ⟨4, _⟩ => ⟨S1024x6656, .bf16⟩
  | .hbm, ⟨5, _⟩ => ⟨S16384x3584, .bf16⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S1x3072, .f32⟩
  | .local _ .vmem, ⟨5, _⟩ => ⟨S512x3584, .bf16⟩
  | .local _ .vmem, ⟨6, _⟩ => ⟨S512x3584, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x3072, .bf16⟩
  | .local _ .vmem, ⟨16, _⟩ => ⟨S512x3072, .bf16⟩
  | .local _ .vmem, ⟨17, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1x1024 : Shape := ⟨2, ![1, 1024]⟩
abbrev S1024x6656 : Shape := ⟨2, ![1024, 6656]⟩
abbrev S1x3072 : Shape := ⟨2, ![1, 3072]⟩
abbrev S_ : Shape := ⟨0, ![]⟩
abbrev S16384 : Shape := ⟨1, ![16384]⟩
abbrev S16384x1 : Shape := ⟨2, ![16384, 1]⟩
abbrev S16384x6656 : Shape := ⟨2, ![16384, 6656]⟩
abbrev S16384x512 : Shape := ⟨2, ![16384, 512]⟩
abbrev S16384x3072 : Shape := ⟨2, ![16384, 3072]⟩
abbrev S16384x3584 : Shape := ⟨2, ![16384, 3584]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6656, .f32⟩
  | .hbm, ⟨3, _⟩ => ⟨S1x3072, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x6656, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x3072, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x3584, .f32⟩
  | .hbm, ⟨35, _⟩ => ⟨S16384x3584, .bf16⟩
  | .hbm, ⟨36, _⟩ => ⟨S16384x3072, .f32⟩
  | .hbm, ⟨37, _⟩ => ⟨S16384x3072, .f32⟩
  | .hbm, ⟨38, _⟩ => ⟨S16384x3072, .f32⟩
  | .hbm, ⟨39, _⟩ => ⟨S16384x3072, .f32⟩
  | .hbm, ⟨40, _⟩ => ⟨S_, .f32⟩
  | .hbm, ⟨41, _⟩ => ⟨S16384x3072, .f32⟩
  | .hbm, ⟨42, _⟩ => ⟨S16384x3072, .f32⟩
  | .hbm, ⟨43, _⟩ => ⟨S_, .f32⟩
  | .hbm, ⟨44, _⟩ => ⟨S16384x3072, .f32⟩
  | .hbm, ⟨45, _⟩ => ⟨S16384x3072, .f32⟩
  | .hbm, ⟨46, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel3.lean ====
abbrev S256x1024 : Shape := ⟨2, ![256, 1024]⟩
abbrev S1x1024 : Shape := ⟨2, ![1, 1024]⟩
abbrev S1024x1024 : Shape := ⟨2, ![1024, 1024]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S256x512, .f32⟩
  | .hbm, ⟨5, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference3Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x512, .f32⟩
  | .hbm, ⟨20, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S1024x1024 : Shape := ⟨2, ![1024, 1024]⟩
abbrev S1x1024 : Shape := ⟨2, ![1, 1024]⟩
abbrev S1024x6656 : Shape := ⟨2, ![1024, 6656]⟩
abbrev S1x3072 : Shape := ⟨2, ![1, 3072]⟩
abbrev S1024x3584 : Shape := ⟨2, ![1024, 3584]⟩
abbrev S1024x512 : Shape := ⟨2, ![1024, 512]⟩
abbrev S1024x3072 : Shape := ⟨2, ![1024, 3072]⟩
abbrev S512x1024 : Shape := ⟨2, ![512, 1024]⟩
abbrev S512x3584 : Shape := ⟨2, ![512, 3584]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S1x512 : Shape := ⟨2, ![1, 512]⟩

abbrev nBuf : Space → Nat
  | .hbm => 11
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x6656, .f32⟩
  | .hbm, ⟨3, _⟩ => ⟨S1x3072, .f32⟩
  | .hbm, ⟨4, _⟩ => ⟨S1024x6656, .bf16⟩
  | .hbm, ⟨5, _⟩ => ⟨S1024x3584, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S1x3072, .f32⟩
  | .local _ .vmem, ⟨5, _⟩ => ⟨S512x3584, .bf16⟩
  | .local _ .vmem, ⟨6, _⟩ => ⟨S512x3584, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x3072, .bf16⟩
  | .local _ .vmem, ⟨16, _⟩ => ⟨S512x3072, .bf16⟩
  | .local _ .vmem, ⟨17, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S1024x1024 : Shape := ⟨2, ![1024, 1024]⟩
abbrev S1x1024 : Shape := ⟨2, ![1, 1024]⟩
abbrev S1024x6656 : Shape := ⟨2, ![1024, 6656]⟩
abbrev S1x3072 : Shape := ⟨2, ![1, 3072]⟩
abbrev S_ : Shape := ⟨0, ![]⟩
abbrev S1024 : Shape := ⟨1, ![1024]⟩
abbrev S1024x1 : Shape := ⟨2, ![1024, 1]⟩
abbrev S1024x512 : Shape := ⟨2, ![1024, 512]⟩
abbrev S1024x3072 : Shape := ⟨2, ![1024, 3072]⟩
abbrev S1024x3584 : Shape := ⟨2, ![1024, 3584]⟩

abbrev nBuf : Space → Nat
  | .hbm => 47
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x6656, .f32⟩
  | .hbm, ⟨3, _⟩ => ⟨S1x3072, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x6656, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x3072, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x3584, .f32⟩
  | .hbm, ⟨35, _⟩ => ⟨S1024x3584, .bf16⟩
  | .hbm, ⟨36, _⟩ => ⟨S1024x3072, .f32⟩
  | .hbm, ⟨37, _⟩ => ⟨S1024x3072, .f32⟩
  | .hbm, ⟨38, _⟩ => ⟨S1024x3072, .f32⟩
  | .hbm, ⟨39, _⟩ => ⟨S1024x3072, .f32⟩
  | .hbm, ⟨40, _⟩ => ⟨S_, .f32⟩
  | .hbm, ⟨41, _⟩ => ⟨S1024x3072, .f32⟩
  | .hbm, ⟨42, _⟩ => ⟨S1024x3072, .f32⟩
  | .hbm, ⟨43, _⟩ => ⟨S_, .f32⟩
  | .hbm, ⟨44, _⟩ => ⟨S1024x3072, .f32⟩
  | .hbm, ⟨45, _⟩ => ⟨S1024x3072, .f32⟩
  | .hbm, ⟨46, _⟩ => ⟨S1024x3072, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S1024x32 : Shape := ⟨2, ![1024, 32]⟩
abbrev S1x32 : Shape := ⟨2, ![1, 32]⟩
abbrev S16384x8x128 : Shape := ⟨3, ![16384, 8, 128]⟩
abbrev S16384x4 : Shape := ⟨2, ![16384, 4]⟩
abbrev S512x512 : Shape := ⟨2, ![512, 512]⟩
abbrev S512x3072 : Shape := ⟨2, ![512, 3072]⟩
abbrev S512x8x128 : Shape := ⟨3, ![512, 8, 128]⟩
abbrev S512x4 : Shape := ⟨2, ![512, 4]⟩
abbrev S512 : Shape := ⟨1, ![512]⟩
abbrev S512x1 : Shape := ⟨2, ![512, 1]⟩
abbrev S512x128 : Shape := ⟨2, ![512, 128]⟩
abbrev S512x1x128 : Shape := ⟨3, ![512, 1, 128]⟩
abbrev S512x32 : Shape := ⟨2, ![512, 32]⟩
abbrev S32 : Shape := ⟨1, ![32]⟩

abbrev nBuf : Space → Nat
  | .hbm => 24
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1024x32, .f32⟩
  | .hbm, ⟨11, _⟩ => ⟨S1x32, .f32⟩
  | .hbm, ⟨12, _⟩ => ⟨S1x32, .i32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1024x32, .bf16⟩
  | .hbm, ⟨18, _⟩ => ⟨S16384x1024, .f32⟩
  | .hbm, ⟨19, _⟩ => ⟨S16384x8x128, .f32⟩
  | .hbm, ⟨20, _⟩ => ⟨S16384x4, .i32⟩
  | .hbm, ⟨21, _⟩ => ⟨S16384x4, .f32⟩
  | .hbm, ⟨22, _⟩ => ⟨S16384x4, .i32⟩
  | .hbm, ⟨23, _⟩ => ⟨S1x32, .i32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x32, .bf16⟩
  | .local _ .vmem, ⟨16, _⟩ => ⟨S1x32, .f32⟩
  | .local _ .vmem, ⟨17, _⟩ => ⟨S1x32, .i32⟩
  | .local _ .vmem, ⟨18, _⟩ => ⟨S512x1024, .f32⟩
  | .local _ .vmem, ⟨19, _⟩ => ⟨S512x1024, .f32⟩
  | .local _ .vmem, ⟨20, _⟩ => ⟨S512x8x128, .f32⟩
  | .local _ .vmem, ⟨21, _⟩ => ⟨S512x8x128, .f32⟩
  | .local _ .vmem, ⟨22, _⟩ => ⟨S512x4, .i32⟩
  | .local _ .vmem, ⟨23, _⟩ => ⟨S512x4, .i32⟩
  | .local _ .vmem, ⟨24, _⟩ => ⟨S512x4, .f32⟩
  | .local _ .vmem, ⟨25, _⟩ => ⟨S512x4, .f32⟩
  | .local _ .vmem, ⟨26, _⟩ => ⟨S512x4, .i32⟩
  | .local _ .vmem, ⟨27, _⟩ => ⟨S512x4, .i32⟩
  | .local _ .vmem, ⟨28, _⟩ => ⟨S1x32, .i32⟩
  | .local _ .vmem, ⟨29, _⟩ => ⟨S1x32, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev main_v5_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x4 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x32 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1x1024 : Shape := ⟨2, ![1, 1024]⟩
abbrev S1024x32 : Shape := ⟨2, ![1024, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S16384x8x128 : Shape := ⟨3, ![16384, 8, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1024x32, .f32⟩
  | .hbm, ⟨11, _⟩ => ⟨S1x32, .f32⟩
  | .hbm, ⟨12, _⟩ => ⟨S1x32, .i32⟩
  | .hbm, ⟨13, _⟩ => ⟨S16384x3072, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S16384x512, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel6.lean ====
abbrev S16384x3584 : Shape := ⟨2, ![16384, 3584]⟩
abbrev S256x512 : Shape := ⟨2, ![256, 512]⟩
abbrev S16384x512 : Shape := ⟨2, ![16384, 512]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x3584, .bf16⟩
  | .hbm, ⟨1, _⟩ => ⟨S256x512, .f32⟩
  | .hbm, ⟨2, _⟩ => ⟨S256x512, .f32⟩
  | .hbm, ⟨3, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S512x512, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel6Ideal.lean ====
variable {F : FTy → Type} [FloatOps F] [Named F]
def κ : String → Option EReal := fun
  | "s" => some (((Real.sqrt 128)⁻¹ : ℝ) : EReal)
  | _ => none
-- ==== Reference6Ideal.lean ====
abbrev S16384x3584 : Shape := ⟨2, ![16384, 3584]⟩
abbrev S256x512 : Shape := ⟨2, ![256, 512]⟩
abbrev S16384x512 : Shape := ⟨2, ![16384, 512]⟩
abbrev S16384x4x128 : Shape := ⟨3, ![16384, 4, 128]⟩
abbrev S256x4x128 : Shape := ⟨3, ![256, 4, 128]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S256x512, .f32⟩
  | .hbm, ⟨2, _⟩ => ⟨S256x512, .f32⟩
  | .hbm, ⟨3, _⟩ => ⟨S16384x512, .bf16⟩
  | .hbm, ⟨4, _⟩ => ⟨S16384x512, .f32⟩
  | .hbm, ⟨5, _⟩ => ⟨S16384x4x128, .f32⟩
  | .hbm, ⟨6, _⟩ => ⟨S256x4x128, .f32⟩
  | .hbm, ⟨7, _⟩ => ⟨S256x4x128, .f32⟩
  | .hbm, ⟨8, _⟩ => ⟨S4x16384x256, .f32⟩
  | .hbm, ⟨9, _⟩ => ⟨S_, .f32⟩
  | .hbm, ⟨10, _⟩ => ⟨S_, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4x16384, .f32⟩
  | .hbm, ⟨15, _⟩ => ⟨S_, .f32⟩
  | .hbm, ⟨16, _⟩ => ⟨S4x16384, .f32⟩
  | .hbm, ⟨17, _⟩ => ⟨S4x16384, .f32⟩
  | .hbm, ⟨18, _⟩ => ⟨S4x16384x1, .f32⟩
  | .hbm, ⟨19, _⟩ => ⟨S4x16384x256, .f32⟩
  | .hbm, ⟨20, _⟩ => ⟨S4x16384x256, .f32⟩
  | .hbm, ⟨21, _⟩ => ⟨S4x16384x256, .f32⟩
  | .hbm, ⟨22, _⟩ => ⟨S_, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S4x128x16384, .f32⟩
  | .hbm, ⟨28, _⟩ => ⟨S16384x4x128, .f32⟩
  | .hbm, ⟨29, _⟩ => ⟨S16384x512, .f32⟩
  | .hbm, ⟨30, _⟩ => ⟨S16384x512, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S16384x3584 : Shape := ⟨2, ![16384, 3584]⟩
abbrev S8x257 : Shape := ⟨2, ![8, 257]⟩
abbrev S256 : Shape := ⟨1, ![256]⟩
abbrev S_ : Shape := ⟨0, ![]⟩
abbrev S768 : Shape := ⟨1, ![768]⟩
abbrev S1x768 : Shape := ⟨2, ![1, 768]⟩
abbrev S256x1 : Shape := ⟨2, ![256, 1]⟩
abbrev S256x768 : Shape := ⟨2, ![256, 768]⟩
abbrev S1x256x768 : Shape := ⟨3, ![1, 256, 768]⟩
abbrev S1024 : Shape := ⟨1, ![1024]⟩
abbrev S1024x1 : Shape := ⟨2, ![1024, 1]⟩
abbrev S8x1024 : Shape := ⟨2, ![8, 1024]⟩
abbrev S8x1x1024 : Shape := ⟨3, ![8, 1, 1024]⟩
abbrev S8x256x1024 : Shape := ⟨3, ![8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S16384x512 : Shape := ⟨2, ![16384, 512]⟩
abbrev S256x512 : Shape := ⟨2, ![256, 512]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 101
  | .vmem => 17
  | .smem => 0
  | _ => 0

abbrev bufTy : (tb : Table) → Fin (tcTables nBuf tb) → BufTy
  | .hbm, ⟨0, _⟩ => ⟨S16384x3584, .bf16⟩
  | .hbm, ⟨1, _⟩ => ⟨S8x257, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i32⟩
  | .hbm, ⟨6, _⟩ => ⟨S768, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S_, .i32⟩
  | .hbm, ⟨27, _⟩ => ⟨S768, .i32⟩
  | .hbm, ⟨28, _⟩ => ⟨S768, .i32⟩
  | .hbm, ⟨29, _⟩ => ⟨S768, .i32⟩
  | .hbm, ⟨30, _⟩ => ⟨S_, .i32⟩
  | .hbm, ⟨31, _⟩ => ⟨S768, .i32⟩
  | .hbm, ⟨32, _⟩ => ⟨S768, .i1⟩
  | .hbm, ⟨33, _⟩ => ⟨S768, .i32⟩
  | .hbm, ⟨34, _⟩ => ⟨S768, .i32⟩
  | .hbm, ⟨35, _⟩ => ⟨S_, .i32⟩
  | .hbm, ⟨36, _⟩ => ⟨S768, .i32⟩
  | .hbm, ⟨37, _⟩ => ⟨S768, .i1⟩
  | .hbm, ⟨38, _⟩ => ⟨S768, .i1⟩
  | .hbm, ⟨39, _⟩ => ⟨S_, .i32⟩
  | .hbm, ⟨40, _⟩ => ⟨S768, .i32⟩
  | .hbm, ⟨41, _⟩ => ⟨S768, .i32⟩
  | .hbm, ⟨42, _⟩ => ⟨S768, .i32⟩
  | .hbm, ⟨43, _⟩ => ⟨S1x768, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x768, .i32⟩
  | .hbm, ⟨49, _⟩ => ⟨S256x768, .i32⟩
  | .hbm, ⟨50, _⟩ => ⟨S256x768, .i1⟩
  | .hbm, ⟨51, _⟩ => ⟨S1x768, .i32⟩
  | .hbm, ⟨52, _⟩ => ⟨S256x1, .i32⟩
  | .hbm, ⟨53, _⟩ => ⟨S256x768, .i32⟩
  | .hbm, ⟨54, _⟩ => ⟨S256x768, .i32⟩
  | .hbm, ⟨55, _⟩ => ⟨S256x768, .i1⟩
  | .hbm, ⟨56, _⟩ => ⟨S256x768, .i1⟩
  | .hbm, ⟨57, _⟩ => ⟨S1x256x768, .i1⟩
  | .hbm, ⟨58, _⟩ => ⟨S1024, .i32⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i32⟩
  | .hbm, ⟨86, _⟩ => ⟨S1024, .i32⟩
  | .hbm, ⟨87, _⟩ => ⟨S1024x1, .i32⟩
  | .hbm, ⟨88, _⟩ => ⟨S8x1024, .f32⟩
  | .hbm, ⟨89, _⟩ => ⟨S8x1x1024, .f32⟩
  | .hbm, ⟨90, _⟩ => ⟨S8x256x1024, .f32⟩
  | .hbm, ⟨91, _⟩ => ⟨S8x262144, .f32⟩
  | .hbm, ⟨92, _⟩ => ⟨S8x261888, .f32⟩
  | .hbm, ⟨93, _⟩ => ⟨S8x256x1023, .f32⟩
  | .hbm, ⟨94, _⟩ => ⟨S8x256x768, .f32⟩
  | .hbm, ⟨95, _⟩ => ⟨S_, .f32⟩
  | .hbm, ⟨96, _⟩ => ⟨S_, .f32⟩
  | .hbm, ⟨97, _⟩ => ⟨S8x256x768, .i1⟩
  | .hbm, ⟨98, _⟩ => ⟨S8x256x768, .f32⟩
  | .hbm, ⟨99, _⟩ => ⟨S8x256x768, .f32⟩
  | .hbm, ⟨100, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S256x512, .bf16⟩
  | .local _ .vmem, ⟨16, _⟩ => ⟨S256x512, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_c_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_c_2 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_3 : Ref sig .tc := ⟨.hbm, 59, rfl⟩
abbrev main_v21 : Ref sig .tc := ⟨.hbm, 60, rfl⟩
abbrev main_v22 : Ref sig .tc := ⟨.hbm, 61, rfl⟩
abbrev main_c_4 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_5 : Ref sig .tc := ⟨.hbm, 66, rfl⟩
abbrev main_v26 : Ref sig .tc := ⟨.hbm, 67, rfl⟩
abbrev main_v27 : Ref sig .tc := ⟨.hbm, 68, rfl⟩
abbrev main_c_6 : Ref sig .tc := ⟨.hbm, 69, rfl⟩
abbrev main_c_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v28 : Ref sig .tc := ⟨.hbm, 76, rfl⟩
abbrev main_c_8 : Ref sig .tc := ⟨.hbm, 77, rfl⟩
abbrev main_v29 : Ref sig .tc := ⟨.hbm, 78, rfl⟩
abbrev main_v30 : Ref sig .tc := ⟨.hbm, 79, rfl⟩
abbrev main_c_9 : Ref sig .tc := ⟨.hbm, 80, rfl⟩
abbrev main_v31 : Ref sig .tc := ⟨.hbm, 81, rfl⟩
abbrev main_v32 : Ref sig .tc := ⟨.hbm, 82, rfl⟩
abbrev main_c_10 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v44 : Ref sig .tc := ⟨.hbm, 99, rfl⟩
abbrev main_v45 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c4_i32 : BitVec 32 := 4#32
  let c0_i32_1 : BitVec 32 := 0#32
  ![v1.toNat, c4_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c5_i32 : BitVec 32 := 5#32
  let c0_i32_1 : BitVec 32 := 0#32
  ![v1.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
variable {F : FTy → Type} [FloatOps F] [Named F]
def κ : String → Option EReal := fun
  | "mask" => some ⊥
  | _ => none
-- ==== Reference7Ideal.lean ====
abbrev S16384x3584 : Shape := ⟨2, ![16384, 3584]⟩
abbrev S8x257 : Shape := ⟨2, ![8, 257]⟩
abbrev S16384x512 : Shape := ⟨2, ![16384, 512]⟩
abbrev S16384x8x64 : Shape := ⟨3, ![16384, 8, 64]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S16384x16384x1 : Shape := ⟨3, ![16384, 16384, 1]⟩
abbrev S8x16384x16384 : Shape := ⟨3, ![8, 16384, 16384]⟩
abbrev S256x64 : Shape := ⟨2, ![256, 64]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩

abbrev nBuf : Space → Nat
  | .hbm => 79
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S8x257, .f32⟩
  | .hbm, ⟨2, _⟩ => ⟨S16384x512, .bf16⟩
  | .hbm, ⟨3, _⟩ => ⟨S16384x512, .f32⟩
  | .hbm, ⟨4, _⟩ => ⟨S16384x8x64, .f32⟩
  | .hbm, ⟨5, _⟩ => ⟨S16384x512, .bf16⟩
  | .hbm, ⟨6, _⟩ => ⟨S16384x512, .f32⟩
  | .hbm, ⟨7, _⟩ => ⟨S16384x8x64, .f32⟩
  | .hbm, ⟨8, _⟩ => ⟨S16384x512, .bf16⟩
  | .hbm, ⟨9, _⟩ => ⟨S16384x512, .f32⟩
  | .hbm, ⟨10, _⟩ => ⟨S16384x8x64, .f32⟩
  | .hbm, ⟨11, _⟩ => ⟨S16384, .i32⟩
  | .hbm, ⟨12, _⟩ => ⟨S16384x1, .i32⟩
  | .hbm, ⟨13, _⟩ => ⟨S1x16384, .i32⟩
  | .hbm, ⟨14, _⟩ => ⟨S16384x16384, .i32⟩
  | .hbm, ⟨15, _⟩ => ⟨S16384x16384, .i32⟩
  | .hbm, ⟨16, _⟩ => ⟨S16384x16384, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16384x16384, .i32⟩
  | .hbm, ⟨21, _⟩ => ⟨S16384x16384, .i32⟩
  | .hbm, ⟨22, _⟩ => ⟨S_, .i32⟩
  | .hbm, ⟨23, _⟩ => ⟨S16384x16384, .i32⟩
  | .hbm, ⟨24, _⟩ => ⟨S16384x16384, .i32⟩
  | .hbm, ⟨25, _⟩ => ⟨S_, .i32⟩
  | .hbm, ⟨26, _⟩ => ⟨S16384x16384, .i32⟩
  | .hbm, ⟨27, _⟩ => ⟨S16384x16384, .i32⟩
  | .hbm, ⟨28, _⟩ => ⟨S_, .i32⟩
  | .hbm, ⟨29, _⟩ => ⟨S16384x16384, .i32⟩
  | .hbm, ⟨30, _⟩ => ⟨S16384x16384, .i1⟩
  | .hbm, ⟨31, _⟩ => ⟨S_, .i32⟩
  | .hbm, ⟨32, _⟩ => ⟨S16384x16384, .i32⟩
  | .hbm, ⟨33, _⟩ => ⟨S16384x16384, .i32⟩
  | .hbm, ⟨34, _⟩ => ⟨S16384x16384, .i32⟩
  | .hbm, ⟨35, _⟩ => ⟨S16384x16384x1, .i32⟩
  | .hbm, ⟨36, _⟩ => ⟨S8x16384x16384, .f32⟩
  | .hbm, ⟨37, _⟩ => ⟨S256x64, .i32⟩
  | .hbm, ⟨38, _⟩ => ⟨S16384, .i32⟩
  | .hbm, ⟨39, _⟩ => ⟨S1x16384, .i32⟩
  | .hbm, ⟨40, _⟩ => ⟨S16384x1, .i32⟩
  | .hbm, ⟨41, _⟩ => ⟨S_, .i32⟩
  | .hbm, ⟨42, _⟩ => ⟨S16384x1, .i32⟩
  | .hbm, ⟨43, _⟩ => ⟨S16384x1, .i32⟩
  | .hbm, ⟨44, _⟩ => ⟨S16384x16384, .i32⟩
  | .hbm, ⟨45, _⟩ => ⟨S16384x16384, .i32⟩
  | .hbm, ⟨46, _⟩ => ⟨S16384x16384, .i1⟩
  | .hbm, ⟨47, _⟩ => ⟨S1x16384, .i32⟩
  | .hbm, ⟨48, _⟩ => ⟨S16384x1, .i32⟩
  | .hbm, ⟨49, _⟩ => ⟨S16384x16384, .i32⟩
  | .hbm, ⟨50, _⟩ => ⟨S16384x16384, .i32⟩
  | .hbm, ⟨51, _⟩ => ⟨S16384x16384, .i1⟩
  | .hbm, ⟨52, _⟩ => ⟨S16384x16384, .i1⟩
  | .hbm, ⟨53, _⟩ => ⟨S8x16384x16384, .f32⟩
  | .hbm, ⟨54, _⟩ => ⟨S8x16384x16384, .f32⟩
  | .hbm, ⟨55, _⟩ => ⟨S1x16384x16384, .i1⟩
  | .hbm, ⟨56, _⟩ => ⟨S_, .f32⟩
  | .hbm, ⟨57, _⟩ => ⟨S_, .f32⟩
  | .hbm, ⟨58, _⟩ => ⟨S8x16384x16384, .i1⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S_, .f32⟩
  | .hbm, ⟨64, _⟩ => ⟨S8x16384, .f32⟩
  | .hbm, ⟨65, _⟩ => ⟨S8x16384, .f32⟩
  | .hbm, ⟨66, _⟩ => ⟨S8x16384x1, .f32⟩
  | .hbm, ⟨67, _⟩ => ⟨S8x16384x16384, .f32⟩
  | .hbm, ⟨68, _⟩ => ⟨S8x16384x16384, .f32⟩
  | .hbm, ⟨69, _⟩ => ⟨S8x16384x16384, .f32⟩
  | .hbm, ⟨70, _⟩ => ⟨S_, .f32⟩
  | .hbm, ⟨71, _⟩ => ⟨S8x16384, .f32⟩
  | .hbm, ⟨72, _⟩ => ⟨S8x16384x1, .f32⟩
  | .hbm, ⟨73, _⟩ => ⟨S8x16384x16384, .f32⟩
  | .hbm, ⟨74, _⟩ => ⟨S8x16384x16384, .f32⟩
  | .hbm, ⟨75, _⟩ => ⟨S8x64x16384, .f32⟩
  | .hbm, ⟨76, _⟩ => ⟨S16384x8x64, .f32⟩
  | .hbm, ⟨77, _⟩ => ⟨S16384x512, .f32⟩
  | .hbm, ⟨78, _⟩ => ⟨S16384x512, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Sb.Block.lean ====
/-
  One key block's part of the stick-breaking attention, in the kernel's own operations: the scores in base two, the
  logarithm of the not-stopping probabilities, their sums over the later keys, the weights and the weighted values, and
  what the running sums and the running results become. A block of keys or values is read out of the projected rows by
  position, and a pair of heads reads its 128 lanes of the block.
-/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe

variable {F : FTy → Type} [FloatOps F] [Named F]

/-- The named reciprocal of the logarithm of two, and zero. -/
def cLog2e : F .f32 := Named.named κ "log2e" 0x3FB8AA3B#32
def cZero : F .f32 := Scalar.ofBits .f32 0x00000000#32

/-- The scores of a query block against a key block, times `log2 e`. -/
def sbZ (q k : FVec F S256x128 .bf16) : FVec F S256x256 .f32 :=
  mulf (matmul dot_S256x128_S256x128_S256x256_1_1_0_0_n_n none q k (constant S256x256 .f32 0x00000000#32)) (broadcast S256x256 cLog2e)

/-- The base-two softplus of the scores. -/
def sbSp (z : FVec F S256x256 .f32) : FVec F S256x256 .f32 :=
  addf (maximumf z (broadcast S256x256 cZero))
    (mulf (log (addf (broadcast S256x256 (Scalar.ofBits .f32 0x3F800000#32)) (exp2 (subf (broadcast S256x256 cZero) (absf z)))))
      (broadcast S256x256 cLog2e))

/-- The logarithms of the not-stopping probabilities, those of the masked keys replaced by `sel`. -/
def sbL (sel : FVec F S256x256 .f32 → FVec F S256x256 .f32) (z : FVec F S256x256 .f32) : FVec F S256x256 .f32 :=
  sel (subf (broadcast S256x256 cZero) (sbSp z))

/-- The sums of `l` over the keys after each one, in two halves of `l`. -/
def sbTail (u : FVec F S256x256 .bf16) (l : FVec F S256x256 .f32) : FVec F S256x256 .f32 :=
  addf (matmul dot_S256x256_S256x256_S256x256_1_0_0_1_n_n none (truncf .bf16 l bitsLt_bf16_f32) u (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) u (constant S256x256 .f32 0x00000000#32))

/-- The weights of a key block, given the sums `c` over the blocks after it. -/
def sbW (u : FVec F S256x256 .bf16) (sel : FVec F S256x256 .f32 → FVec F S256x256 .f32) (z : FVec F S256x256 .f32) (c : FVec F S256x1 .f32) :
    FVec F S256x256 .f32 :=
  sel (exp2 (addf (addf (subf z (sbSp z)) (sbTail u (sbL sel z))) (broadcastTo S256x256 c broadcasts_S256x1_S256x256)))

/-- The weighted values of a key block. -/
def sbPv (u : FVec F S256x256 .bf16) (sel : FVec F S256x256 .f32 → FVec F S256x256 .f32) (q k v : FVec F S256x128 .bf16) (c : FVec F S256x1 .f32) :
    FVec F S256x128 .f32 :=
  matmul dot_S256x256_S256x128_S256x128_1_0_0_1_n_n none (truncf .bf16 (sbW u sel (sbZ q k) c) bitsLt_bf16_f32) v (constant S256x128 .f32 0x00000000#32)

/-- The running sums after a key block. -/
def sbC (sel : FVec F S256x256 .f32 → FVec F S256x256 .f32) (q k : FVec F S256x128 .bf16) (c : FVec F S256x1 .f32) : FVec F S256x1 .f32 :=
  addf c (shapeCast S256x1 (multiReduction .add [1] S256 (sbL sel (sbZ q k)) 0x00000000#32 reduces_S256x256_S256 (.inl rfl) rfl) shapeCasts_S256_S256x1)

/-- The largest running sum of one head, and of all eight. -/
def sbMax (c : FVec F S256x1 .f32) : F .f32 :=
  extractAt ![0, 0, 0] (shapeCast S1x1x1 (multiReduction .maximumf [1, 2] S1 (shapeCast S1x256x1 c shapeCasts_S256x1_S1x256x1) 0xFF800000#32 reduces_S1x256x1_S1 (.inl rfl) rfl) shapeCasts_S1_S1x1x1) inpos_S1x1x1_p0_0_0

def sbMax8 (cs : Fin 8 → FVec F S256x1 .f32) : F .f32 :=
  Scalar.maximumf (Scalar.maximumf (Scalar.maximumf (Scalar.maximumf (Scalar.maximumf (Scalar.maximumf (Scalar.maximumf
    (sbMax (cs 0)) (sbMax (cs 1))) (sbMax (cs 2))) (sbMax (cs 3))) (sbMax (cs 4))) (sbMax (cs 5))) (sbMax (cs 6))) (sbMax (cs 7))

/-- Whether any query still has weight to give: the loop's flag. -/
def sbLive (cs : Fin 8 → FVec F S256x1 .f32) : BitVec 32 :=
  Scalar.extui (Scalar.cmpf .ogt (sbMax8 cs) (Named.named κ "stop" 0xC3160A50#32))

/-- The block of 256 rows number `b` and 512 columns from `x` of the projected rows. -/
def blk (f : S16384x3584.Idx → F .bf16) (b x : ℕ) : FVec F S256x512 .bf16 := fun j =>
  f fun a => match a with
    | ⟨0, _⟩ => ⟨(256 * b + (j 0).val) % 16384, Nat.mod_lt _ (by decide)⟩
    | ⟨1, _⟩ => ⟨(x + (j 1).val) % 3584, Nat.mod_lt _ (by decide)⟩

/-- The 128 lanes of pair `p` of a block. -/
def lane (d : FVec F S256x512 .bf16) (p : ℕ) : FVec F S256x128 .bf16 := fun j =>
  d fun a => match a with
    | ⟨0, _⟩ => j 0
    | ⟨1, _⟩ => ⟨(128 * p + (j 1).val) % 512, Nat.mod_lt _ (by decide)⟩

/-- One trip of the loop over the earlier key blocks, at block `b`. -/
def tripC (f : S16384x3584.Idx → F .bf16) (b : ℕ) (qs : Fin 8 → FVec F S256x128 .bf16) (cs : Fin 8 → FVec F S256x1 .f32) : Fin 8 → FVec F S256x1 .f32 :=
  fun h => sbC id (qs h) (lane (blk f b 512) (h.val / 2)) (cs h)

def tripA (f : S16384x3584.Idx → F .bf16) (b : ℕ) (u : FVec F S256x256 .bf16) (qs : Fin 8 → FVec F S256x128 .bf16) (cs : Fin 8 → FVec F S256x1 .f32)
    (rs : Fin 8 → FVec F S256x128 .f32) : Fin 8 → FVec F S256x128 .f32 :=
  fun h => addf (rs h) (sbPv u id (qs h) (lane (blk f b 512) (h.val / 2)) (lane (blk f b 1024) (h.val / 2)) (cs h))

/-- The results after at most `n` more trips, the next one at block `n - 1`. -/
def loopA (f : S16384x3584.Idx → F .bf16) (u : FVec F S256x256 .bf16) (qs : Fin 8 → FVec F S256x128 .bf16) :
    ℕ → BitVec 32 → (Fin 8 → FVec F S256x1 .f32) → (Fin 8 → FVec F S256x128 .f32) → Fin 8 → FVec F S256x128 .f32
  | 0, _, _, rs => rs
  | n + 1, l, cs, rs =>
    if Scalar.cmpi .sgt l 0#32 = 1#1 then loopA f u qs n (sbLive (tripC f n qs cs)) (tripC f n qs cs) (tripA f n u qs cs rs) else rs

end Cert.KernelIdeal.Hand

end
-- ==== Proof.Sb.Loop.lean ====
/-
  The stick-breaking kernel's loop over the earlier key blocks: from the two scratch blocks, the two transfer cells and
  the projected rows it returns them as they were, the results being those of `loopA`, by induction on the blocks left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Sb.Block
public import Idealize.ShloMosaic.Lib.Pipeline.Frame
public import Idealize.ShloMosaic.Lib.Pipeline.FrameBody
public import Idealize.ShloMosaic.Lib.Transfers
public import Idealize.ShloMosaic.Lib.ReshapeSlab
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

abbrev kM : Memref sig .tc .vmem S256x512 .bf16 := Memref.whole cc0_scratch0
abbrev vM : Memref sig .tc .vmem S256x512 .bf16 := Memref.whole cc0_scratch1
abbrev xM : Memref sig .tc .hbm S16384x3584 .bf16 := Memref.whole main_arg0

abbrev hbPt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

abbrev 𝒱₀ : Variants := Variants.nat

theorem coord0 (i : grid0.Coords) : (i 0).val = 0 := by have := (i 0).isLt; change _ < 1 at this; omega

theorem off1_eq (i : grid0.Coords) (b x : ℕ) (hb : b < 64) (hx : x < 3584) :
    k0_off1 i (BitVec.ofNat 32 b) (BitVec.ofNat 32 x) = ![256 * b, x] := by
  unfold k0_off1
  rw [coord0]
  simp only [Scalar.muli, Scalar.addi, IntOp.muli, IntOp.addi]
  funext a
  fin_cases a <;> simp <;> omega

theorem chk_of_lt (i : grid0.Coords) (b : ℕ) (hb : b < 64) : k0_chk1 i (BitVec.ofNat 32 b) := by
  refine ⟨?_, ?_, ?_⟩
  · simp only [k0_mult1, Scalar.muli, IntOp.muli]; simp; omega
  · intro r a
    rw [off1_eq i b _ hb (by have := r.isLt; omega)]
    have := r.isLt
    fin_cases a <;> simp <;> omega
  · intro r hinb
    refine .inl (.inr ⟨by decide, rfl, .inl ⟨?_, ⟨128, rfl⟩⟩⟩)
    show 2 ∣ k0_off1 i (BitVec.ofNat 32 b) (BitVec.ofNat 32 (512 + 512 * r.val)) 0
    rw [off1_eq i b _ hb (by have := r.isLt; omega)]
    exact ⟨128 * b, by show 256 * b = _; omega⟩

theorem src_disjoint (i : grid0.Coords) (b : ℕ) (hb : b < 64) (h0 h1) :
    Disjoint (xM.slice (Rect.unit (s := S16384x3584) (k0_off1 i (BitVec.ofNat 32 b) 1024#32) S256x512.size h1) (fun _ => rfl)).view.set
      (xM.slice (Rect.unit (s := S16384x3584) (k0_off1 i (BitVec.ofNat 32 b) 512#32) S256x512.size h0) (fun _ => rfl)).view.set := by
  refine View.disjoint_slice_of_sep _ _ _ 1 rfl rfl (.inr ?_)
  show k0_off1 i (BitVec.ofNat 32 b) (BitVec.ofNat 32 512) 1 + 512 ≤ k0_off1 i (BitVec.ofNat 32 b) (BitVec.ofNat 32 1024) 1
  rw [off1_eq i b _ hb (by omega), off1_eq i b _ hb (by omega)]
  simp

theorem and_one {a b : BitVec 1} (h : Scalar.andi a b = 1#1) : a = 1#1 ∧ b = 1#1 := by
  revert a b; decide

/-- The lanes of pair `p` of a buffer just copied into. -/
theorem lane_of_copy (d : FVec F S256x512 .bf16) (M : Memref sig .tc .vmem S256x512 .bf16) (hM : M.IsWhole) (p : ℕ) (hp : p < 4)
    (h : ∀ a, (![0, 128 * p] : Fin 2 → ℕ) a + S256x128.size a ≤ S256x512.size a) :
    M.view.readCov (Val := Elt F) [⟨Rect.whole S256x512, d⟩] (Rect.unit (s := S256x512) ![0, 128 * p] S256x128.size h).toLoadRect = lane d p := by
  rw [View.readCov_eq_canon']
  funext j
  have hw : ∀ y, View.canon (Val := Elt F) (e := .bf16) [⟨Rect.whole S256x512, d⟩] y = d y := fun y => by
    have := View.canon_cons_emb (Val := Elt F) (e := .bf16) (Rect.whole S256x512) d [] y
    refine (congrArg _ (funext fun a => Fin.ext ?_)).trans this
    show (y a).val = 0 + 1 * (y a).val; omega
  rw [hw]
  refine congrArg d (funext fun a => Fin.ext ?_)
  fin_cases a
  · show 0 + 1 * (j 0).val = (j 0).val
    omega
  · show 128 * p + 1 * (j 1).val = (128 * p + (j 1).val) % 512
    have : (j 1).val < 128 := (j 1).isLt
    rw [Nat.mod_eq_of_lt (by omega)]; omega

/-- What the copies carry: the block of the projected rows. -/
theorem copy_eq (c : Dev nD) (i : grid0.Coords) (f : Buf (Elt F) (xM.view.loc (c : Thread nD τ))) (b x : ℕ) (hb : b < 64) (hx : x + 512 ≤ 3584) (h h') :
    ReadAs.same.apply (View.read (Elt F) (xM.slice (Rect.unit (s := S16384x3584) (k0_off1 i (BitVec.ofNat 32 b) (BitVec.ofNat 32 x)) S256x512.size h) h').view f)
      = blk f b x := by
  funext j
  show f ((Rect.unit (s := S16384x3584) (k0_off1 i (BitVec.ofNat 32 b) (BitVec.ofNat 32 x)) S256x512.size h).emb j) = _
  refine congrArg f (funext fun a => Fin.ext ?_)
  have h0 : (j 0).val < 256 := (j 0).isLt
  have h1 : (j 1).val < 512 := (j 1).isLt
  have e0 : k0_off1 i (BitVec.ofNat 32 b) (BitVec.ofNat 32 x) 0 = 256 * b := by rw [off1_eq i b x hb (by omega)]; rfl
  have e1 : k0_off1 i (BitVec.ofNat 32 b) (BitVec.ofNat 32 x) 1 = x := by rw [off1_eq i b x hb (by omega)]; rfl
  fin_cases a
  · show k0_off1 i (BitVec.ofNat 32 b) (BitVec.ofNat 32 x) 0 + 1 * (j 0).val = (256 * b + (j 0).val) % 16384
    rw [e0, Nat.mod_eq_of_lt (by omega)]; omega
  · show k0_off1 i (BitVec.ofNat 32 b) (BitVec.ofNat 32 x) 1 + 1 * (j 1).val = (x + (j 1).val) % 3584
    rw [e1, Nat.mod_eq_of_lt (by omega)]; omega

/-- So a load after the copies reads the pair's lanes of the block. -/
theorem lane_copy (c : Dev nD) (i : grid0.Coords) (f : Buf (Elt F) (xM.view.loc (c : Thread nD τ))) (b x p : ℕ) (hb : b < 64) (hx : x + 512 ≤ 3584) (hp : p < 4) (h h') (hr)
    (M : Memref sig .tc .vmem S256x512 .bf16) (hM : M.IsWhole) :
    lane (blk f b x) p = M.view.readCov (Val := Elt F) [⟨Rect.whole S256x512,
        ReadAs.same.apply (View.read (Elt F) (xM.slice (Rect.unit (s := S16384x3584) (k0_off1 i (BitVec.ofNat 32 b) (BitVec.ofNat 32 x)) S256x512.size h) h').view f)⟩]
        (Rect.unit (s := S256x512) ![0, 128 * p] S256x128.size hr).toLoadRect := by
  rw [copy_eq c i f b x hb hx h h', lane_of_copy _ M hM p hp]

theorem lane_inb (p : ℕ) (hp : p < 4) : ∀ a, (![0, 128 * p] : Fin 2 → ℕ) a + S256x128.size a ≤ S256x512.size a := by
  intro a; fin_cases a
  · show 0 + 256 ≤ 256; omega
  · show 128 * p + 128 ≤ 512; omega

theorem loopA_congr {f : S16384x3584.Idx → F .bf16} {u : FVec F S256x256 .bf16} {qs : Fin 8 → FVec F S256x128 .bf16} {n : ℕ} {l : BitVec 32}
    {C C' : Fin 8 → FVec F S256x1 .f32} {R R' : Fin 8 → FVec F S256x128 .f32} (hC : C = C') (hl : l = sbLive C) (hR : R = R') :
    loopA f u qs n l C R = loopA f u qs n (sbLive C') C' R' := by subst hC hl hR; rfl

/-- The buffers and cells the loop works in: the two scratch blocks at some contents, the two transfer cells at zero, the
    projected rows at their contents, nothing owed. -/
def held (c : Dev nD) (q : PosShare TreeShare) (f : Buf (Elt F) (xM.view.loc (c : Thread nD τ))) : sProp 𝕄 :=
  iprop((∃ d, owns (c : Thread nD τ) kM fullShare d) ∗ (∃ d, owns (c : Thread nD τ) vM fullShare d)
        ∗ semVal ((c : Thread nD τ), SemLoc.dma 12) 0 ∗ semVal ((c : Thread nD τ), SemLoc.dma 13) 0 ∗ hbPt c xM q f
        ∗ ∃ W, owes (c : Thread nD τ) 0 W)

/-- The tuple the loop's label returns. -/
abbrev Res (F : FTy → Type) : Type := BitVec 32 × BitVec 32 × FVec F S256x1 .f32 × FVec F S256x1 .f32 × FVec F S256x1 .f32 × FVec F S256x1 .f32 × FVec F S256x1 .f32 × FVec F S256x1 .f32 × FVec F S256x1 .f32 × FVec F S256x1 .f32 × FVec F S256x128 .f32 × FVec F S256x128 .f32 × FVec F S256x128 .f32 × FVec F S256x128 .f32 × FVec F S256x128 .f32 × FVec F S256x128 .f32 × FVec F S256x128 .f32 × FVec F S256x128 .f32

/-- The results in it. -/
def Res.acc (r : Res F) : Fin 8 → FVec F S256x128 .f32 := match r with
  | (_, _, _, _, _, _, _, _, _, _, r0, r1, r2, r3, r4, r5, r6, r7) => ![r0, r1, r2, r3, r4, r5, r6, r7]

/-- The label's specification: from the buffers, it returns them and the results after the trips. -/
def spec (c : Dev nD) (q : PosShare TreeShare) (f : Buf (Elt F) (xM.view.loc (c : Thread nD τ))) (u : FVec F S256x256 .bf16)
    (qs : Fin 8 → FVec F S256x128 .bf16) (n : ℕ) (l : BitVec 32) (cs : Fin 8 → FVec F S256x1 .f32) (rs : Fin 8 → FVec F S256x128 .f32) : sWPT 𝕄 (Res F) := do
  sWPT.consume (held c q f)
  let r ← sWPT.arbitrary
  sWPT.assume (r.acc = loopA f u qs n l cs rs)
  sWPT.produce (held c q f)
  pure r

theorem spec_apply (c : Dev nD) (q : PosShare TreeShare) (f : Buf (Elt F) (xM.view.loc (c : Thread nD τ))) (u : FVec F S256x256 .bf16)
    (qs : Fin 8 → FVec F S256x128 .bf16) (n : ℕ) (l : BitVec 32) (cs : Fin 8 → FVec F S256x1 .f32) (rs : Fin 8 → FVec F S256x128 .f32) (K : Res F → sProp 𝕄) :
    spec c q f u qs n l cs rs K
      = iprop(held c q f ∗ ∀ r : Res F, ⌜r.acc = loopA f u qs n l cs rs⌝ -∗ (held c q f -∗ K r)) := rfl

/-- A counter that says how many trips are left at most: below zero at none, else the next block's number. -/
def Left (b : BitVec 32) : ℕ → Prop
  | 0 => Scalar.cmpi .sge b 0#32 ≠ 1#1
  | n + 1 => b = BitVec.ofNat 32 n

theorem left_pred (n : ℕ) : Left (Scalar.subi (BitVec.ofNat 32 n) 1#32) n := by
  cases n with
  | zero => unfold Left; decide
  | succ n =>
    show Scalar.subi (BitVec.ofNat 32 (n + 1)) 1#32 = BitVec.ofNat 32 n
    simp only [Scalar.subi, IntOp.subi, BitVec.ofNat_add]; exact BitVec.add_sub_cancel _ _

theorem sge_of_lt (n : ℕ) (hn : n < 64) : Scalar.cmpi .sge (BitVec.ofNat 32 n) 0#32 = 1#1 := by
  revert n; decide

theorem spec_le (c : Dev nD) (i : grid0.Coords) (q : PosShare TreeShare) (f : Buf (Elt F) (xM.view.loc (c : Thread nD τ))) (u : FVec F S256x256 .bf16)
    (qs : Fin 8 → FVec F S256x128 .bf16) :
    ∀ n, n ≤ 64 → ∀ (b : BitVec 32), Left b n → ∀ l c0 c1 c2 c3 c4 c5 c6 c7 r0 r1 r2 r3 r4 r5 r6 r7 K,
      spec c q f u qs n l ![c0, c1, c2, c3, c4, c5, c6, c7] ![r0, r1, r2, r3, r4, r5, r6, r7] K
      ⊢ wp frame (wpE (defs₀ (F := F)) 𝒱₀ (c : Thread nD τ) (some n)) Set.univ
          (defs₀ (F := F) .tc 1 ⟨i, cc0_scratch2, xM, Memref.isWhole_whole _, kM, Memref.isWhole_whole _, vM, Memref.isWhole_whole _,
            qs 0, u, qs 1, qs 2, qs 3, qs 4, qs 5, qs 6, qs 7, b, l, c0, c1, c2, c3, c4, c5, c6, c7, r0, r1, r2, r3, r4, r5, r6, r7⟩) K := by
  intro n
  induction n with
  | zero =>
    intro _ b hb l c0 c1 c2 c3 c4 c5 c6 c7 r0 r1 r2 r3 r4 r5 r6 r7 K
    rw [spec_apply]
    show _ ⊢ wp frame (wpE (defs₀ (F := F)) 𝒱₀ (c : Thread nD τ) (some 0)) Set.univ
      (cc0_while1 i cc0_scratch2 xM (Memref.isWhole_whole _) kM (Memref.isWhole_whole _) vM (Memref.isWhole_whole _) (qs 0) u (qs 1) (qs 2) (qs 3) (qs 4) (qs 5) (qs 6) (qs 7) b l c0 c1 c2 c3 c4 c5 c6 c7 r0 r1 r2 r3 r4 r5 r6 r7) K
    have hcond : ¬ Scalar.andi (Scalar.cmpi .sge b 0#32) (Scalar.cmpi .sgt l 0#32) = 1#1 := by
      unfold Left at hb; intro h; exact hb (and_one h).1
    simp only [cc0_while1_eq_skeleton]; unfold cc0_while1_skel
    simp only [hcond, ↓reduceIte, Prog.pure_eq_ret]
    iintro ⟨H, Hk⟩
    rw [wp_ret]; imodintro
    iapply Hk
    · ipureintro; rfl
    · iexact H
  | succ n ih =>
    intro hn b hb l c0 c1 c2 c3 c4 c5 c6 c7 r0 r1 r2 r3 r4 r5 r6 r7 K
    rw [spec_apply]
    show _ ⊢ wp frame (wpE (defs₀ (F := F)) 𝒱₀ (c : Thread nD τ) (some (n + 1))) Set.univ
      (cc0_while1 i cc0_scratch2 xM (Memref.isWhole_whole _) kM (Memref.isWhole_whole _) vM (Memref.isWhole_whole _) (qs 0) u (qs 1) (qs 2) (qs 3) (qs 4) (qs 5) (qs 6) (qs 7) b l c0 c1 c2 c3 c4 c5 c6 c7 r0 r1 r2 r3 r4 r5 r6 r7) K
    have hbe : b = BitVec.ofNat 32 n := hb
    subst hbe
    simp only [cc0_while1_eq_skeleton]; unfold cc0_while1_skel
    by_cases hl : Scalar.cmpi .sgt l 0#32 = 1#1
    · have hcond : Scalar.andi (Scalar.cmpi .sge (BitVec.ofNat 32 n) 0#32) (Scalar.cmpi .sgt l 0#32) = 1#1 := by
        rw [hl, sge_of_lt n (by omega)]; rfl
      have hc := chk_of_lt i n (by omega)
      have hdj := src_disjoint i n (by omega) (k0_off1_inb i _ hc 0) (k0_off1_inb i _ hc 1)
      simp only [hcond, ↓reduceIte]
      unfold held owns
      iintro ⟨⟨⟨%dk, %fk, -, HK⟩, ⟨%dv, %fv, -, HV⟩, Hq0, Hq1, Hh, ⟨%W, HW⟩⟩, Hk⟩
      sl_exec
      iapply (wp_call_spec 𝒱₀ (c : Thread nD τ) (some (n + 1)) Set.univ _ n
        (fun u hu => by cases hu; exact Nat.lt_succ_self n) (ih (by omega) _ (left_pred n) _ _ _ _ _ _ _ _ _ _ _ _ _ _ _ _ _))
      rw [spec_apply]; unfold held owns
      isplitl [HK HV Hq0 Hq1 Hh HW]
      · isplitl [HK]
        · iexists _, _; isplitr; swap; · iexact HK
          ipureintro; rfl
        isplitl [HV]
        · iexists _, _; isplitr; swap; · iexact HV
          ipureintro; rfl
        isplitl [Hq0]; · iexact Hq0
        isplitl [Hq1]; · iexact Hq1
        isplitl [Hh]; · iexact Hh
        iexists _; iexact HW
      iintro %r %hr HH
      rw [wp_ret]; imodintro
      iapply Hk
      · ipureintro
        rw [hr]
        show _ = ite _ _ _
        rw [if_pos hl]
        have hk : ∀ h : Fin 8, lane (blk f n 512) (h.val / 2) = _ := fun h =>
          lane_copy c i f n 512 (h.val / 2) (by omega) (by omega) (by omega) (k0_off1_inb i _ hc 0) (fun _ => rfl) (lane_inb _ (by omega)) kM (Memref.isWhole_whole _)
        have hv : ∀ h : Fin 8, lane (blk f n 1024) (h.val / 2) = _ := fun h =>
          lane_copy c i f n 1024 (h.val / 2) (by omega) (by omega) (by omega) (k0_off1_inb i _ hc 1) (fun _ => rfl) (lane_inb _ (by omega)) vM (Memref.isWhole_whole _)
        refine loopA_congr ?_ rfl ?_
        · funext h
          unfold tripC
          rw [hk h]
          fin_cases h <;> rfl
        · funext h
          unfold tripA
          rw [hk h, hv h]
          fin_cases h <;> rfl
      · iexact HH
    · have hcond : ¬ Scalar.andi (Scalar.cmpi .sge (BitVec.ofNat 32 n) 0#32) (Scalar.cmpi .sgt l 0#32) = 1#1 := by
        intro h; exact hl (and_one h).2
      simp only [hcond, ↓reduceIte, Prog.pure_eq_ret]
      iintro ⟨H, Hk⟩
      rw [wp_ret]; imodintro
      iapply Hk
      · ipureintro
        show _ = ite _ _ _
        rw [if_neg hl]; rfl
      · iexact H

/-- The same with the eight masked queries one by one. -/
theorem spec_le' (c : Dev nD) (i : grid0.Coords) (q : PosShare TreeShare) (f : Buf (Elt F) (xM.view.loc (c : Thread nD τ))) (n : ℕ) (hn : n ≤ 64)
    (b : BitVec 32) (hb : Left b n) (u : FVec F S256x256 .bf16) (q0 q1 q2 q3 q4 q5 q6 q7 : FVec F S256x128 .bf16) (l c0 c1 c2 c3 c4 c5 c6 c7 r0 r1 r2 r3 r4 r5 r6 r7) (K) :
      spec c q f u ![q0, q1, q2, q3, q4, q5, q6, q7] n l ![c0, c1, c2, c3, c4, c5, c6, c7] ![r0, r1, r2, r3, r4, r5, r6, r7] K
      ⊢ wp frame (wpE (defs₀ (F := F)) 𝒱₀ (c : Thread nD τ) (some n)) Set.univ
          (defs₀ (F := F) .tc 1 ⟨i, cc0_scratch2, xM, Memref.isWhole_whole _, kM, Memref.isWhole_whole _, vM, Memref.isWhole_whole _,
            q0, u, q1, q2, q3, q4, q5, q6, q7, b, l, c0, c1, c2, c3, c4, c5, c6, c7, r0, r1, r2, r3, r4, r5, r6, r7⟩) K :=
  spec_le c i q f u ![q0, q1, q2, q3, q4, q5, q6, q7] n hn b hb l c0 c1 c2 c3 c4 c5 c6 c7 r0 r1 r2 r3 r4 r5 r6 r7 K

end Cert.KernelIdeal.Hand

end
-- ==== Proof.Sb.Body.lean ====
/-
  The stick-breaking kernel's body, run once: from the staged query block, the two key and value blocks at and before it
  and the projected rows, it leaves the weighted values of the query block in the result's staging buffer, named by
  `sbOut`, and everything else as it was.
-/
module

public import proofs.«01_k».proof.Proof.Sb.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-! ## What the body leaves -/

/-- The keys earlier than the query inside the diagonal block, and the sum's triangle. -/
abbrev causal : IVec S256x256 1 := k0_pay13
abbrev tri : FVec F S256x256 .bf16 := k0_pay14

/-- The mask of the diagonal block, and of the block before it, which the first query block has not. -/
def selD (x : FVec F S256x256 .f32) : FVec F S256x256 .f32 := select causal x (broadcast S256x256 cZero)
def selP (n : ℕ) (x : FVec F S256x256 .f32) : FVec F S256x256 .f32 :=
  Scalar.select (Scalar.cmpi .sgt (BitVec.ofNat 32 n) 0#32) x (broadcast S256x256 cZero)

/-- The queries of head `h`, the other head of the pair replaced by zero. -/
def qHead (d : FVec F S256x512 .bf16) (h : Fin 8) : FVec F S256x128 .bf16 :=
  if h.val % 2 = 0 then select k0_pay12 (lane d (h.val / 2)) (broadcast S256x128 (Scalar.ofBits .bf16 0x0000#16))
  else select k0_pay12 (broadcast S256x128 (Scalar.ofBits .bf16 0x0000#16)) (lane d (h.val / 2))

/-- The sums and the results after the diagonal block and the one before it. -/
def c1 (d2 d3 : FVec F S256x512 .bf16) (h : Fin 8) : FVec F S256x1 .f32 :=
  sbC selD (qHead d2 h) (lane d3 (h.val / 2)) (broadcast S256x1 cZero)
def c2 (n : ℕ) (d2 d3 d5 : FVec F S256x512 .bf16) (h : Fin 8) : FVec F S256x1 .f32 :=
  sbC (selP n) (qHead d2 h) (lane d5 (h.val / 2)) (c1 d2 d3 h)
def a2 (n : ℕ) (d2 d3 d4 d5 d6 : FVec F S256x512 .bf16) (h : Fin 8) : FVec F S256x128 .f32 :=
  addf (sbPv tri selD (qHead d2 h) (lane d3 (h.val / 2)) (lane d4 (h.val / 2)) (broadcast S256x1 cZero))
    (sbPv tri (selP n) (qHead d2 h) (lane d5 (h.val / 2)) (lane d6 (h.val / 2)) (c1 d2 d3 h))

/-- The results of the eight heads after the loop. -/
def sbAcc (f : S16384x3584.Idx → F .bf16) (n : ℕ) (d2 d3 d4 d5 d6 : FVec F S256x512 .bf16) : Fin 8 → FVec F S256x128 .f32 :=
  loopA f tri (qHead d2) (n - 1) (sbLive (c2 n d2 d3 d5)) (c2 n d2 d3 d5) (a2 n d2 d3 d4 d5 d6)

/-- The two heads of a pair, side by side. -/
def sbPair (acc : Fin 8 → FVec F S256x128 .f32) (p : Fin 4) : FVec F S256x128 .bf16 :=
  truncf .bf16 (select k0_pay12 (acc ⟨2 * p.val, by omega⟩) (acc ⟨2 * p.val + 1, by omega⟩)) bitsLt_bf16_f32

/-- The result's block. -/
def sbOut (acc : Fin 8 → FVec F S256x128 .f32) : FVec F S256x512 .bf16 := fun j =>
  have h : (j 1).val < 512 := (j 1).isLt
  sbPair acc ⟨(j 1).val / 128, by omega⟩ fun a => match a with
    | ⟨0, _⟩ => j 0
    | ⟨1, _⟩ => ⟨(j 1).val % 128, Nat.mod_lt _ (by decide)⟩

/-- A load of a pair's lanes of a staged block. -/
theorem lane_read (M : Memref sig .tc .vmem S256x512 .bf16) (f : M.view.ty.Contents (Elt F)) (p : ℕ) (hp : p < 4)
    (h : ∀ a, (![0, 128 * p] : Fin 2 → ℕ) a + S256x128.size a ≤ S256x512.size a) :
    lane (M.view.read (Elt F) f) p = M.view.readAt (Elt F) (Rect.unit (s := S256x512) ![0, 128 * p] S256x128.size h).toLoadRect f := by
  funext j
  rw [View.readAt_apply]
  refine congrArg (View.read (Elt F) M.view f) (funext fun a => Fin.ext ?_)
  fin_cases a
  · show (j 0).val = 0 + 1 * (j 0).val
    omega
  · show (128 * p + (j 1).val) % 512 = 128 * p + 1 * (j 1).val
    have : (j 1).val < 128 := (j 1).isLt
    rw [Nat.mod_eq_of_lt (by omega)]; omega

/-- A piece of the result's block is its pair. -/
theorem sbOut_emb (acc : Fin 8 → FVec F S256x128 .f32) (p : Fin 4) (h : ∀ a, (![0, 128 * p.val] : Fin 2 → ℕ) a + S256x128.size a ≤ S256x512.size a)
    (x : S256x128.Idx) : sbPair acc p x = sbOut acc ((Rect.unit (s := S256x512) ![0, 128 * p.val] S256x128.size h).emb x) := by
  have h1 : (x 1).val < 128 := (x 1).isLt
  have e1 : ((Rect.unit (s := S256x512) ![0, 128 * p.val] S256x128.size h).emb x 1).val = 128 * p.val + 1 * (x 1).val := rfl
  have e0 : ((Rect.unit (s := S256x512) ![0, 128 * p.val] S256x128.size h).emb x 0).val = 0 + 1 * (x 0).val := rfl
  unfold sbOut
  refine congr (congrArg _ (Fin.ext ?_)) (funext fun a => Fin.ext ?_)
  · show p.val = _ / 128
    rw [e1]; omega
  · fin_cases a
    · show (x 0).val = ((Rect.unit (s := S256x512) ![0, 128 * p.val] S256x128.size h).emb x 0).val
      rw [e0]; omega
    · show (x 1).val = _ % 128
      rw [e1]; omega

/-- The four stores leave the result's block. -/
theorem read_out (M : Memref sig .tc .vmem S256x512 .bf16) (f : M.view.ty.Contents (Elt F)) (acc : Fin 8 → FVec F S256x128 .f32) :
    M.view.read (Elt F) (M.view.writes (Elt F) f
      [⟨Rect.unit ![0, 384] S256x128.size inb_S256x512_S256x128_0_384, sbPair acc 3⟩,
       ⟨Rect.unit ![0, 256] S256x128.size inb_S256x512_S256x128_0_256, sbPair acc 2⟩,
       ⟨Rect.unit ![0, 128] S256x128.size inb_S256x512_S256x128_0_128, sbPair acc 1⟩,
       ⟨Rect.unit ![0, 0] S256x128.size inb_S256x512_S256x128_0_0, sbPair acc 0⟩]) = sbOut acc := by
  funext y
  refine View.read_writes_apply_of_pieces M.view f (sbOut acc) _ ?_ y ?_
  · intro p hp x
    simp only [List.mem_cons, List.not_mem_nil, or_false] at hp
    rcases hp with rfl | rfl | rfl | rfl
    · exact sbOut_emb acc 3 inb_S256x512_S256x128_0_384 x
    · exact sbOut_emb acc 2 inb_S256x512_S256x128_0_256 x
    · exact sbOut_emb acc 1 inb_S256x512_S256x128_0_128 x
    · exact sbOut_emb acc 0 inb_S256x512_S256x128_0_0 x
  · have h1 : (y 1).val < 512 := (y 1).isLt
    have mem : ∀ (p : ℕ) (h : ∀ a, (![0, 128 * p] : Fin 2 → ℕ) a + S256x128.size a ≤ S256x512.size a), (y 1).val / 128 = p →
        y ∈ (Rect.unit (s := S256x512) ![0, 128 * p] S256x128.size h).set := fun p h e => by
      have h0 : (y 0).val < 256 := (y 0).isLt
      rw [Rect.mem_set_unit]
      intro a
      fin_cases a
      · show 0 ≤ (y 0).val ∧ (y 0).val < 0 + 256
        omega
      · show 128 * p ≤ (y 1).val ∧ (y 1).val < 128 * p + 128
        omega
    have h4 : (y 1).val / 128 < 4 := by omega
    rcases (by omega : (y 1).val / 128 = 3 ∨ (y 1).val / 128 = 2 ∨ (y 1).val / 128 = 1 ∨ (y 1).val / 128 = 0) with e | e | e | e
    · exact ⟨_, List.mem_cons_self, mem 3 inb_S256x512_S256x128_0_384 e⟩
    · exact ⟨_, List.mem_cons_of_mem _ List.mem_cons_self, mem 2 inb_S256x512_S256x128_0_256 e⟩
    · exact ⟨_, List.mem_cons_of_mem _ (List.mem_cons_of_mem _ List.mem_cons_self), mem 1 inb_S256x512_S256x128_0_128 e⟩
    · exact ⟨_, List.mem_cons_of_mem _ (List.mem_cons_of_mem _ (List.mem_cons_of_mem _ List.mem_cons_self)), mem 0 inb_S256x512_S256x128_0_0 e⟩

theorem loopA_start {f : S16384x3584.Idx → F .bf16} {u : FVec F S256x256 .bf16} {Q Q' : Fin 8 → FVec F S256x128 .bf16} {n : ℕ} {l : BitVec 32}
    {C C' : Fin 8 → FVec F S256x1 .f32} {R R' : Fin 8 → FVec F S256x128 .f32} (hQ : Q = Q') (hC : C = C') (hl : l = sbLive C) (hR : R = R') :
    loopA f u Q n l C R = loopA f u Q' n (sbLive C') C' R' := by subst hQ hC hl hR; rfl

theorem left_start (i : grid0.Coords) : Left (Scalar.subi (BitVec.ofNat 32 (i 1).val) 2#32) ((i 1).val - 1) := by
  have h : (i 1).val < 64 := (i 1).isLt
  generalize (i 1).val = n at h
  match n, h with
  | 0, _ => show Scalar.cmpi .sge (Scalar.subi 0#32 2#32) 0#32 ≠ 1#1; decide
  | 1, _ => show Scalar.cmpi .sge (Scalar.subi 1#32 2#32) 0#32 ≠ 1#1; decide
  | n + 2, _ =>
    show Scalar.subi (BitVec.ofNat 32 (n + 2)) 2#32 = BitVec.ofNat 32 n
    simp only [Scalar.subi, IntOp.subi, BitVec.ofNat_add]; exact BitVec.add_sub_cancel _ _

/-- The body's run: the staged blocks and the projected rows as they were, the result's buffer at `sbOut`. -/
theorem kernelRun (c : Dev nD) (i : grid0.Coords) (q : PosShare TreeShare)
    (arg2 arg3 arg4 arg5 arg6 arg8 : Memref sig .tc .vmem S256x512 .bf16) (h2 : arg2.IsWhole) (h3 : arg3.IsWhole) (h4 : arg4.IsWhole) (h5 : arg5.IsWhole) (h6 : arg6.IsWhole) (h8 : arg8.IsWhole)
    (d2 d3 d4 d5 d6 : S256x512.Idx → Elt F .bf16)
    (f : Buf (Elt F) (xM.view.loc (c : Thread nD τ))) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6
        ∗ (∃ d, owns (c : Thread nD τ) arg8 fullShare d) ∗ held c q f
        ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6
            ∗ owns (c : Thread nD τ) arg8 fullShare (sbOut (sbAcc f (i 1).val d2 d3 d4 d5 d6)) ∗ held c q f) -∗ K ⟨⟩))
      ⊢ wp frame (wpE (defs₀ (F := F)) 𝒱₀ (c : Thread nD τ) none) Set.univ
          (cc0_sb_prompt i arg2 h2 arg3 h3 arg4 h4 arg5 h5 arg6 h6 xM (Memref.isWhole_whole _) arg8 h8 kM (Memref.isWhole_whole _) vM (Memref.isWhole_whole _) cc0_scratch2) K := by
  simp only [cc0_sb_prompt_eq_skeleton]; unfold cc0_sb_prompt_skel
  unfold held owns
  iintro ⟨⟨%f2, %e2, H2⟩, ⟨%f3, %e3, H3⟩, ⟨%f4, %e4, H4⟩, ⟨%f5, %e5, H5⟩, ⟨%f6, %e6, H6⟩, ⟨%d8, %f8, -, H8⟩, ⟨⟨%dk, %fk, -, HK⟩, ⟨%dv, %fv, -, HV⟩, Hq0, Hq1, Hh, ⟨%W, HW⟩⟩, Hk⟩
  sl_exec
  iapply (wp_call_spec 𝒱₀ (c : Thread nD τ) none Set.univ _ ((i 1).val - 1) (fun u hu => by cases hu)
    (spec_le' c i q f ((i 1).val - 1) (by have : (i 1).val < 64 := (i 1).isLt; omega) _ (left_start i) _ _ _ _ _ _ _ _ _ _ _ _ _ _ _ _ _ _ _ _ _ _ _ _ _ _))
  rw [spec_apply]; unfold held owns
  isplitl [HK HV Hq0 Hq1 Hh HW]
  · isplitl [HK]
    · iexists _, _; isplitr; swap; · iexact HK
      ipureintro; rfl
    isplitl [HV]
    · iexists _, _; isplitr; swap; · iexact HV
      ipureintro; rfl
    isplitl [Hq0]; · iexact Hq0
    isplitl [Hq1]; · iexact Hq1
    isplitl [Hh]; · iexact Hh
    iexists _; iexact HW
  iintro %r %hr HH
  obtain ⟨t0, t1, t2, t3, t4, t5, t6, t7, t8, t9, s0, s1, s2, s3, s4, s5, s6, s7⟩ := r
  sl_exec
  sl_step
  iapply Hk
  have hacc : sbAcc f (i 1).val d2 d3 d4 d5 d6 = ![s0, s1, s2, s3, s4, s5, s6, s7] := by
    refine Eq.symm ((show ![s0, s1, s2, s3, s4, s5, s6, s7] = _ from hr).trans ?_)
    subst e2 e3 e4 e5 e6
    have hl : ∀ (M : Memref sig .tc .vmem S256x512 .bf16) (f : M.view.ty.Contents (Elt F)) (h : Fin 8), lane (M.view.read (Elt F) f) (h.val / 2) = _ :=
      fun M f h => lane_read M f (h.val / 2) (by omega) (lane_inb _ (by omega))
    refine loopA_start ?_ ?_ rfl ?_
    · funext h
      unfold qHead
      rw [hl]
      fin_cases h <;> rfl
    · funext h
      unfold c2 c1 qHead
      rw [hl, hl, hl]
      fin_cases h <;> rfl
    · funext h
      unfold a2 c1 qHead
      rw [hl, hl, hl, hl, hl]
      fin_cases h <;> rfl
  rw [hacc]
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H8]
  · iexists _; isplitr; swap; · iexact H8
    ipureintro
    exact read_out arg8 f8 ![s0, s1, s2, s3, s4, s5, s6, s7]
  iexact HH

end Cert.KernelIdeal.Hand

end
-- ==== Proof.Sb.Run.lean ====
/- The launch of the attention kernel. Its five input windows and the body's own copies all read one array, so the
   array's full share is dealt in six: one part to each window, the last to the invariant between the points, which the
   body draws on for its copies. The run leaves the array as it was and writes each block of the result as `Body.lean`
   names it. -/
module

public import proofs.«01_k».proof.Proof.Sb.Body
public import Idealize.ShloMosaic.Lib.Pipeline.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (Pipeline.UD sig nD τ) ℕ

abbrev EP : Emb (UR sig nD τ) 𝕄 := embL

variable (m : (ℓ : Loc nD τ sig) → Buf (Elt F) ℓ) (ρ : Dev nD → PrngReg)

/-- The input array on core `c`, as launched. -/
abbrev xIn (c : Dev nD) : Buf (Elt F) (xM.view.loc (c : Thread nD τ)) := m ((c : Thread nD τ).loc main_arg0)

/-- The part of the input's share that reader `i` holds: windows 0 to 4, and the body's copies at 5. -/
def part (i : Fin 6) : PosShare TreeShare := Transfers.dealOf fullShare (Finset.univ : Finset (Fin 6)) i

theorem deal (c : Dev nD) (f : Buf (Elt F) ((c : Thread nD τ).loc main_arg0)) :
    (((c : Thread nD τ).loc main_arg0) ↦{fullShare} f : sProp 𝕄)
      = iprop((((c : Thread nD τ).loc main_arg0) ↦{part 0} f) ∗ (((c : Thread nD τ).loc main_arg0) ↦{part 1} f)
          ∗ (((c : Thread nD τ).loc main_arg0) ↦{part 2} f) ∗ (((c : Thread nD τ).loc main_arg0) ↦{part 3} f)
          ∗ (((c : Thread nD τ).loc main_arg0) ↦{part 4} f) ∗ (((c : Thread nD τ).loc main_arg0) ↦{part 5} f)) := by
  rw [Transfers.pointsTo_deal (Finset.univ : Finset (Fin 6)) Finset.univ_nonempty fullShare, bigSep_W0]
  rfl

/-- The block of the input that window `w` stages at a point. -/
abbrev in0 (c : Dev nD) (t : Fin grid0.N) : FVec F S256x512 .bf16 := (win0_0.blk t).view.read (Elt F) (xIn m c)
abbrev in1 (c : Dev nD) (t : Fin grid0.N) : FVec F S256x512 .bf16 := (win0_1.blk t).view.read (Elt F) (xIn m c)
abbrev in2 (c : Dev nD) (t : Fin grid0.N) : FVec F S256x512 .bf16 := (win0_2.blk t).view.read (Elt F) (xIn m c)
abbrev in3 (c : Dev nD) (t : Fin grid0.N) : FVec F S256x512 .bf16 := (win0_3.blk t).view.read (Elt F) (xIn m c)
abbrev in4 (c : Dev nD) (t : Fin grid0.N) : FVec F S256x512 .bf16 := (win0_4.blk t).view.read (Elt F) (xIn m c)

/-- The block of the result that the body writes at a point. -/
def out5 (c : Dev nD) (t : Fin grid0.N) : FVec F S256x512 .bf16 :=
  sbOut (sbAcc (xIn m c) (grid0.coords t 1).val (in0 m c t) (in1 m c t) (in2 m c t) (in3 m c t) (in4 m c t))

abbrev osem0 : Fin 2 → SemLoc sig := fun j => (![SemLoc.dma 12, SemLoc.dma 13] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl

/-- Between the points: the two scratch blocks at anything, the two cells at zero, the body's part of the input. -/
def inv (c : Dev nD) : sProp 𝕄 :=
  iprop((∃ d, owns (c : Thread nD τ) kM fullShare d) ∗ (∃ d, owns (c : Thread nD τ) vM fullShare d)
    ∗ semVal ((c : Thread nD τ), SemLoc.dma 12) 0 ∗ semVal ((c : Thread nD τ), SemLoc.dma 13) 0 ∗ hbPt c xM (part 5) (xIn m c))

def dats (_ : Fin 1) (c : Dev nD) : Dat τ (Elt F) Unit ℕ (Pipeline.UD sig nD τ) ℕ (cfg0 (F := F)) c where
  A w := m ((c : Thread nD τ).loc (Pipeline.arrRef spec0 w))
  after
    | 0 => fun t => in0 m c t
    | 1 => fun t => in1 m c t
    | 2 => fun t => in2 m c t
    | 3 => fun t => in3 m c t
    | 4 => fun t => in4 m c t
    | 5 => fun t => out5 m c t
  Φ _ := inv m c
  q w := part w
  owed _ := 0

theorem found0 (c : Dev nD) (t : Fin (cfg0 (F := F)).N) (d) : (dats m 0 c).before 0 t d = in0 m c t :=
  (dats m 0 c).before_in_eq_fetched 0 rfl (fun _ => rfl) (fun _ _ _ => rfl) (fun _ => rfl) t d
theorem found1 (c : Dev nD) (t : Fin (cfg0 (F := F)).N) (d) : (dats m 0 c).before 1 t d = in1 m c t :=
  (dats m 0 c).before_in_eq_fetched 1 rfl (fun _ => rfl) (fun _ _ _ => rfl) (fun _ => rfl) t d
theorem found2 (c : Dev nD) (t : Fin (cfg0 (F := F)).N) (d) : (dats m 0 c).before 2 t d = in2 m c t :=
  (dats m 0 c).before_in_eq_fetched 2 rfl (fun _ => rfl) (fun _ _ _ => rfl) (fun _ => rfl) t d
theorem found3 (c : Dev nD) (t : Fin (cfg0 (F := F)).N) (d) : (dats m 0 c).before 3 t d = in3 m c t :=
  (dats m 0 c).before_in_eq_fetched 3 rfl (fun _ => rfl) (fun _ _ _ => rfl) (fun _ => rfl) t d
theorem found4 (c : Dev nD) (t : Fin (cfg0 (F := F)).N) (d) : (dats m 0 c).before 4 t d = in4 m c t :=
  (dats m 0 c).before_in_eq_fetched 4 rfl (fun _ => rfl) (fun _ _ _ => rfl) (fun _ => rfl) t d

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d)))
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare (in0 m c t)
    ∗ owns (c : Thread nD τ) (st0_1 (F := F) t) fullShare (in1 m c t)
    ∗ owns (c : Thread nD τ) (st0_2 (F := F) t) fullShare (in2 m c t)
    ∗ owns (c : Thread nD τ) (st0_3 (F := F) t) fullShare (in3 m c t)
    ∗ owns (c : Thread nD τ) (st0_4 (F := F) t) fullShare (in4 m c t)
    ∗ owns (c : Thread nD τ) (st0_5 (F := F) t) fullShare (out5 m c t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = inv m c from rfl,
    show (dats m 0 c).owesAt () t.succ = (dats m 0 c).owesAt () t.castSucc from rfl,
    show (dats m 0 c).Φ t.castSucc = inv m c from rfl]
  unfold Dat.owesAt Pipeline.owesWithin inv
  rw [show (dats m 0 c).owed t.castSucc = 0 from rfl]
  simp only [found0, found1, found2, found3, found4]
  iintro ⟨⟨Hk, Hv, Hq0, Hq1, Hh⟩, ⟨%W, %hW, HO⟩, ⟨%e0, H0⟩, ⟨%e1, H1⟩, ⟨%e2, H2⟩, ⟨%e3, H3⟩, ⟨%e4, H4⟩, ⟨%e5, H5⟩⟩
  iapply (kernelRun c (grid0.coords t) (part 5) (st0_0 (F := F) t) (st0_1 (F := F) t) (st0_2 (F := F) t) (st0_3 (F := F) t) (st0_4 (F := F) t) (st0_5 (F := F) t)
    _ _ _ _ _ _ (in0 m c t) (in1 m c t) (in2 m c t) (in3 m c t) (in4 m c t) (xIn m c) _)
  unfold held
  isplitl [H0]; · iexact H0
  isplitl [H1]; · iexact H1
  isplitl [H2]; · iexact H2
  isplitl [H3]; · iexact H3
  isplitl [H4]; · iexact H4
  isplitl [H5]; · iexists _; iexact H5
  isplitl [Hk Hv Hq0 Hq1 Hh HO]
  · isplitl [Hk]; · iexact Hk
    isplitl [Hv]; · iexact Hv
    isplitl [Hq0]; · iexact Hq0
    isplitl [Hq1]; · iexact Hq1
    isplitl [Hh]; · iexact Hh
    iexists _; iexact HO
  iintro ⟨H0, H1, H2, H3, H4, H5, Hk, Hv, Hq0, Hq1, Hh, ⟨%W', HO⟩⟩
  isplitl [Hk Hv Hq0 Hq1 Hh]
  · isplitl [Hk]; · iexact Hk
    isplitl [Hv]; · iexact Hv
    isplitl [Hq0]; · iexact Hq0
    isplitl [Hq1]; · iexact Hq1
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

abbrev Lnone : GSem nD τ sig → Finset Unit := fun _ => ∅
abbrev lv : GSem nD τ sig → Unit → ℕ := fun _ _ => 0
abbrev adm : (p : Fin 1) → (pcfgs (F := F) p).Adm := fun p => (cfgs p).toPCfg_adm

/-- The result array once every block is written. -/
def final (c : Dev nD) : Buf (Elt F) ((c : Thread nD τ).loc main_v0) := (dats m 0 c).arrAt 5 (cfg0 (F := F)).N

theorem unscopedBufs_eq (c : Dev nD) :
    (unscopedBufs c (fun b => m ((c : Thread nD τ).loc b)) : sProp 𝕄)
      = iprop((((c : Thread nD τ).loc main_arg0) ↦{fullShare} m ((c : Thread nD τ).loc main_arg0))
          ∗ (((c : Thread nD τ).loc main_v0) ↦{fullShare} m ((c : Thread nD τ).loc main_v0))) := by
  unfold unscopedBufs
  rw [bigSep_eq_bigSepL_of_eq [main_arg0, main_v0] (by decide) (by decide)]; rfl

theorem arrays_eq (c : Dev nD) (A : (w : Fin 6) → Buf (Elt F) ((c : Thread nD τ).loc (Pipeline.arrRef spec0 w))) :
    ((dats m 0 c).arrays A : sProp 𝕄)
      = iprop((((c : Thread nD τ).loc main_arg0) ↦{part 0} A 0) ∗ (((c : Thread nD τ).loc main_arg0) ↦{part 1} A 1)
          ∗ (((c : Thread nD τ).loc main_arg0) ↦{part 2} A 2) ∗ (((c : Thread nD τ).loc main_arg0) ↦{part 3} A 3)
          ∗ (((c : Thread nD τ).loc main_arg0) ↦{part 4} A 4) ∗ (((c : Thread nD τ).loc main_v0) ↦{fullShare} A 5)) := by
  unfold Dat.arrays
  rw [BI.bigSep_congr fun w _ => by rw [(arr_whole0 w).set_eq_univ], bigSep_W0]
  rfl

theorem arrays_last (c : Dev nD) :
    ((dats m 0 c).arrays ((dats m 0 c).arrAt · (cfg0 (F := F)).N) : sProp 𝕄)
      = iprop((((c : Thread nD τ).loc main_arg0) ↦{part 0} xIn m c) ∗ (((c : Thread nD τ).loc main_arg0) ↦{part 1} xIn m c)
          ∗ (((c : Thread nD τ).loc main_arg0) ↦{part 2} xIn m c) ∗ (((c : Thread nD τ).loc main_arg0) ↦{part 3} xIn m c)
          ∗ (((c : Thread nD τ).loc main_arg0) ↦{part 4} xIn m c) ∗ (((c : Thread nD τ).loc main_v0) ↦{fullShare} final m c)) := by
  rw [arrays_eq]
  have h0 : (dats m 0 c).arrAt 0 (cfg0 (F := F)).N = xIn m c := (dats m 0 c).arrAt_in 0 rfl _
  have h1 : (dats m 0 c).arrAt 1 (cfg0 (F := F)).N = xIn m c := (dats m 0 c).arrAt_in 1 rfl _
  have h2 : (dats m 0 c).arrAt 2 (cfg0 (F := F)).N = xIn m c := (dats m 0 c).arrAt_in 2 rfl _
  have h3 : (dats m 0 c).arrAt 3 (cfg0 (F := F)).N = xIn m c := (dats m 0 c).arrAt_in 3 rfl _
  have h4 : (dats m 0 c).arrAt 4 (cfg0 (F := F)).N = xIn m c := (dats m 0 c).arrAt_in 4 rfl _
  beta_reduce
  rw [h0, h1, h2, h3, h4]
  rfl

/-- What the region is entered from and what it leaves. -/
def preR (c : Dev nD) : sProp 𝕄 :=
  iprop(unscopedBufs c (fun b => m ((c : Thread nD τ).loc b)) ∗ ∃ W, owes (c : Thread nD τ) (0 : CellTallies nD τ sig Unit) W)
def endR (c : Dev nD) : sProp 𝕄 :=
  iprop((((c : Thread nD τ).loc main_arg0) ↦{fullShare} m ((c : Thread nD τ).loc main_arg0)) ∗ (((c : Thread nD τ).loc main_v0) ↦{fullShare} final m c))
def rest (c : Dev nD) : sProp 𝕄 := iprop(((c : Thread nD τ).loc main_arg0) ↦{part 5} m ((c : Thread nD τ).loc main_arg0))
abbrev cells0 (c : Dev nD) : sProp 𝕄 :=
  Pipeline.ownSems0 (Ix := Unit) (Name := ℕ) (U := Pipeline.UD sig nD τ) (Lvl := ℕ) (Val := Elt F) (τ := τ) osem0 c
abbrev scr0 (c : Dev nD) : sProp 𝕄 :=
  Pipeline.scopedRest (Ix := Unit) (Name := ℕ) (U := Pipeline.UD sig nD τ) (Lvl := ℕ) (Val := Elt F) spec0 c

theorem entry (c : Dev nD) :
    iprop(preR m c ∗ cells0 c) ⊢ iprop((dats m 0 c).arrays ((dats m 0 c).arrAt · 0) ∗ (dats m 0 c).owesAt () 0 ∗ cells0 c ∗ rest m c) := by
  unfold preR rest
  rw [unscopedBufs_eq, deal, arrays_eq]
  iintro ⟨⟨⟨⟨Ha, Hb, Hc, Hd, He, Hf⟩, Ho⟩, ⟨%W, HO⟩⟩, Hs⟩
  isplitl [Ha Hb Hc Hd He Ho]
  · isplitl [Ha]; · iexact Ha
    isplitl [Hb]; · iexact Hb
    isplitl [Hc]; · iexact Hc
    isplitl [Hd]; · iexact Hd
    isplitl [He]; · iexact He
    iexact Ho
  isplitl [HO]
  · unfold Pipeline.Dat.owesAt Pipeline.owesWithin
    iexists W; isplitr; · ipureintro; exact fun _ _ => Or.inl trivial
    iexact HO
  isplitl [Hs]; · iexact Hs
  iexact Hf

theorem enter (c : Dev nD) : iprop((cells0 c ∗ rest m c) ∗ scr0 c) ⊢ inv m c := by
  unfold inv rest cells0 scr0
  rw [ownSems00_eq, scopedRest0_eq]
  iintro ⟨⟨⟨Hs, Hs'⟩, Hf⟩, ⟨%a, Ha⟩, ⟨%b, Hb⟩⟩
  isplitl [Ha]; · iexists a; rw [owns_whole]; iexact Ha
  isplitl [Hb]; · iexists b; rw [owns_whole]; iexact Hb
  isplitl [Hs]; · iexact Hs
  isplitl [Hs']; · iexact Hs'
  iexact Hf

theorem leave (c : Dev nD) : inv m c ⊢ iprop(rest m c ∗ cells0 c ∗ scr0 c) := by
  unfold inv rest cells0 scr0
  rw [ownSems00_eq, scopedRest0_eq]
  simp only [kM, vM, owns_whole]
  iintro ⟨Ha, Hb, Hs, Hs', Hf⟩
  isplitl [Hf]; · iexact Hf
  isplitl [Hs Hs']
  · isplitl [Hs] <;> iassumption
  isplitl [Ha]
  · iexact Ha
  · iexact Hb

theorem exit (c : Dev nD) :
    iprop((dats m 0 c).arrays ((dats m 0 c).arrAt · (cfg0 (F := F)).N) ∗ (dats m 0 c).owesAt () (Fin.last _) ∗ rest m c)
      ⊢ iprop(endR m c ∗ ∃ W, owes (c : Thread nD τ) (0 : CellTallies nD τ sig Unit) W) := by
  unfold endR rest
  rw [arrays_last, deal]
  iintro ⟨⟨Ha, Hb, Hc, Hd, He, Ho⟩, HO, Hf⟩
  isplitr [HO]
  · isplitr [Ho]
    · isplitl [Ha]; · iexact Ha
      isplitl [Hb]; · iexact Hb
      isplitl [Hc]; · iexact Hc
      isplitl [Hd]; · iexact Hd
      isplitl [He]; · iexact He
      iexact Hf
    · iexact Ho
  · unfold Pipeline.Dat.owesAt Pipeline.owesWithin
    icases HO with ⟨%W, -, HO⟩; iexists W; iexact HO

def reg0 : Pipeline.RegionSeg (pcfgs (F := F)) adm (dats m) () defs₀ 𝒱₀ Lnone lv 0 where
  win := winFacts₀0
  block_pos := block_pos0
  stage_whole := stage_whole0
  K := Fin 2
  osem := osem0
  ho := ownSemFacts0
  hbody c := (body_obligation m c).loose
  hwaits := Pipeline.hwaits_of_owed_zero _ _ _ _ Lnone lv 0 fun _ _ => rfl
  pre c := preR m c
  post c := iprop(endR m c ∗ ∃ W, owes (c : Thread nD τ) (0 : CellTallies nD τ sig Unit) W)
  X c := iprop(cells0 c ∗ rest m c)
  Y c := rest m c
  Z _ := iprop(emp)
  hentry c := by
    iintro ⟨Hp, Hs, -⟩
    ihave H := (entry m c) $$ [Hp Hs]
    · isplitl [Hp] <;> iassumption
    icases H with ⟨Ha, HO, HX⟩
    imodintro
    isplitl [Ha]; · iexact Ha
    isplitr; · unfold Pipeline.prefHeld; rw [show (Finset.univ : Finset (Fin 0)) = ∅ from rfl, BI.bigSep_empty]; iempintro
    isplitl [HO]; · iexact HO
    isplitl [HX]; · iexact HX
    iempintro
  hin c := by
    rw [show (dats m 0 c).Φ 0 = inv m c from rfl]
    iintro ⟨HX, -, Hr⟩
    iapply (enter m c)
    isplitl [HX]; · iexact HX
    iexact Hr
  hout c := leave m c
  hexit c := by
    iintro ⟨Ha, HO, HY, -⟩
    imodintro
    iapply (exit m c)
    isplitl [Ha]; · iexact Ha
    isplitl [HO]; · iexact HO
    iexact HY

def u₀ : Pipeline.UD sig nD τ :=
  (initOf (Pipeline.cells (Pipeline.pin (pcfgs (F := F)) adm) cellOf_inj) (Pipeline.launchToks (Pipeline.pin (pcfgs (F := F)) adm) cellOf_inj), 1)

abbrev segs : List (Pipeline.Seg (pcfgs (F := F)) adm (dats m) () defs₀ 𝒱₀ Lnone lv) := [.region (reg0 m)]

set_option backward.isDefEq.respectTransparency.types false in
/-- From any memory with zero counters every execution of the kernel ends, the input as it was, the result at `final`,
    every counter at zero. -/
theorem run_main : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_v0) = final m c) ∧ r.2.sem = fun _ => 0) :=
  Pipeline.θ_run_regions_kit_sems (pcfgs (F := F)) adm (dats m) () cellOf_inj EP defs₀ 𝒱₀ Lnone lv m ρ main (segs m)
    (fun c Q => by rw [main_segs adm (dats m) () 𝒱₀ Lnone lv (reg0 m) c])
    (by simp only [segs, Pipeline.Seg.pipes_region, Pipeline.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := preR m)
    (Tₙ := endR m)
    (hch := ⟨fun _ => .rfl, fun _ => .rfl⟩)
    (hinit := by
      refine Pipeline.initEach Lnone lv fun c => ?_
      unfold preR
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_v0) = final m c)
    (hfin := fun c s' => by
      unfold endR
      iintro ⟨⟨H0, H1⟩, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ h hz => ⟨h, funext fun g => hz g (.inr (by revert g; decide))⟩)

end Cert.KernelIdeal.Hand

end
-- ==== Proof.Frames.lean ====
/-
  The frames of the kernel, of its idealization and of the reference, and the idealization's two named constants.
-/
module

public import proofs.«01_k».proof.Defs
public import proofs.«01_k».proof.Proof.Sb.Run
public import proofs.«01_k».proof.Proof.Sbk.Run
public import proofs.«01_k».proof.Proof.Gen.ReferenceIdeal.Run

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).1, h.2⟩) (Cert.Kernel.Hand.run_main (F := Bits) m g)

theorem frame_ideal : Cert.quiescent_KernelIdeal := fun m g _ =>
  (θ_run Cert.KernelIdeal.defs _ _).mono (fun _ h => ⟨fun c => (h.1 c).1, h.2⟩) (Cert.KernelIdeal.Hand.run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The constants' printed words are the named numbers' own roundings. -/
theorem named_consts : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "stop" .f32 0xC3160A50#32 (((-104) * (Real.log 2)⁻¹ : ℝ) : EReal) rfl⟩

end Cert.Proof

end
-- ==== Proof.Val.Math.lean ====
/-
  Stick-breaking attention over the extended reals: the scores, the logarithms of the not-stopping probabilities, their sums over
  the later keys, the weights, and the blocks of keys that still have weight to receive; with what a block of 256 keys
  contributes and why the blocks may be left out from the first dead one on.
-/
module

public import Mathlib.Analysis.SpecialFunctions.Pow.Real
public import Mathlib.Analysis.SpecialFunctions.Log.Basic
public import Mathlib.Data.EReal.Operations
public import Mathlib.Algebra.BigOperators.Intervals
public import Idealize.ShloMosaic.PureOps.Ideal

@[expose] public section

noncomputable section

namespace Cert.Stick

open Finset
open Idealize.ShloMosaic

/-- The reciprocal of the logarithm of two. -/
def lg : ℝ := (Real.log 2)⁻¹

theorem log_two_pos : 0 < Real.log 2 := Real.log_pos (by norm_num)

theorem lg_pos : 0 < lg := inv_pos.2 log_two_pos

/-- The softplus `log (1 + e^z)`, as both programs compute it. -/
def sp (z : ℝ) : ℝ := max z 0 + Real.log (1 + Real.exp (-|z|))

theorem two_rpow_lg (x : ℝ) : Real.rpow 2 (x * lg) = Real.exp x := by
  show (2 : ℝ) ^ (x * lg) = _
  rw [Real.rpow_def_of_pos (by norm_num), lg]
  congr 1
  have := log_two_pos.ne'
  field_simp

/-- The base-two softplus is the softplus over the logarithm of two. -/
theorem sp_two (z : ℝ) : max (z * lg) 0 + Real.log (1 + Real.rpow 2 (0 - |z * lg|)) * lg = sp z * lg := by
  have h : 0 - |z * lg| = (-|z|) * lg := by rw [abs_mul, abs_of_pos lg_pos]; ring
  rw [h, two_rpow_lg, sp, add_mul, max_mul_of_nonneg _ _ lg_pos.le, zero_mul]

theorem sp_nonneg (z : ℝ) : 0 ≤ sp z :=
  add_nonneg (le_max_right _ _) (Real.log_nonneg (by have := Real.exp_pos (-|z|); linarith))

/-- The logarithm of the stopping probability. -/
theorem sp_neg (z : ℝ) : -(sp (-z)) = z - sp z := by
  unfold sp
  rw [abs_neg]
  have : max (-z) 0 = max z 0 - z := by
    rcases le_total 0 z with h | h
    · rw [max_eq_right (by linarith), max_eq_left h]; ring
    · rw [max_eq_left (by linarith), max_eq_right h]; ring
  rw [this]; ring

theorem log_coe (x : ℝ) (h : 0 < x) : Ideal.log (x : EReal) = ((Real.log x : ℝ) : EReal) := by
  show (if x ≤ 0 then (⊥ : EReal) else (Real.log x : EReal)) = _
  rw [if_neg (not_le.2 h)]

theorem coe_max (a b : ℝ) : ((max a b : ℝ) : EReal) = max (a : EReal) (b : EReal) := EReal.coe_strictMono.monotone.map_max

theorem log_one : Ideal.log (1 + 0) = 0 := by
  rw [add_zero, ← EReal.coe_one, log_coe 1 one_pos, Real.log_one, EReal.coe_zero]

/-- The softplus of an extended real. -/
def spE (z : EReal) : EReal := max z 0 + Ideal.log (1 + Ideal.exp (-(max z (-z))))

theorem spE_coe (z : ℝ) : spE (z : EReal) = ((sp z : ℝ) : EReal) := by
  unfold spE
  rw [← EReal.coe_neg, ← coe_max, ← EReal.coe_neg, ← EReal.coe_zero, ← coe_max]
  show _ + Ideal.log (1 + ((Real.exp (-(max z (-z))) : ℝ) : EReal)) = _
  rw [← EReal.coe_one, ← EReal.coe_add, log_coe _ (by have := Real.exp_pos (-(max z (-z))); linarith), ← EReal.coe_add]
  rfl

theorem spE_top : spE ⊤ = ⊤ := by
  unfold spE
  rw [EReal.neg_top, max_eq_left bot_le, EReal.neg_top, max_eq_left le_top]
  show ⊤ + Ideal.log (1 + 0) = _
  rw [log_one, add_zero]

theorem spE_bot : spE ⊥ = 0 := by
  unfold spE
  rw [EReal.neg_bot, max_eq_right bot_le, max_eq_right bot_le, EReal.neg_top]
  show 0 + Ideal.log (1 + 0) = _
  rw [log_one, add_zero]

theorem spE_nonneg (z : EReal) : 0 ≤ spE z := by
  induction z with
  | bot => rw [spE_bot]
  | top => rw [spE_top]; exact le_top
  | coe x => rw [spE_coe]; exact EReal.coe_nonneg.2 (sp_nonneg x)

theorem top_lg : (⊤ : EReal) * (lg : EReal) = ⊤ := EReal.top_mul_coe_of_pos lg_pos

theorem bot_lg : (⊥ : EReal) * (lg : EReal) = ⊥ := EReal.bot_mul_coe_of_pos lg_pos

/-- The base-two softplus is the softplus over the logarithm of two. -/
theorem spE_two (z : EReal) :
    max (z * lg) 0 + Ideal.log (1 + Ideal.exp2 (0 - max (z * lg) (-(z * lg)))) * (lg : EReal) = spE z * lg := by
  induction z with
  | bot =>
    rw [bot_lg, spE_bot, EReal.neg_bot, max_eq_right bot_le, max_eq_right bot_le, zero_sub, EReal.neg_top]
    show 0 + Ideal.log (1 + 0) * (lg : EReal) = _
    rw [log_one, zero_add]
  | top =>
    rw [top_lg, spE_top, top_lg, EReal.neg_top, max_eq_left bot_le, max_eq_left le_top, zero_sub, EReal.neg_top]
    show ⊤ + Ideal.log (1 + 0) * (lg : EReal) = _
    rw [log_one, zero_mul, add_zero]
  | coe x =>
    rw [spE_coe, ← EReal.coe_mul, ← EReal.coe_neg, ← coe_max, ← EReal.coe_zero, ← coe_max, ← EReal.coe_sub]
    show _ + Ideal.log (1 + ((Real.rpow 2 (0 - max (x * lg) (-(x * lg))) : ℝ) : EReal)) * _ = _
    rw [← EReal.coe_one, ← EReal.coe_add, log_coe _ (by
      have : 0 < Real.rpow 2 (0 - max (x * lg) (-(x * lg))) := Real.rpow_pos_of_pos (by norm_num) _
      linarith), ← EReal.coe_mul, ← EReal.coe_add, ← EReal.coe_mul, ← sp_two]
    rfl

theorem exp2_lg (x : EReal) : Ideal.exp2 (x * lg) = Ideal.exp x := by
  induction x with
  | bot => rw [bot_lg]; rfl
  | top => rw [top_lg]; rfl
  | coe x =>
    rw [← EReal.coe_mul]
    show ((Real.rpow 2 (x * lg) : ℝ) : EReal) = ((Real.exp x : ℝ) : EReal)
    rw [two_rpow_lg]

theorem add_lg (a b : EReal) : (a + b) * (lg : EReal) = a * lg + b * lg := by
  rw [mul_comm _ (lg : EReal), EReal.left_distrib_of_nonneg_of_ne_top (EReal.coe_nonneg.2 lg_pos.le) (EReal.coe_ne_top _), mul_comm a, mul_comm b]

theorem sub_lg (a b : EReal) : (a - b) * (lg : EReal) = a * lg - b * lg := by
  rw [sub_eq_add_neg, add_lg, EReal.neg_mul, ← sub_eq_add_neg]

theorem sum_lg {ι : Type*} (s : Finset ι) (g : ι → EReal) : (∑ x ∈ s, g x) * (lg : EReal) = ∑ x ∈ s, g x * lg := by
  classical
  induction s using Finset.induction_on with
  | empty => simp
  | insert a s ha ih => rw [sum_insert ha, sum_insert ha, add_lg, ih]

theorem lt_lg (a : ℝ) (x : EReal) : ((a * lg : ℝ) : EReal) < x * lg ↔ (a : EReal) < x := by
  induction x with
  | bot => rw [bot_lg]; exact iff_of_false not_lt_bot not_lt_bot
  | top => rw [top_lg]; exact iff_of_true (EReal.coe_lt_top _) (EReal.coe_lt_top _)
  | coe x => rw [← EReal.coe_mul, EReal.coe_lt_coe_iff, EReal.coe_lt_coe_iff, mul_lt_mul_iff_left₀ lg_pos]

/-- Taking a number's own word off it leaves nothing, or `⊥` where the number is that already. -/
theorem add_self_sub {y : EReal} (hy : y ≤ 0) : y + (y - y) = y := by
  induction y with
  | bot => exact EReal.bot_add _
  | top => exact absurd hy (by rw [top_le_iff]; exact EReal.zero_ne_top)
  | coe x => rw [← EReal.coe_sub, sub_self, EReal.coe_zero, add_zero]

/-- The logarithm of the stopping probability and the sum after the key, from the sum with the key. -/
theorem stop_sum (z r : EReal) : -(spE (-z)) + ((-(spE z) + r) - -(spE z)) = z - spE z + r := by
  induction z with
  | bot => rw [EReal.neg_bot, spE_top, EReal.neg_top, EReal.bot_add, EReal.bot_sub, EReal.bot_add]
  | top =>
    rw [spE_top, EReal.neg_top, EReal.bot_add, EReal.bot_sub, EReal.add_bot, sub_eq_add_neg, EReal.neg_top, EReal.add_bot, EReal.bot_add]
  | coe x =>
    rw [← EReal.coe_neg, spE_coe, spE_coe, ← EReal.coe_neg, ← EReal.coe_neg, sp_neg, ← EReal.coe_sub]
    congr 1
    rw [add_comm, EReal.add_sub_cancel_right]

section

variable (X : ℕ → ℕ → EReal)

/-- The score of query `i` and key `j` in head `h`; `X` holds the projected rows. -/
def Z (h i j : ℕ) : EReal := ∑ d : Fin 64, X i (64 * h + d.val) * X j (512 + 64 * h + d.val)

/-- The logarithm of the probability that query `i` does not stop at key `j`; zero at the keys not before it. -/
def L (h i j : ℕ) : EReal := if j < i then -spE (Z X h i j) else 0

/-- Its sum over the keys from `j` on. -/
def R (h i j : ℕ) : EReal := ∑ k ∈ Ico j 16384, L X h i k

/-- The weight of key `j`. -/
def W (h i j : ℕ) : EReal := Ideal.exp (Z X h i j - spE (Z X h i j) + R X h i (j + 1))

/-- Whether key block `b` is attended to by query block `n`: the own block and the one before always, an older one while some
    query of the block, in some head, has more than `e^-104` left. -/
def Live (n b : ℕ) : Prop := n ≤ b + 1 ∨ ∃ h < 8, ∃ r < 256, ((-104 : ℝ) : EReal) < R X h (256 * n + r) (256 * (b + 1))

open Classical in
/-- The weight of key `j` as attended to. -/
def T (h i j : ℕ) : EReal := if j < i ∧ Live X (i / 256) (j / 256) then W X h i j else 0

end

variable {X : ℕ → ℕ → EReal}

theorem L_nonpos (h i j : ℕ) : L X h i j ≤ 0 := by
  unfold L; split
  · exact (EReal.neg_le_neg_iff.2 (spE_nonneg _)).trans_eq neg_zero
  · exact le_rfl

theorem R_mono (h i : ℕ) {j k : ℕ} (hjk : j ≤ k) : R X h i j ≤ R X h i k := by
  unfold R
  rw [← sum_sdiff (Ico_subset_Ico_left hjk : Ico k 16384 ⊆ Ico j 16384)]
  exact add_le_of_nonpos_left (sum_nonpos fun x _ => L_nonpos h i x)

theorem R_top (h i : ℕ) : R X h i 16384 = 0 := by simp [R]

/-- The keys not before the query add nothing. -/
theorem R_late (h i j : ℕ) (hj : i ≤ j) : R X h i j = 0 :=
  sum_eq_zero fun k hk => if_neg (by have := (mem_Ico.1 hk).1; omega)

theorem R_split (h i : ℕ) {j k : ℕ} (hjk : j ≤ k) (hk : k ≤ 16384) : R X h i j = (∑ x ∈ Ico j k, L X h i x) + R X h i k :=
  (sum_Ico_consecutive _ hjk hk).symm

/-- A sum over a block of keys. -/
theorem sum_block {M : Type*} [AddCommMonoid M] (g : ℕ → M) (b : ℕ) : ∑ j ∈ Ico (256 * b) (256 * (b + 1)), g j = ∑ s : Fin 256, g (256 * b + s.val) := by
  rw [sum_Ico_eq_sum_range, show 256 * (b + 1) - 256 * b = 256 by omega, ← Fin.sum_univ_eq_sum_range]

theorem R_block (h i b : ℕ) (hb : b < 64) : R X h i (256 * b) = (∑ s : Fin 256, L X h i (256 * b + s.val)) + R X h i (256 * (b + 1)) := by
  rw [R_split h i (show 256 * b ≤ 256 * (b + 1) by omega) (by omega), sum_block]

/-- The sum after a key: the later keys of its block, and the later blocks. -/
theorem R_tail (h i b : ℕ) (hb : b < 64) (s : Fin 256) :
    R X h i (256 * b + s.val + 1) = (∑ k : Fin 256, if s.val < k.val then L X h i (256 * b + k.val) else 0) + R X h i (256 * (b + 1)) := by
  have hs := s.isLt
  rw [R_split h i (show 256 * b + s.val + 1 ≤ 256 * (b + 1) by omega) (by omega)]
  congr 1
  have := sum_block (fun j => if 256 * b + s.val < j then L X h i j else 0) b
  simp only [Nat.add_lt_add_iff_left] at this
  rw [← this, ← sum_Ico_consecutive _ (show 256 * b ≤ 256 * b + s.val + 1 by omega) (show 256 * b + s.val + 1 ≤ 256 * (b + 1) by omega)]
  rw [sum_eq_zero (s := Ico (256 * b) _) (fun x hx => if_neg (by have := (mem_Ico.1 hx).2; omega)), zero_add]
  exact sum_congr rfl fun x hx => (if_pos (by have := (mem_Ico.1 hx).1; omega)).symm

/-- A dead block's predecessors are dead. -/
theorem dead_below {n b b' : ℕ} (hb : b' ≤ b) (hn : b + 1 < n) (hd : ¬ ∃ h < 8, ∃ r < 256, ((-104 : ℝ) : EReal) < R X h (256 * n + r) (256 * (b + 1))) : ¬ Live X n b' := by
  rintro (h | ⟨h, hh, r, hr, hl⟩)
  · omega
  · exact hd ⟨h, hh, r, hr, hl.trans_le (R_mono h _ (by omega))⟩

/-- A weight of the query's row in a block: masked by causality alone where the block is live. -/
theorem T_live {h n b r s : ℕ} (hr : r < 256) (hs : s < 256) (hl : Live X n b) :
    T X h (256 * n + r) (256 * b + s) = if 256 * b + s < 256 * n + r then W X h (256 * n + r) (256 * b + s) else 0 := by
  unfold T
  rw [show (256 * n + r) / 256 = n by omega, show (256 * b + s) / 256 = b by omega]
  simp [hl]

theorem T_dead {h n b r s : ℕ} (hr : r < 256) (hs : s < 256) (hl : ¬ Live X n b) : T X h (256 * n + r) (256 * b + s) = 0 := by
  unfold T
  rw [show (256 * n + r) / 256 = n by omega, show (256 * b + s) / 256 = b by omega]
  simp [hl]

theorem T_late {h i j : ℕ} (hj : i ≤ j) : T X h i j = 0 := if_neg (by omega)

end Cert.Stick

end
-- ==== Proof.Val.Block.lean ====
/-
  What the kernel's operations on one key block compute: the scores, the sums over the later keys, the
  weights and the weighted values, in terms of `Math.lean`'s.
-/
module

public import proofs.«01_k».proof.Proof.Sb.Body
public import proofs.«01_k».proof.Proof.Val.Math
public import Idealize.ShloMosaic.Lib.Pointwise
public import Idealize.ShloMosaic.Lib.WordCmp
public import Idealize.ShloMosaic.PureOps.IdealRules

@[expose] public section

noncomputable section

namespace Cert.Stick

open Cert.KernelIdeal Cert.KernelIdeal.Gen Cert.KernelIdeal.Hand
open Idealize.ShloMosaic
open Finset

/-- The projected rows at a row and a column. -/
def cell (f : S16384x3584.Idx → EReal) (i c : ℕ) : EReal := f (ix2 ⟨i % 16384, Nat.mod_lt _ (by decide)⟩ ⟨c % 3584, Nat.mod_lt _ (by decide)⟩)

theorem cLog2e_eq : cLog2e (F := Ideal) = (lg : EReal) :=
  IdealRules.named_const.ideal_named_scalar _ _ _ _ rfl

theorem lane_blk (f : S16384x3584.Idx → EReal) (b x p : ℕ) (hp : p < 4) (r : Fin 256) (y : Fin 128) :
    lane (F := Ideal) (blk (F := Ideal) f b x) p (ix2 r y) = cell f (256 * b + r.val) (x + 128 * p + y.val) := by
  have hy := y.isLt
  refine congrArg f (funext fun a => ?_)
  match a with
  | ⟨0, _⟩ => rfl
  | ⟨1, _⟩ =>
    refine Fin.ext ?_
    show (x + (128 * p + y.val) % 512) % 3584 = (x + 128 * p + y.val) % 3584
    rw [Nat.mod_eq_of_lt (by omega : 128 * p + y.val < 512), Nat.add_assoc]

theorem first_head (r : Fin 256) (y : Fin 128) : k0_pay12 (ix2 r y) = BitVec.ofBool (decide (y.val < 64)) := by
  have hy := y.isLt
  unfold k0_pay12
  pointwise
  exact WordCmp.cmpi_slt_ofNat (by omega) (by omega)

theorem qHead_blk (f : S16384x3584.Idx → EReal) (n : ℕ) (h : Fin 8) (r : Fin 256) (y : Fin 128) :
    qHead (F := Ideal) (blk (F := Ideal) f n 0) h (ix2 r y) = if y.val / 64 = h.val % 2 then cell f (256 * n + r.val) (128 * (h.val / 2) + y.val) else 0 := by
  have hy := y.isLt
  unfold qHead
  split <;> pointwise [first_head, lane_blk f n 0 _ (by omega : h.val / 2 < 4)]
  · congr 1; simp only [eq_iff_iff]; omega
  · split
    · rw [if_neg (by omega)]
    · rw [if_pos (by omega)]

theorem sbZ_blk (f : S16384x3584.Idx → EReal) (n b : ℕ) (h : Fin 8) (r s : Fin 256) :
    sbZ (F := Ideal) (qHead (blk (F := Ideal) f n 0) h) (lane (blk (F := Ideal) f b 512) (h.val / 2)) (ix2 r s)
      = Z (cell f) h.val (256 * n + r.val) (256 * b + s.val) * (lg : EReal) := by
  unfold sbZ
  pointwise
  rw [cLog2e_eq]
  refine congrArg (fun a : EReal => a * (lg : EReal)) ?_
  have hm : ∀ x : Fin 128, qHead (F := Ideal) (blk (F := Ideal) f n 0) h (ix2 r x) * lane (F := Ideal) (blk (F := Ideal) f b 512) (h.val / 2) (ix2 s x)
      = if x.val / 64 = h.val % 2 then cell f (256 * n + r.val) (128 * (h.val / 2) + x.val) * cell f (256 * b + s.val) (512 + 128 * (h.val / 2) + x.val) else 0 := fun x => by
    rw [qHead_blk, lane_blk f b 512 _ (by omega)]
    split
    · rfl
    · exact zero_mul _
  rw [sum_congr rfl fun x _ => hm x, Z, Fin.sum_univ_two_halves 64 64 rfl]
  have h2 : h.val % 2 = 0 ∨ h.val % 2 = 1 := by omega
  rcases h2 with e | e
  · rw [show ∀ a b c : EReal, b = 0 → a = c → a + b = c from fun a b c hb ha => by rw [hb, add_zero, ha]]
    · exact sum_eq_zero fun x _ => if_neg (by rw [e]; have := x.isLt; show ¬ (64 + x.val) / 64 = 0; omega)
    · refine sum_congr rfl fun x _ => ?_
      rw [if_pos (by rw [e]; have := x.isLt; show x.val / 64 = 0; omega)]
      rw [show 128 * (h.val / 2) = 64 * h.val by omega]; try rfl
  · rw [show ∀ a b c : EReal, a = 0 → b = c → a + b = c from fun a b c hb ha => by rw [hb, zero_add, ha]]
    · exact sum_eq_zero fun x _ => if_neg (by rw [e]; have := x.isLt; show ¬ x.val / 64 = 1; omega)
    · refine sum_congr rfl fun x _ => ?_
      rw [if_pos (by rw [e]; have := x.isLt; show (64 + x.val) / 64 = 1; omega)]
      show cell f _ (128 * (h.val / 2) + (64 + x.val)) * cell f _ (512 + 128 * (h.val / 2) + (64 + x.val)) = _
      rw [show 128 * (h.val / 2) + (64 + x.val) = 64 * h.val + x.val by omega, show 512 + 128 * (h.val / 2) + (64 + x.val) = 512 + 64 * h.val + x.val by omega]

theorem sbSp_at (z : FVec Ideal S256x256 .f32) (x : EReal) (r s : Fin 256) (hz : z (ix2 r s) = x * (lg : EReal)) :
    sbSp z (ix2 r s) = spE x * (lg : EReal) := by
  unfold sbSp
  pointwise [cZero]
  rw [hz, cLog2e_eq, Ideal.absf_def]
  exact spE_two x

theorem tri_at (k s : Fin 256) : tri (F := Ideal) (ix2 k s) = if s.val < k.val then 1 else 0 := by
  unfold tri k0_pay14
  have := k.isLt
  have := s.isLt
  pointwise
  rw [WordCmp.cmpi_sgt_ofNat (by omega) (by omega)]
  by_cases h : s.val < k.val
  · rw [if_pos h, decide_eq_true h]
    show (((1 : ℤ) : ℝ) : EReal) = 1
    norm_num
  · rw [if_neg h, decide_eq_false h]
    show (((0 : ℤ) : ℝ) : EReal) = 0
    norm_num

/-- A mask that keeps the keys before the query. -/
def Keeps (sel : FVec Ideal S256x256 .f32 → FVec Ideal S256x256 .f32) (n b : ℕ) : Prop :=
  ∀ x r s, sel x (ix2 r s) = if 256 * b + s.val < 256 * n + r.val then x (ix2 r s) else 0

theorem keeps_id {n b : ℕ} (h : b < n) : Keeps id n b := fun x r s => (if_pos (by have := s.isLt; omega)).symm

theorem keeps_selD (n : ℕ) : Keeps (selD (F := Ideal)) n n := fun x r s => by
  have := r.isLt
  have := s.isLt
  unfold selD causal k0_pay13
  pointwise [cZero]
  rw [WordCmp.cmpi_slt_ofNat (by omega) (by omega)]
  by_cases h : s.val < r.val
  · rw [if_pos (by omega), decide_eq_true h]; rfl
  · rw [if_neg (by omega), decide_eq_false h]; rfl

theorem selP_pos {n : ℕ} (h0 : 0 < n) (hn : n < 64) (x : FVec Ideal S256x256 .f32) : selP (F := Ideal) n x = x := by
  unfold selP
  rw [show Scalar.cmpi .sgt (BitVec.ofNat 32 n) 0#32 = 1#1 from (WordCmp.cmpi_sgt_ofNat_eq_one_iff (by omega) (by omega)).2 h0]
  rfl

theorem selP_zero (x : FVec Ideal S256x256 .f32) (r s : Fin 256) : selP (F := Ideal) 0 x (ix2 r s) = 0 := by
  unfold selP
  pointwise [cZero]
  rfl

theorem sbTail_at (l : FVec Ideal S256x256 .f32) (y : Fin 256 → EReal) (r s : Fin 256) (hy : ∀ k, y k ≤ 0) (hl : ∀ k, l (ix2 r k) = y k * (lg : EReal)) :
    sbTail (F := Ideal) tri l (ix2 r s) = (∑ k : Fin 256, if s.val < k.val then y k else 0) * (lg : EReal) := by
  unfold sbTail
  pointwise [tri_at]
  simp only [hl]
  rw [sum_lg, ← sum_add_distrib]
  refine sum_congr rfl fun k _ => ?_
  split
  · rw [mul_one, mul_one, ← sub_lg, ← add_lg, add_self_sub (hy k)]
  · rw [mul_zero, mul_zero, zero_mul, add_zero]

section

variable (f : S16384x3584.Idx → EReal) {n b : ℕ} (h : Fin 8)
variable {sel : FVec Ideal S256x256 .f32 → FVec Ideal S256x256 .f32} (hs : Keeps sel n b)

/-- The queries of query block `n` in head `h`, and the keys and values of key block `b` in its pair. -/
abbrev qB (n : ℕ) : FVec Ideal S256x128 .bf16 := qHead (F := Ideal) (blk (F := Ideal) f n 0) h
abbrev kB (b : ℕ) : FVec Ideal S256x128 .bf16 := lane (F := Ideal) (blk (F := Ideal) f b 512) (h.val / 2)
abbrev vB (b : ℕ) : FVec Ideal S256x128 .bf16 := lane (F := Ideal) (blk (F := Ideal) f b 1024) (h.val / 2)

include hs

theorem sbL_at (r s : Fin 256) : sbL (F := Ideal) sel (sbZ (qB f h n) (kB f h b)) (ix2 r s)
    = L (cell f) h.val (256 * n + r.val) (256 * b + s.val) * (lg : EReal) := by
  unfold sbL
  rw [hs]
  unfold L
  split
  · pointwise [cZero]
    rw [sbSp_at _ _ _ _ (sbZ_blk f n b h r s), zero_sub, EReal.neg_mul]
  · rw [zero_mul]

/-- The running sums after the block. -/
theorem sbC_at (hb : b < 64) (c : FVec Ideal S256x1 .f32) (r : Fin 256)
    (hc : c (ix2 r 0) = R (cell f) h.val (256 * n + r.val) (256 * (b + 1)) * (lg : EReal)) :
    sbC (F := Ideal) sel (qB f h n) (kB f h b) c (ix2 r 0) = R (cell f) h.val (256 * n + r.val) (256 * b) * (lg : EReal) := by
  unfold sbC
  pointwise
  rw [hc, sum_congr rfl fun s _ => sbL_at f h hs r s, R_block _ _ _ hb, ← sum_lg, add_lg, add_comm]

/-- The weights of the block. -/
theorem sbW_at (hb : b < 64) (c : FVec Ideal S256x1 .f32) (r s : Fin 256)
    (hc : c (ix2 r 0) = R (cell f) h.val (256 * n + r.val) (256 * (b + 1)) * (lg : EReal)) :
    sbW (F := Ideal) tri sel (sbZ (qB f h n) (kB f h b)) c (ix2 r s)
      = if 256 * b + s.val < 256 * n + r.val then W (cell f) h.val (256 * n + r.val) (256 * b + s.val) else 0 := by
  unfold sbW
  rw [hs]
  split
  · pointwise
    rw [sbTail_at _ (fun k => L (cell f) h.val (256 * n + r.val) (256 * b + k.val)) r s (fun k => L_nonpos _ _ _) fun k => sbL_at f h hs r k,
      sbSp_at _ _ _ _ (sbZ_blk f n b h r s), sbZ_blk f n b h r s, hc, ← sub_lg, ← add_lg, ← add_lg]
    refine (exp2_lg _).trans ?_
    rw [W, R_tail _ _ _ hb, add_assoc]
  · rfl

/-- The weighted values of the block. -/
theorem sbPv_at (hb : b < 64) (c : FVec Ideal S256x1 .f32) (r : Fin 256) (y : Fin 128) (hl : Live (cell f) n b)
    (hc : c (ix2 r 0) = R (cell f) h.val (256 * n + r.val) (256 * (b + 1)) * (lg : EReal)) :
    sbPv (F := Ideal) tri sel (qB f h n) (kB f h b) (vB f h b) c (ix2 r y)
      = ∑ j ∈ Ico (256 * b) (256 * (b + 1)), T (cell f) h.val (256 * n + r.val) j * cell f j (1024 + 128 * (h.val / 2) + y.val) := by
  unfold sbPv
  pointwise
  rw [sum_block]
  refine sum_congr rfl fun s _ => ?_
  rw [sbW_at f h hs hb c r s hc, show vB f h b (ix2 s y) = _ from lane_blk f b 1024 _ (by omega) s y, T_live r.isLt s.isLt hl]

end

end Cert.Stick

end
-- ==== Proof.Val.Acc.lean ====
/-
  What the kernel leaves in one block of the result: the values weighted by the attention, block after block of keys from
  the diagonal down to the first dead one, whose older keys have no weight.
-/
module

public import proofs.«01_k».proof.Proof.Val.Block

@[expose] public section

noncomputable section

namespace Cert.Stick

open Cert.KernelIdeal Cert.KernelIdeal.Gen Cert.KernelIdeal.Hand
open Idealize.ShloMosaic
open Finset

theorem neg_inf : Ideal.ofBits .f32 0xFF800000#32 = ⊥ := by
  simp [Ideal.ofBits, Ideal.ieee]

/-- The largest running sum of a head. -/
theorem lt_sbMax (c : FVec Ideal S256x1 .f32) (t : EReal) : t < sbMax (F := Ideal) c ↔ ∃ r : Fin 256, t < c (ix2 r 0) := by
  unfold sbMax
  pointwise
  rw [Finset.lt_fold_max, neg_inf]
  constructor
  · rintro (h | ⟨x, -, hx⟩)
    · exact absurd h not_lt_bot
    · exact ⟨x.1, hx⟩
  · rintro ⟨r, hr⟩
    exact .inr ⟨(r, 0), mem_univ _, hr⟩

theorem stop_eq : (Named.named (F := Ideal) (φ := .f32) κ "stop" 0xC3160A50#32 : EReal) = ((-104 * lg : ℝ) : EReal) :=
  IdealRules.named_const.ideal_named_scalar _ _ _ _ rfl

theorem live_iff (cs : Fin 8 → FVec Ideal S256x1 .f32) :
    Scalar.cmpi .sgt (sbLive (F := Ideal) cs) 0#32 = 1#1 ↔ ∃ h : Fin 8, ∃ r : Fin 256, ((-104 * lg : ℝ) : EReal) < cs h (ix2 r 0) := by
  unfold sbLive
  rw [stop_eq]
  have hb : ∀ p : Prop, ∀ [Decidable p], Scalar.cmpi .sgt ((Scalar.extui (BitVec.ofBool (decide p)) : BitVec 32)) 0#32 = 1#1 ↔ p := by
    intro p _
    by_cases hp : p
    · simp [hp]; decide
    · simp [hp]; decide
  refine (hb _).trans ?_
  unfold sbMax8
  show _ < max (max (max (max (max (max (max _ _) _) _) _) _) _) _ ↔ _
  simp only [lt_max_iff, lt_sbMax]
  constructor
  · rintro (((((((h | h) | h) | h) | h) | h) | h) | h)
    exacts [⟨0, h⟩, ⟨1, h⟩, ⟨2, h⟩, ⟨3, h⟩, ⟨4, h⟩, ⟨5, h⟩, ⟨6, h⟩, ⟨7, h⟩]
  · rintro ⟨h, hr⟩
    fin_cases h <;> simp_all

section

variable (f : S16384x3584.Idx → EReal)

/-- The running sums over the keys from block `b` on, for every head and query of block `n`. -/
def Sums (n b : ℕ) (cs : Fin 8 → FVec Ideal S256x1 .f32) : Prop :=
  ∀ h r, cs h (ix2 r 0) = R (cell f) h.val (256 * n + r.val) (256 * b) * (lg : EReal)

/-- The weighted values over the keys from `j` on. -/
def val (h i j y : ℕ) : EReal := ∑ k ∈ Ico j 16384, T (cell f) h i k * cell f k (1024 + 128 * (h / 2) + y)

def Vals (n b : ℕ) (rs : Fin 8 → FVec Ideal S256x128 .f32) : Prop :=
  ∀ h r y, rs h (ix2 r y) = val f h.val (256 * n + r.val) (256 * b) y.val

theorem val_block (h i b y : ℕ) (hb : b < 64) :
    val f h i (256 * b) y = (∑ k ∈ Ico (256 * b) (256 * (b + 1)), T (cell f) h i k * cell f k (1024 + 128 * (h / 2) + y)) + val f h i (256 * (b + 1)) y :=
  (sum_Ico_consecutive _ (by omega) (by omega)).symm

theorem val_late (h i j y : ℕ) (hj : i ≤ j) : val f h i j y = 0 :=
  sum_eq_zero fun k hk => by rw [T_late (by have := (mem_Ico.1 hk).1; omega), zero_mul]

/-- The loop's flag: whether the next block is live. -/
theorem flag_iff {n b : ℕ} {cs : Fin 8 → FVec Ideal S256x1 .f32} (hc : Sums f n b cs) :
    Scalar.cmpi .sgt (sbLive (F := Ideal) cs) 0#32 = 1#1 ↔ ∃ h < 8, ∃ r < 256, ((-104 : ℝ) : EReal) < R (cell f) h (256 * n + r) (256 * b) := by
  rw [live_iff]
  have key : ∀ (h : Fin 8) (r : Fin 256), ((-104 * lg : ℝ) : EReal) < cs h (ix2 r 0) ↔ ((-104 : ℝ) : EReal) < R (cell f) h.val (256 * n + r.val) (256 * b) := fun h r => by
    rw [hc, lt_lg]
  constructor
  · rintro ⟨h, r, hr⟩
    exact ⟨h.val, h.isLt, r.val, r.isLt, (key h r).1 hr⟩
  · rintro ⟨h, hh, r, hr, hl⟩
    exact ⟨⟨h, hh⟩, ⟨r, hr⟩, (key ⟨h, hh⟩ ⟨r, hr⟩).2 hl⟩

/-- The loop's results are the weighted values over all keys. -/
theorem loopA_val (n : ℕ) (hn : n < 64) : ∀ b, b + 1 ≤ n → ∀ cs rs, Sums f n b cs → Vals f n b rs →
    Vals f n 0 (loopA (F := Ideal) f tri (qHead (F := Ideal) (blk (F := Ideal) f n 0)) b (sbLive cs) cs rs) := by
  intro b
  induction b with
  | zero => intro _ cs rs _ hr; exact hr
  | succ b ih =>
    intro hb cs rs hc hr
    show Vals f n 0 (ite _ _ _)
    split
    next hl =>
      have hlive : Live (cell f) n b := .inr ((flag_iff f hc).1 hl)
      refine ih (by omega) _ _ (fun h r => ?_) (fun h r y => ?_)
      · exact sbC_at f h (keeps_id (by omega)) (by omega) _ r (hc h r)
      · show rs h (ix2 r y) + sbPv (F := Ideal) tri id _ _ _ (cs h) (ix2 r y) = _
        rw [sbPv_at f h (keeps_id (by omega)) (by omega) _ r y hlive (hc h r), hr h r y, val_block f _ _ b _ (by omega), add_comm]
    next hl =>
      have hd := fun b' (h' : b' ≤ b) => dead_below (X := cell f) h' (by omega) (mt (flag_iff f hc).2 hl)
      intro h r y
      rw [hr h r y]
      refine (sum_subset (Ico_subset_Ico_left (by omega)) fun k hk hk' => ?_)
      have h1 := (mem_Ico.1 hk)
      have h2 : k < 256 * (b + 1) := by
        by_contra hc; exact hk' (mem_Ico.2 ⟨by omega, h1.2⟩)
      have := T_dead (X := cell f) (h := h.val) (n := n) (b := k / 256) (r := r.val) (s := k % 256) r.isLt (by omega) (hd _ (by omega))
      rw [show 256 * (k / 256) + k % 256 = k by omega] at this
      rw [this, zero_mul]

theorem c1_at (n : ℕ) (hn : n < 64) : Sums f n n (c1 (F := Ideal) (blk (F := Ideal) f n 0) (blk (F := Ideal) f n 512)) := fun h r =>
  sbC_at f h (keeps_selD n) hn _ r (by
    rw [R_late _ _ _ (by have := r.isLt; omega), zero_mul]; exact Ideal.ofBits_zero_f32)

theorem sbAcc_val (n : ℕ) (hn : n < 64) : Vals f n 0 (sbAcc (F := Ideal) f n (blk (F := Ideal) f n 0) (blk (F := Ideal) f n 512) (blk (F := Ideal) f n 1024)
    (blk (F := Ideal) f (n - 1) 512) (blk (F := Ideal) f (n - 1) 1024)) := by
  have hd : ∀ h r y, sbPv (F := Ideal) tri selD (qB f h n) (kB f h n) (vB f h n) (broadcast S256x1 cZero) (ix2 r y)
      = val f h.val (256 * n + r.val) (256 * n) y.val := fun h r y => by
    have := r.isLt
    rw [sbPv_at f h (keeps_selD n) hn _ r y (.inl (by omega)) (by
      rw [R_late _ _ _ (by omega), zero_mul]; exact Ideal.ofBits_zero_f32), val_block f _ _ n _ hn, val_late f _ _ (256 * (n + 1)) _ (by omega), add_zero]
  unfold sbAcc
  by_cases h0 : 0 < n
  · obtain ⟨b, rfl⟩ : ∃ b, n = b + 1 := ⟨n - 1, by omega⟩
    have hk : Keeps (selP (F := Ideal) (b + 1)) (b + 1) b := fun x r s => by
      rw [selP_pos h0 hn]; exact keeps_id (by omega) x r s
    refine loopA_val f (b + 1) hn b (by omega) _ _ (fun h r => ?_) (fun h r y => ?_)
    · exact sbC_at f h hk (by omega) _ r (c1_at f (b + 1) hn h r)
    · show sbPv (F := Ideal) tri selD _ _ _ _ (ix2 r y) + sbPv (F := Ideal) tri (selP (b + 1)) _ _ _ (c1 _ _ h) (ix2 r y) = _
      refine (congrArg₂ (· + ·) (hd h r y) (sbPv_at f h hk (by omega) _ r y (.inl (by omega)) (c1_at f (b + 1) hn h r))).trans ?_
      rw [val_block f _ _ b _ (by omega), add_comm]
  · obtain rfl : n = 0 := by omega
    intro h r y
    show sbPv (F := Ideal) tri selD _ _ _ _ (ix2 r y) + sbPv (F := Ideal) tri (selP 0) _ _ _ (c1 _ _ h) (ix2 r y) = _
    rw [hd h r y]
    have hz : sbPv (F := Ideal) tri (selP 0) (qB f h 0) (kB f h 0) (vB f h 0) (c1 (F := Ideal) (blk (F := Ideal) f 0 0) (blk (F := Ideal) f 0 512) h) (ix2 r y) = 0 := by
      unfold sbPv
      pointwise
      refine sum_eq_zero fun s _ => ?_
      unfold sbW
      rw [selP_zero, zero_mul]
    rw [show ∀ a b : EReal, b = 0 → a + b = a from fun a b hb => by rw [hb, add_zero]]
    exact hz

end

end Cert.Stick

end
-- ==== Proof.Val.Final.lean ====
/-
  The kernel's result array: at every row and column, the values weighted by the attention.
-/
module

public import proofs.«01_k».proof.Proof.Sb.Run
public import proofs.«01_k».proof.Proof.Val.Acc
public import Idealize.ShloMosaic.Lib.Pipeline.Value

@[expose] public section

noncomputable section

namespace Cert.Stick

open Cert.KernelIdeal Cert.KernelIdeal.Gen Cert.KernelIdeal.Hand
open Idealize.ShloMosaic Idealize.ShloMosaic.TcCoe
open Idealize.ShloMosaic.Pipeline (Dat)

/-- The result array: `G` at a row and a column. -/
def goal (f : S16384x3584.Idx → EReal) : S16384x512.Idx → EReal := fun i => val f ((i 1).val / 64) (i 0).val 0 ((i 1).val % 128)

theorem blocks : ∀ t : Fin grid0.N,
    ((win0_0.index t 0 = (grid0.coords t 1).val ∧ win0_0.index t 1 = 0) ∧ (win0_1.index t 0 = (grid0.coords t 1).val ∧ win0_1.index t 1 = 1)
      ∧ (win0_2.index t 0 = (grid0.coords t 1).val ∧ win0_2.index t 1 = 2))
    ∧ ((win0_3.index t 0 = (grid0.coords t 1).val - 1 ∧ win0_3.index t 1 = 1) ∧ (win0_4.index t 0 = (grid0.coords t 1).val - 1 ∧ win0_4.index t 1 = 2))
    ∧ win0_5.index t 0 = (grid0.coords t 1).val ∧ win0_5.index t 1 = 0 := by
  decide +kernel

variable (m : (ℓ : Loc nD τ sig) → Buf (Elt Ideal) ℓ)

/-- A staged block, by where its elements lie in the array. -/
theorem staged (f : S16384x3584.Idx → EReal) (n k : ℕ) (hn : n < 64) (hk : k < 7) (e : S256x512.Idx → S16384x3584.Idx)
    (h0 : ∀ j, (e j 0).val = n * 256 + (j 0).val) (h1 : ∀ j, (e j 1).val = k * 512 + (j 1).val) :
    (fun j => f (e j)) = blk (F := Ideal) f n (512 * k) := by
  funext j
  have l0 : (j 0).val < 256 := (j 0).isLt
  have l1 : (j 1).val < 512 := (j 1).isLt
  refine congrArg f (funext fun a => Fin.ext ?_)
  match a with
  | ⟨0, _⟩ =>
    refine (h0 j).trans ?_
    show n * 256 + (j 0).val = (256 * n + (j 0).val) % 16384
    omega
  | ⟨1, _⟩ =>
    refine (h1 j).trans ?_
    show k * 512 + (j 1).val = (512 * k + (j 1).val) % 3584
    omega

theorem in0_eq (c : Dev nD) (t : Fin grid0.N) : in0 (F := Ideal) m c t = blk (F := Ideal) (xIn m c) (grid0.coords t 1).val 0 :=
  staged (xIn m c) _ 0 (grid0.coords t 1).isLt (by decide) (win0_0.rect t).emb
    (fun j => (win0_0.rect_emb_val t j 0).trans (by rw [(blocks t).1.1.1]; rfl)) (fun j => (win0_0.rect_emb_val t j 1).trans (by rw [(blocks t).1.1.2]; rfl))

theorem in1_eq (c : Dev nD) (t : Fin grid0.N) : in1 (F := Ideal) m c t = blk (F := Ideal) (xIn m c) (grid0.coords t 1).val 512 :=
  staged (xIn m c) _ 1 (grid0.coords t 1).isLt (by decide) (win0_1.rect t).emb
    (fun j => (win0_1.rect_emb_val t j 0).trans (by rw [(blocks t).1.2.1.1]; rfl)) (fun j => (win0_1.rect_emb_val t j 1).trans (by rw [(blocks t).1.2.1.2]; rfl))

theorem in2_eq (c : Dev nD) (t : Fin grid0.N) : in2 (F := Ideal) m c t = blk (F := Ideal) (xIn m c) (grid0.coords t 1).val 1024 :=
  staged (xIn m c) _ 2 (grid0.coords t 1).isLt (by decide) (win0_2.rect t).emb
    (fun j => (win0_2.rect_emb_val t j 0).trans (by rw [(blocks t).1.2.2.1]; rfl)) (fun j => (win0_2.rect_emb_val t j 1).trans (by rw [(blocks t).1.2.2.2]; rfl))

theorem in3_eq (c : Dev nD) (t : Fin grid0.N) : in3 (F := Ideal) m c t = blk (F := Ideal) (xIn m c) ((grid0.coords t 1).val - 1) 512 :=
  staged (xIn m c) _ 1 ((Nat.sub_le _ _).trans_lt (grid0.coords t 1).isLt) (by decide) (win0_3.rect t).emb
    (fun j => (win0_3.rect_emb_val t j 0).trans (by rw [(blocks t).2.1.1.1]; rfl)) (fun j => (win0_3.rect_emb_val t j 1).trans (by rw [(blocks t).2.1.1.2]; rfl))

theorem in4_eq (c : Dev nD) (t : Fin grid0.N) : in4 (F := Ideal) m c t = blk (F := Ideal) (xIn m c) ((grid0.coords t 1).val - 1) 1024 :=
  staged (xIn m c) _ 2 ((Nat.sub_le _ _).trans_lt (grid0.coords t 1).isLt) (by decide) (win0_4.rect t).emb
    (fun j => (win0_4.rect_emb_val t j 0).trans (by rw [(blocks t).2.1.2.1]; rfl)) (fun j => (win0_4.rect_emb_val t j 1).trans (by rw [(blocks t).2.1.2.2]; rfl))

/-- The lanes below 64 of a pair belong to its first head. -/
theorem pair_at (acc : Fin 8 → FVec Ideal S256x128 .f32) (p : Fin 4) (r : Fin 256) (y : Fin 128) :
    sbPair (F := Ideal) acc p (ix2 r y) = if y.val < 64 then acc ⟨2 * p.val, by omega⟩ (ix2 r y) else acc ⟨2 * p.val + 1, by omega⟩ (ix2 r y) := by
  unfold sbPair
  pointwise [first_head]

theorem out_at (c : Dev nD) (t : Fin grid0.N) (j : S256x512.Idx) :
    out5 (F := Ideal) m c t j = val (xIn m c) ((j 1).val / 64) (256 * (grid0.coords t 1).val + (j 0).val) 0 ((j 1).val % 128) := by
  have l1 : (j 1).val < 512 := (j 1).isLt
  unfold out5 sbOut
  rw [in0_eq, in1_eq, in2_eq, in3_eq, in4_eq]
  have hv := sbAcc_val (xIn m c) (grid0.coords t 1).val (grid0.coords t 1).isLt
  generalize sbAcc (F := Ideal) (xIn m c) _ _ _ _ _ _ = acc at hv
  refine (congrArg (sbPair acc _) (eq_ix2 _)).trans ((pair_at acc _ _ _).trans ?_)
  have key : ∀ (h : Fin 8), h.val = (j 1).val / 64 → acc h (ix2 (j 0) ⟨(j 1).val % 128, Nat.mod_lt _ (by decide)⟩)
      = val (xIn m c) ((j 1).val / 64) (256 * (grid0.coords t 1).val + (j 0).val) 0 ((j 1).val % 128) := fun h e => by
    rw [← e]
    exact hv h (j 0) ⟨(j 1).val % 128, Nat.mod_lt _ (by decide)⟩
  split
  next h => exact key _ (by show 2 * ((j 1).val / 128) = _; have : (j 1).val % 128 < 64 := h; omega)
  next h => exact key _ (by show 2 * ((j 1).val / 128) + 1 = _; have : ¬ (j 1).val % 128 < 64 := h; omega)

theorem flushed_goal (c : Dev nD) (t : Fin (cfg0 (F := Ideal)).N) :
    (dats (F := Ideal) m 0 c).flushed 5 t = (win0_5.blk t).view.read (Elt Ideal) (goal (xIn m c)) := by
  funext j
  refine (out_at m c t j).trans ?_
  show _ = goal (xIn m c) ((win0_5.rect t).emb j)
  have e0 : ((win0_5.rect t).emb j 0).val = (grid0.coords t 1).val * 256 + (j 0).val := (win0_5.rect_emb_val t j 0).trans (by rw [(blocks t).2.2.1]; rfl)
  have e1 : ((win0_5.rect t).emb j 1).val = 0 * 512 + (j 1).val := (win0_5.rect_emb_val t j 1).trans (by rw [(blocks t).2.2.2]; rfl)
  unfold goal
  rw [e0, e1, Nat.zero_mul, Nat.zero_add, Nat.mul_comm]

theorem covered (i : S16384x512.Idx) : ∃ t : Fin (cfg0 (F := Ideal)).N, ((cfg0 (F := Ideal)).win 5).flush t = true ∧ i ∈ (((cfg0 (F := Ideal)).win 5).blk t).view.set := by
  have h0 : (i 0).val < 16384 := (i 0).isLt
  have h1 : (i 1).val < 512 := (i 1).isLt
  have hN : grid0.N = 64 := N_0
  have ht : (i 0).val / 256 < grid0.N := by omega
  refine ⟨⟨(i 0).val / 256, ht⟩, flush0_5 _, ?_⟩
  have hc : (grid0.coords ⟨(i 0).val / 256, ht⟩ 1).val = (i 0).val / 256 := by
    rw [Pipeline.Grid.coords_val (S := 1) (B := 64) _ _ (by decide) rfl]; show (i 0).val / 256 / 1 % 64 = _; omega
  show i ∈ ((View.whole main_v0).slice (win0_5.rect ⟨(i 0).val / 256, ht⟩)).set
  rw [View.set_slice_whole, Rect.mem_set_unit]
  have b := (blocks ⟨(i 0).val / 256, ht⟩).2.2
  intro a
  match a with
  | ⟨0, _⟩ =>
    show win0_5.index _ 0 * 256 ≤ (i 0).val ∧ (i 0).val < win0_5.index _ 0 * 256 + 256
    rw [b.1, hc]; omega
  | ⟨1, _⟩ =>
    show win0_5.index _ 1 * 512 ≤ (i 1).val ∧ (i 1).val < win0_5.index _ 1 * 512 + 512
    rw [b.2]; omega

/-- The result array after the run. -/
theorem final_goal (c : Dev nD) : final (F := Ideal) m c = goal (xIn m c) :=
  (dats (F := Ideal) m 0 c).arrAt_eq_of_cover 5 (goal (xIn m c)) (fun t _ => flushed_goal m c t) covered

end Cert.Stick

end
-- ==== Proof.Val.Ref.lean ====
/-
  What the reference computes, at every row and column.
-/
module

public import proofs.«01_k».proof.Proof.Gen.ReferenceIdeal.Run
public import proofs.«01_k».proof.Proof.Val.Acc
public import Idealize.ShloMosaic.Lib.Pointwise
public import Idealize.ShloMosaic.Lib.WordCmp

@[expose] public section

noncomputable section

namespace Cert.Stick.Ref

open Cert.ReferenceIdeal Cert.ReferenceIdeal.Gen
open Idealize.ShloMosaic Idealize.ShloMosaic.TcCoe
open Finset

/-- The scores of all queries and keys. -/
def rZ (x : FVec Ideal S16384x3584 .bf16) : FVec Ideal S8x16384x16384 .f32 :=
  Host.dotGeneral dot_S16384x8x64_S16384x8x64_S8x16384x16384_2_2_0_0_1_1 none
    (shapeCast _ (extractStridedSlice S16384x512 ![0, 0] x slices_S16384x3584_S16384x512_0_0) shapeCasts_S16384x512_S16384x8x64)
    (shapeCast _ (extractStridedSlice S16384x512 ![0, 512] x slices_S16384x3584_S16384x512_0_512) shapeCasts_S16384x512_S16384x8x64)

/-- Zeros. -/
def rO : FVec Ideal S8x16384x16384 .f32 := broadcastInDim S8x16384x16384 ![] bcast_S_S8x16384x16384 (constant S_ .f32 0x00000000#32)

/-- The logarithm of the sigmoid. -/
def rLs (z : FVec Ideal S8x16384x16384 .f32) : FVec Ideal S8x16384x16384 .f32 :=
  Host.negf (select (cmpf .une (subf (Host.negf z) rO) (subf (Host.negf z) rO)) (addf (Host.negf z) rO)
    (addf (maximumf (Host.negf z) rO) (Host.log1p (Host.exp (Host.negf (Host.absf (subf (Host.negf z) rO)))))))

/-- The keys before the query. -/
def rBefore : IVec S16384x16384 1 := cmpi .slt (iotaInDim S16384x16384 32 1) (iotaInDim S16384x16384 32 0)

def rAll (c : IVec S16384x16384 1) : IVec S8x16384x16384 1 :=
  broadcastInDim S8x16384x16384 ![0, 1, 2] bcast_S1x16384x16384_S8x16384x16384_0_1_2
    (broadcastInDim S1x16384x16384 ![1, 2] bcast_S16384x16384_S1x16384x16384_1_2 c)

/-- The logarithms of the not-stopping probabilities, and their sums over the later keys. -/
def rL (x : FVec Ideal S16384x3584 .bf16) : FVec Ideal S8x16384x16384 .f32 := select (rAll rBefore) (rLs (Host.negf (rZ x))) rO

def rR (l : FVec Ideal S8x16384x16384 .f32) : FVec Ideal S8x16384x16384 .f32 :=
  Host.reduceWindowAdd ![1, 1, 16384] ![1, 1, 1] ![0, 0, 0] ![0, 0, 16383] l
    (broadcastInDim S_ ![] bcast_S_S_ (constant S_ .f32 0x00000000#32)) reduceWindows_S8x16384x16384_S8x16384x16384_w1s1p0_0_w1s1p0_0_w16384s1p0_16383 h_S_

/-- The largest of the sums of a query block's rows before a key block. -/
def rLeft (r : FVec Ideal S8x16384x16384 .f32) : FVec Ideal S64x64 .f32 :=
  Host.reduce FloatOps.maximumf (shapeCast S8x64x256x64 (extractStridedSlice S8x64x256x64x1 ![0, 0, 0, 0, 0]
    (shapeCast _ r shapeCasts_S8x16384x16384_S8x64x256x64x256) slices_S8x64x256x64x256_S8x64x256x64x1_0_0_0_0_0) shapeCasts_S8x64x256x64x1_S8x64x256x64)
    (constant S_ .f32 0xFF800000#32) reducesTo_S8x64x256x64_S64x64_d0_2 h_S_

/-- The live blocks. -/
def rLive (left : FVec Ideal S64x64 .f32) : IVec S64x64 1 :=
  ori (cmpi .sge (addi (iotaInDim S64x64 32 1) (broadcastInDim S64x64 ![] bcast_S_S64x64 (constantI S_ 32 1#32))) (iotaInDim S64x64 32 0))
    (cmpf .ogt (concatenate S64x64 1 [⟨S64x63, (extractStridedSlice S64x63 ![0, 1] left slices_S64x64_S64x63_0_1)⟩,
      ⟨S64x1, (broadcastInDim S64x1 ![] bcast_S_S64x1 (constant S_ .f32 0x00000000#32))⟩] concatenates_S64x63_S64x1_S64x64_d1)
      (broadcastInDim S64x64 ![] bcast_S_S64x64 (constant S_ .f32 0xC2D00000#32)))

def rRep (l : IVec S64x64 1) : IVec S16384x16384 1 :=
  shapeCast _ (broadcastInDim S16384x64x256 ![0, 1] bcast_S16384x64_S16384x64x256_0_1
    (shapeCast _ (broadcastInDim S64x256x64 ![0, 2] bcast_S64x64_S64x256x64_0_2 l) shapeCasts_S64x256x64_S16384x64)) shapeCasts_S16384x64x256_S16384x16384

/-- The weights. -/
def rA (x : FVec Ideal S16384x3584 .bf16) : FVec Ideal S8x16384x16384 .f32 :=
  select (rAll (andi rBefore (rRep (rLive (rLeft (rR (rL x))))))) (Host.exp (addf (rLs (rZ x)) (subf (rR (rL x)) (rL x)))) rO

def rOut (x : FVec Ideal S16384x3584 .bf16) : FVec Ideal S16384x512 .bf16 :=
  truncf .bf16 (shapeCast _ (transpose S16384x8x64 [2, 0, 1] (Host.dotGeneral dot_S16384x8x64_S8x16384x16384_S8x64x16384_0_2_2_1_1_0 none
    (shapeCast _ (extractStridedSlice S16384x512 ![0, 1024] x slices_S16384x3584_S16384x512_0_1024) shapeCasts_S16384x512_S16384x8x64)
    (truncf .bf16 (rA x) bitsLt_bf16_f32)) transposes_S8x64x16384_S16384x8x64_2_0_1) shapeCasts_S16384x8x64_S16384x512) bitsLt_bf16_f32

theorem res_eq (m : (ℓ : Loc nD τ sig) → Buf (Elt Ideal) ℓ) (c : Dev nD) :
    Cert.ReferenceIdeal.Value.res_main_v48 (F := Ideal) m c = rOut (m ((c.tc : Thread nD τ).loc main_arg0)) := rfl

variable (x : FVec Ideal S16384x3584 .bf16)

theorem cell_ix (i : Fin 16384) (c : ℕ) (hc : c < 3584) : cell x i.val c = x (ix2 i ⟨c, hc⟩) := by
  refine congrArg x (funext fun a => Fin.ext ?_)
  have := i.isLt
  match a with
  | ⟨0, _⟩ => exact Nat.mod_eq_of_lt this
  | ⟨1, _⟩ => exact Nat.mod_eq_of_lt hc

theorem before_at (i j : Fin 16384) : rBefore (ix2 i j) = BitVec.ofBool (decide (j.val < i.val)) := by
  unfold rBefore
  have := i.isLt
  have := j.isLt
  pointwise
  exact WordCmp.cmpi_slt_ofNat (by omega) (by omega)

theorem all_at (c : IVec S16384x16384 1) (h : Fin 8) (i j : Fin 16384) : rAll c (ix3 h i j) = c (ix2 i j) := by
  unfold rAll
  pointwise

theorem rep_at (l : IVec S64x64 1) (i j : Fin 16384) : rRep l (ix2 i j) = l (ix2 ⟨i.val / 256, by omega⟩ ⟨j.val / 256, by omega⟩) := by
  unfold rRep
  pointwise
  done

theorem foldl_sum {M ι : Type*} [AddCommMonoid M] (g : ι → M) (l : List ι) (v : M) : l.foldl (fun r n => r + g n) v = v + (l.map g).sum := by
  induction l generalizing v with
  | nil => simp
  | cons a l ih => rw [List.foldl_cons, ih, List.map_cons, List.sum_cons, add_assoc]

/-- A window sum that reaches from an element to the end of its row. -/
theorem window_tail {A B N M : ℕ} (l : (⟨3, ![A, B, N]⟩ : Shape).Idx → EReal) (init : S_.Idx → EReal) (h0 : ∀ q, init q = 0)
    (hw : (⟨3, ![A, B, N]⟩ : Shape).ReduceWindows (![1, 1, N] : Fin 3 → ℕ) ![1, 1, 1] ![0, 0, 0] ![0, 0, M] (⟨3, ![A, B, N]⟩ : Shape)) (hu : 0 < S_.numel)
    (g : ℕ → EReal) (h : Fin A) (i : Fin B) (j : Fin N) (hl : ∀ k : Fin N, l (ix3 h i k) = g k.val) :
    Host.reduceWindow (· + ·) (![1, 1, N] : Fin 3 → ℕ) ![1, 1, 1] ![0, 0, 0] ![0, 0, M] l init hw hu (ix3 h i j) = ∑ k ∈ Ico j.val N, g k := by
  have hj := j.isLt
  unfold Host.reduceWindow
  refine (foldl_sum _ (List.finRange _) _).trans ?_
  rw [h0, zero_add, ← Fin.sum_univ_def]
  refine (sum_congr rfl fun n _ => (?_ : _ = if j.val + ((⟨3, ![1, 1, N]⟩ : Shape).rowMajor.symm n 2).val < N
    then g (j.val + ((⟨3, ![1, 1, N]⟩ : Shape).rowMajor.symm n 2).val) else 0)).trans ?_
  · have w0 : ((⟨3, ![1, 1, N]⟩ : Shape).rowMajor.symm n 0).val < 1 := ((⟨3, ![1, 1, N]⟩ : Shape).rowMajor.symm n 0).isLt
    have w1 : ((⟨3, ![1, 1, N]⟩ : Shape).rowMajor.symm n 1).val < 1 := ((⟨3, ![1, 1, N]⟩ : Shape).rowMajor.symm n 1).isLt
    split
    · next hin =>
      have h2 : 0 ≤ j.val * 1 + ((⟨3, ![1, 1, N]⟩ : Shape).rowMajor.symm n 2).val ∧ j.val * 1 + ((⟨3, ![1, 1, N]⟩ : Shape).rowMajor.symm n 2).val - 0 < N := hin 2
      rw [if_pos (by omega), ← hl ⟨j.val + ((⟨3, ![1, 1, N]⟩ : Shape).rowMajor.symm n 2).val, by omega⟩]
      refine congrArg l (funext fun a => Fin.ext ?_)
      match a with
      | ⟨0, _⟩ => show h.val * 1 + ((⟨3, ![1, 1, N]⟩ : Shape).rowMajor.symm n 0).val - 0 = h.val; omega
      | ⟨1, _⟩ => show i.val * 1 + ((⟨3, ![1, 1, N]⟩ : Shape).rowMajor.symm n 1).val - 0 = i.val; omega
      | ⟨2, _⟩ => show j.val * 1 + ((⟨3, ![1, 1, N]⟩ : Shape).rowMajor.symm n 2).val - 0 = j.val + ((⟨3, ![1, 1, N]⟩ : Shape).rowMajor.symm n 2).val; omega
    · next hin =>
      rw [if_neg fun hlt => hin fun a => ?_]
      have := h.isLt
      have := i.isLt
      match a with
      | ⟨0, _⟩ => show 0 ≤ h.val * 1 + ((⟨3, ![1, 1, N]⟩ : Shape).rowMajor.symm n 0).val ∧ h.val * 1 + ((⟨3, ![1, 1, N]⟩ : Shape).rowMajor.symm n 0).val - 0 < A; omega
      | ⟨1, _⟩ => show 0 ≤ i.val * 1 + ((⟨3, ![1, 1, N]⟩ : Shape).rowMajor.symm n 1).val ∧ i.val * 1 + ((⟨3, ![1, 1, N]⟩ : Shape).rowMajor.symm n 1).val - 0 < B; omega
      | ⟨2, _⟩ => show 0 ≤ j.val * 1 + ((⟨3, ![1, 1, N]⟩ : Shape).rowMajor.symm n 2).val ∧ j.val * 1 + ((⟨3, ![1, 1, N]⟩ : Shape).rowMajor.symm n 2).val - 0 < N; omega
  refine (Equiv.sum_comp (⟨3, ![1, 1, N]⟩ : Shape).rowMajor.symm (fun w => if j.val + (w 2).val < N then g (j.val + (w 2).val) else 0)).trans ?_
  rw [sum_idx3]
  simp only [Finset.univ_unique, sum_singleton]
  refine (Fin.sum_univ_eq_sum_range (fun k => if j.val + k < N then g (j.val + k) else 0) N).trans ?_
  rw [sum_Ico_eq_sum_range, ← sum_filter]
  refine sum_congr (Finset.ext fun k => ?_) fun _ _ => rfl
  rw [mem_filter, mem_range, mem_range]
  omega

theorem zero_at (q : S_.Idx) : broadcastInDim S_ ![] bcast_S_S_ (constant (F := Ideal) S_ .f32 0x00000000#32) q = (0 : EReal) := by
  pointwise

theorem windowAdd_eq {s t u : Shape} (window strides lo hi : Fin s.rank → ℕ) (x : FVec Ideal s .f32) (init : u.Idx → Ideal .f32)
    (h : s.ReduceWindows window strides lo hi t) (hu : 0 < u.numel) (h0 : 0 < S_.numel) :
    Host.reduceWindowAdd window strides lo hi x init h hu
      = Host.reduceWindow (fun a b : EReal => a + b) window strides lo hi x (fun _ : S_.Idx => init (Shape.Idx.first hu)) h h0 := rfl

/-- The sums over the later keys. -/
theorem rR_at (l : FVec Ideal S8x16384x16384 .f32) (g : ℕ → EReal) (h : Fin 8) (i j : Fin 16384) (hl : ∀ k : Fin 16384, l (ix3 h i k) = g k.val) :
    rR l (ix3 h i j) = ∑ k ∈ Ico j.val 16384, g k := by
  unfold rR
  rw [windowAdd_eq _ _ _ _ _ _ _ _ h_S_]
  exact window_tail l _ (fun q => zero_at _) _ _ g h i j hl

theorem fold_gt {ι : Type*} (s : Finset ι) (f : ι → EReal) (b t : EReal) :
    t < s.fold (FloatOps.maximumf (F := Ideal) (φ := .f32)) b f ↔ t < b ∨ ∃ q ∈ s, t < f q :=
  Finset.lt_fold_max t

theorem rLeft_gt (r : FVec Ideal S8x16384x16384 .f32) (n b : Fin 64) (t : EReal) :
    t < rLeft r (ix2 n b) ↔ t < ⊥ ∨ ∃ (h : Fin 8) (p : Fin 256), t < r (ix3 h ⟨n.val * 256 + p.val, by omega⟩ ⟨b.val * 256, by omega⟩) := by
  have hy : ∀ (h : Fin 8) (p : Fin 256) (n b : Fin 64), shapeCast S8x64x256x64 (extractStridedSlice S8x64x256x64x1 ![0, 0, 0, 0, 0]
    (shapeCast S8x64x256x64x256 r shapeCasts_S8x16384x16384_S8x64x256x64x256) slices_S8x64x256x64x256_S8x64x256x64x1_0_0_0_0_0) shapeCasts_S8x64x256x64x1_S8x64x256x64 (ix4 h n p b)
      = r (ix3 h ⟨n.val * 256 + p.val, by omega⟩ ⟨b.val * 256, by omega⟩) := fun h p n b => by
    pointwise
  unfold rLeft
  rw [Host.reduce_eq_fold]
  refine (fold_gt _ _ _ t).trans ?_
  refine or_congr (by rw [show (constant (F := Ideal) S_ .f32 0xFF800000#32) (Shape.Idx.first h_S_) = ⊥ from neg_inf]) ⟨?_, ?_⟩
  · rintro ⟨q, hq, hlt⟩
    have hd := (mem_filter.1 hq).2
    rw [eq_ix4 q] at hlt
    refine ⟨q 0, q 2, ?_⟩
    rw [show q 1 = n from Fin.ext (congrArg Fin.val (congrFun hd 0)), show q 3 = b from Fin.ext (congrArg Fin.val (congrFun hd 1))] at hlt
    exact hlt.trans_eq (hy (q 0) (q 2) n b)
  · rintro ⟨h, p, hlt⟩
    refine ⟨ix4 h n p b, mem_filter.2 ⟨mem_univ _, ?_⟩, by rw [hy]; exact hlt⟩
    funext a
    match a with
    | ⟨0, _⟩ => rfl
    | ⟨1, _⟩ => rfl

theorem c104 : Ideal.ofBits .f32 0xC2D00000#32 = ((-104 : ℝ) : EReal) := by
  simp [Ideal.ofBits, Ideal.ieee, -EReal.coe_mul]
  norm_num

theorem sel_of (p : Prop) [Decidable p] (a b : EReal) : Scalar.select (BitVec.ofBool (decide p)) a b = if p then a else b := by
  by_cases h : p
  · rw [if_pos h, decide_eq_true h]; rfl
  · rw [if_neg h, decide_eq_false h]; rfl

theorem and_of (p q : Prop) [Decidable p] [Decidable q] : IntOp.andi (BitVec.ofBool (decide p)) (BitVec.ofBool (decide q)) = BitVec.ofBool (decide (p ∧ q)) := by
  by_cases h : p <;> by_cases h' : q <;> simp [h, h'] <;> rfl

theorem or_of (p q : Prop) [Decidable p] [Decidable q] : IntOp.ori (BitVec.ofBool (decide p)) (BitVec.ofBool (decide q)) = BitVec.ofBool (decide (p ∨ q)) := by
  by_cases h : p <;> by_cases h' : q <;> simp [h, h'] <;> rfl

theorem rZ_at (h : Fin 8) (i j : Fin 16384) : rZ x (ix3 h i j) = Z (cell x) h.val i.val j.val := by
  unfold rZ Z
  pointwise
  refine sum_congr rfl fun k _ => ?_
  have := k.isLt
  have := h.isLt
  rw [cell_ix x i _ (by omega), cell_ix x j _ (by omega)]
  refine congrArg₂ (fun a b => x (ix2 i a) * x (ix2 j b)) (Fin.ext ?_) (Fin.ext ?_)
  · show h.val * 64 + k.val = 64 * h.val + k.val
    omega
  · show 512 + (h.val * 64 + k.val) = 512 + 64 * h.val + k.val
    omega

theorem rLs_at (z : FVec Ideal S8x16384x16384 .f32) (q : S8x16384x16384.Idx) : rLs z q = -spE (-(z q)) := by
  obtain ⟨h, i, j, rfl⟩ : ∃ (h : Fin 8) (i j : Fin 16384), q = ix3 h i j := ⟨_, _, _, eq_ix3 q⟩
  unfold rLs rO
  pointwise
  rw [if_neg (not_not.2 rfl), Ideal.absf_def]
  rfl

theorem rL_at (h : Fin 8) (i j : Fin 16384) : rL x (ix3 h i j) = L (cell x) h.val i.val j.val := by
  unfold rL L
  show Scalar.select (rAll rBefore (ix3 h i j)) (rLs (Host.negf (rZ x)) (ix3 h i j)) (rO (ix3 h i j)) = _
  rw [all_at, before_at, sel_of, rLs_at]
  show (if _ then -spE (-(-(rZ x (ix3 h i j)))) else _) = _
  rw [neg_neg, rZ_at]
  split
  · rfl
  · unfold rO
    pointwise

theorem rR_val (h : Fin 8) (i j : Fin 16384) : rR (rL x) (ix3 h i j) = R (cell x) h.val i.val j.val := by
  rw [rR_at (rL x) (fun k => L (cell x) h.val i.val k) h i j fun k => rL_at x h i k]
  rfl

open Classical in
theorem rLive_at (n b : Fin 64) : rLive (rLeft (rR (rL x))) (ix2 n b) = BitVec.ofBool (decide (Live (cell x) n.val b.val)) := by
  have := n.isLt
  have := b.isLt
  unfold rLive
  pointwise
  rw [show IntOp.addi (BitVec.ofNat 32 b.val) 1#32 = BitVec.ofNat 32 (b.val + 1) from (BitVec.ofNat_add b.val 1).symm, WordCmp.cmpi_sge_ofNat (by omega) (by omega)]
  refine (or_of _ _).trans (congrArg BitVec.ofBool (decide_eq_decide.2 (or_congr Iff.rfl ?_)))
  rw [c104]
  by_cases hb : b.val < 63
  · rw [dif_pos hb, rLeft_gt]
    constructor
    · rintro (h | ⟨h, p, hp⟩)
      · exact absurd h not_lt_bot
      · rw [rR_val x] at hp
        refine ⟨h.val, h.isLt, p.val, p.isLt, ?_⟩
        rw [show 256 * n.val + p.val = n.val * 256 + p.val by omega, show 256 * (b.val + 1) = (1 + b.val) * 256 by omega]
        exact hp
    · rintro ⟨h, hh, p, hp, hlt⟩
      refine Or.inr ⟨⟨h, hh⟩, ⟨p, hp⟩, ?_⟩
      rw [rR_val x]
      rw [show 256 * n.val + p = n.val * 256 + p by omega, show 256 * (b.val + 1) = (1 + b.val) * 256 by omega] at hlt
      exact hlt
  · rw [dif_neg hb]
    have h0 : ((-104 : ℝ) : EReal) < 0 := by
      rw [← EReal.coe_zero]
      exact EReal.coe_lt_coe_iff.2 (by norm_num)
    refine iff_of_true h0 ⟨0, by omega, 0, by omega, ?_⟩
    rw [show 256 * (b.val + 1) = 16384 by omega, R_top]
    exact h0

open Classical in
theorem rA_at (h : Fin 8) (i j : Fin 16384) : rA x (ix3 h i j) = T (cell x) h.val i.val j.val := by
  have hj := j.isLt
  unfold rA T
  pointwise [all_at, before_at, rep_at]
  rw [rLive_at x, and_of, sel_of, rLs_at, rZ_at, rR_val, rL_at]
  split
  next hc =>
    rw [W, R_split (X := cell x) h.val i.val (show j.val ≤ j.val + 1 by omega) (by omega), Nat.Ico_succ_singleton, sum_singleton,
      show L (cell x) h.val i.val j.val = -spE (Z (cell x) h.val i.val j.val) from if_pos hc.1, stop_sum]
  · unfold rO
    pointwise

theorem rOut_val (i : Fin 16384) (c : Fin 512) : rOut x (ix2 i c) = val x (c.val / 64) i.val 0 (c.val % 128) := by
  have := c.isLt
  unfold rOut
  pointwise
  unfold val
  rw [← range_eq_Ico, ← Fin.sum_univ_eq_sum_range (fun k => T (cell x) (c.val / 64) i.val k * cell x k (1024 + 128 * (c.val / 64 / 2) + c.val % 128))]
  refine sum_congr rfl fun k _ => ?_
  rw [rA_at x, mul_comm, cell_ix x k _ (by omega)]
  refine congrArg (fun a => _ * x (ix2 k a)) (Fin.ext ?_)
  show 1024 + c.val = 1024 + 128 * (c.val / 64 / 2) + c.val % 128
  omega

end Cert.Stick.Ref

end
-- ==== Proof.Val.Claim.lean ====
/-
  The kernel's result is the reference's.
-/
module

public import proofs.«01_k».proof.Defs
public import proofs.«01_k».proof.Proof.Val.Final
public import proofs.«01_k».proof.Proof.Val.Ref

@[expose] public section

noncomputable section

namespace Cert.Stick

open Idealize.ShloMosaic Idealize.ShloMosaic.TcCoe

/-- The kernel's result array is the reference's. -/
theorem result_eq (m : (ℓ : Loc Cert.KernelIdeal.nD Cert.KernelIdeal.τ Cert.KernelIdeal.sig) → Buf (Elt Ideal) ℓ) (c : Dev Cert.KernelIdeal.nD) :
    Ref.rOut (Cert.KernelIdeal.Hand.xIn m c) = Cert.KernelIdeal.Hand.final (F := Ideal) m c := by
  rw [final_goal m c]
  funext i
  refine (congrArg (Ref.rOut (Cert.KernelIdeal.Hand.xIn m c)) (eq_ix2 i)).trans ?_
  exact Ref.rOut_val (Cert.KernelIdeal.Hand.xIn m c) (i 0) (i 1)

theorem algebraic : Cert.algebraic_KernelIdeal_ReferenceIdeal := by
  intro m g m' g' _ hagree
  refine ⟨fun c => Cert.KernelIdeal.Hand.final (F := Ideal) m c, ?_, ?_⟩
  · exact (θ_run Cert.KernelIdeal.defs _ _).mono (fun _ h c => ⟨(h.1 c).2, (h.1 c).1⟩) (Cert.KernelIdeal.Hand.run_main (F := Ideal) m g)
  · refine (θ_run Cert.ReferenceIdeal.defs _ _).mono (fun _ h c => ⟨(h c).1.trans ?_, (h c).2⟩) (Cert.ReferenceIdeal.Value.run (F := Ideal) m' g')
    rw [Ref.res_eq, hagree c]
    exact result_eq m c

end Cert.Stick

end
-- ==== Proof.Lin.Frames.lean ====
/-
  The frames of the calls after the first: each kernel, its idealization and its reference.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run

@[expose] public section

noncomputable section

namespace Cert.Proof

open Idealize.ShloMosaic Idealize.SL.Sem

theorem frame_kernel2 : Cert.quiescent_Kernel2 := fun m g _ => Cert.Kernel2.Gen.frame (F := Bits) m g

theorem frame_ideal2 : Cert.quiescent_Kernel2Ideal := fun m g _ => Cert.Kernel2Ideal.Gen.frame (F := Ideal) m g

theorem frame_reference2 : Cert.quiescent_Reference2Ideal := fun m g _ =>
  (θ_run Cert.Reference2Ideal.defs _ _).mono (fun r h => ⟨fun c => (h c).2.2.2.2.2.2, sem_eq_zero_of_no_sems (by decide) r.2⟩)
    (Cert.Reference2Ideal.Value.run (F := Ideal) m g)

theorem frame_kernel3 : Cert.quiescent_Kernel3 := fun m g _ => Cert.Kernel3.Gen.frame (F := Bits) m g

theorem frame_ideal3 : Cert.quiescent_Kernel3Ideal := fun m g _ => Cert.Kernel3Ideal.Gen.frame (F := Ideal) m g

theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem frame_kernel4 : Cert.quiescent_Kernel4 := fun m g _ => Cert.Kernel4.Gen.frame (F := Bits) m g

theorem frame_ideal4 : Cert.quiescent_Kernel4Ideal := fun m g _ => Cert.Kernel4Ideal.Gen.frame (F := Ideal) m g

theorem frame_reference4 : Cert.quiescent_Reference4Ideal := fun m g _ =>
  (θ_run Cert.Reference4Ideal.defs _ _).mono (fun r h => ⟨fun c => (h c).2.2.2.2.2.2, sem_eq_zero_of_no_sems (by decide) r.2⟩)
    (Cert.Reference4Ideal.Value.run (F := Ideal) m g)

theorem frame_kernel5 : Cert.quiescent_Kernel5 := fun m g _ => Cert.Kernel5.Gen.frame (F := Bits) m g

theorem frame_ideal5 : Cert.quiescent_Kernel5Ideal := fun m g _ => Cert.Kernel5Ideal.Gen.frame (F := Ideal) m g

theorem frame_reference5 : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

theorem frame_kernel6 : Cert.quiescent_Kernel6 := fun m g _ => Cert.Kernel6.Gen.frame (F := Bits) m g

theorem frame_ideal6 : Cert.quiescent_Kernel6Ideal := fun m g _ => Cert.Kernel6Ideal.Gen.frame (F := Ideal) m g

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem frame_kernel7 : Cert.quiescent_Kernel7 := fun m g _ => Cert.Kernel7.Gen.frame (F := Bits) m g

theorem frame_ideal7 : Cert.quiescent_Kernel7Ideal := fun m g _ => Cert.Kernel7Ideal.Gen.frame (F := Ideal) m g

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

end Cert.Proof

end
-- ==== Proof.Lin.Proj.lean ====
/-
  The product of a normed row and a column.
-/
module

public import Idealize.ShloMosaic.Lib.Pointwise
public import Idealize.ShloMosaic.PureOps.IdealRules

@[expose] public section

noncomputable section

namespace Cert.Lin

open Idealize.ShloMosaic

/-- A row divided by the root of its mean square, times a scale. -/
def normed (x g : Fin 1024 → EReal) (k : Fin 1024) : EReal :=
  x k * Ideal.rsqrt (Ideal.div (∑ i, x i * x i) (Ideal.ofBits FTy.f32 1149239296#32) + Ideal.ofBits FTy.f32 897988541#32) * g k

/-- The product of a normed row and a column. -/
def proj (x g w : Fin 1024 → EReal) : EReal := ∑ k, normed x g k * w k

end Cert.Lin

end
-- ==== Proof.Lin.In.lean ====
/-
  The projections of the prompt's rows: the kernel's arrays are the reference's.
-/
module

public import proofs.«01_k».proof.Defs
public import proofs.«01_k».proof.Proof.Gen.Kernel2Ideal.Value
public import proofs.«01_k».proof.Proof.Gen.Reference2Ideal.Run
public import proofs.«01_k».proof.Proof.Lin.Proj

@[expose] public section

noncomputable section

namespace Cert.Lin.In

open Idealize.ShloMosaic Idealize.ShloMosaic.TcCoe
open Idealize.ShloMosaic.Pipeline (Dat)

/-- The factor of a column: an eighth for the queries of the two self attentions. -/
def fac (c : ℕ) : EReal := if c < 512 ∨ (1536 ≤ c ∧ c < 2048) then Ideal.ofBits FTy.f32 1040187392#32 else 1

/-- A projected row at a column, the column's scale and the gates' offset not yet applied. -/
def raw {n : ℕ} (x : (⟨2, ![n, 1024]⟩ : Shape).Idx → EReal) (g : (⟨2, ![1, 1024]⟩ : Shape).Idx → EReal) (w : (⟨2, ![1024, 6656]⟩ : Shape).Idx → EReal)
    (r : Fin n) (c : ℕ) (hc : c < 6656) : EReal :=
  proj (fun k => x (ix2 r k)) (fun k => g (ix2 0 k)) (fun k => w (ix2 k ⟨c, hc⟩))

theorem raw_congr {n : ℕ} (x : (⟨2, ![n, 1024]⟩ : Shape).Idx → EReal) (g : (⟨2, ![1, 1024]⟩ : Shape).Idx → EReal) (w : (⟨2, ![1024, 6656]⟩ : Shape).Idx → EReal)
    (r : Fin n) {c d : ℕ} {hc : c < 6656} {hd : d < 6656} (e : c = d) : raw x g w r c hc = raw x g w r d hd := by
  subst e; rfl

/-- The results, each at a row and a column: the scaled columns, the plain ones from a column on, and the gates. -/
def qkv {n : ℕ} (x : (⟨2, ![n, 1024]⟩ : Shape).Idx → EReal) (g : (⟨2, ![1, 1024]⟩ : Shape).Idx → EReal) (w : (⟨2, ![1024, 6656]⟩ : Shape).Idx → EReal) :
    (⟨2, ![n, 3584]⟩ : Shape).Idx → EReal :=
  fun i => raw x g w (i 0) (i 1).val (by have h : (i 1).val < 3584 := (i 1).isLt; omega) * fac (i 1).val

def part {n : ℕ} (o : Fin 12) (x : (⟨2, ![n, 1024]⟩ : Shape).Idx → EReal) (g : (⟨2, ![1, 1024]⟩ : Shape).Idx → EReal) (w : (⟨2, ![1024, 6656]⟩ : Shape).Idx → EReal) :
    (⟨2, ![n, 512]⟩ : Shape).Idx → EReal :=
  fun i => raw x g w (i 0) (512 * o.val + (i 1).val) (by have h : (i 1).val < 512 := (i 1).isLt; omega)

def gate {n : ℕ} (x : (⟨2, ![n, 1024]⟩ : Shape).Idx → EReal) (g : (⟨2, ![1, 1024]⟩ : Shape).Idx → EReal) (w : (⟨2, ![1024, 6656]⟩ : Shape).Idx → EReal)
    (b : (⟨2, ![1, 3072]⟩ : Shape).Idx → EReal) : (⟨2, ![n, 3072]⟩ : Shape).Idx → EReal :=
  fun i => Ideal.logistic (raw x g w (i 0) (3584 + (i 1).val) (by have h : (i 1).val < 3072 := (i 1).isLt; omega) + b (ix2 0 (i 1)))

section

open Cert.Kernel2Ideal Cert.Kernel2Ideal.Gen Cert.Kernel2Ideal.Value

theorem pay3_at (x : Vec Ideal S512x1024 .f32) (g : Vec Ideal S1x1024 .f32) (s : Fin 512) (k : Fin 1024) :
    k0_pay3 (F := Ideal) x g (ix2 s k) = normed (fun k => x (ix2 s k)) (fun k => g (ix2 0 k)) k := by
  unfold k0_pay3
  pointwise
  rfl

variable (c : Dev nD) (a1 : Memref sig .tc .vmem S512x1024 .f32) (h1 : a1.IsWhole) (a2 : Memref sig .tc .vmem S1x1024 .f32) (h2 : a2.IsWhole)
  (a3 : Memref sig .tc .vmem S1024x6656 .bf16) (h3 : a3.IsWhole) (a4 : Memref sig .tc .vmem S1x3072 .f32) (h4 : a4.IsWhole) (a11 : Memref sig .tc .vmem S512x1024 .bf16)
  (x : Vec Ideal S512x1024 .f32) (g : Vec Ideal S1x1024 .f32) (w : Vec Ideal S1024x6656 .bf16) (b : Vec Ideal S1x3072 .f32)

/-- The normed rows, as they are read back. -/
theorem v18_eq : kernelRun0_A.sl.v18 (F := Ideal) c a1 h1 a2 h2 a11 x g = k0_pay3 x g := by
  unfold kernelRun0_A.sl.v18 kernelRun0_A.sl.HS0_1
  refine (View.readCov_unit_zero (S := S512x1024) a11.view (off := ![0, 0]) (by decide) _ _).trans ?_
  rw [View.readAt_eq_ld, View.readAt_eq_ld, h1.read_unread, h2.read_unread, View.ld_unit_zero (by decide), View.ld_unit_zero (by decide)]

theorem v118_eq : kernelRun0_A.sl.v118 (F := Ideal) c a1 h1 a2 h2 a11 x g = k0_pay3 x g := by
  unfold kernelRun0_A.sl.v118 kernelRun0_A.sl.HS0_1
  refine (View.readCov_unit_zero (S := S512x1024) a11.view (off := ![0, 0]) (by decide) _ _).trans ?_
  rw [View.readAt_eq_ld, View.readAt_eq_ld, h1.read_unread, h2.read_unread, View.ld_unit_zero (by decide), View.ld_unit_zero (by decide)]

theorem cols_at (o : ℕ) (inb) (k : Fin 1024) (t : Fin 512) (ho : o + t.val < 6656) :
    View.readAt (Elt Ideal) a3.view (Rect.unit (s := S1024x6656) ![0, o] S1024x512.size inb).toLoadRect (h3.unread w) (ix2 k t) = w (ix2 k ⟨o + t.val, ho⟩) := by
  rw [View.readAt_apply, h3.read_unread]
  refine congrArg w (funext fun a => Fin.ext ?_)
  match a with
  | ⟨0, _⟩ => show 0 + 1 * k.val = k.val; omega
  | ⟨1, _⟩ => show o + 1 * t.val = o + t.val; omega

theorem offs_at (o : ℕ) (inb) (t : Fin 512) (ho : o + t.val < 3072) :
    View.readAt (Elt Ideal) a4.view (Rect.unit (s := S1x3072) ![0, o] S1x512.size inb).toLoadRect (h4.unread b) (ix2 0 t) = b (ix2 0 ⟨o + t.val, ho⟩) := by
  rw [View.readAt_apply, h4.read_unread]
  refine congrArg b (funext fun a => Fin.ext ?_)
  match a with
  | ⟨0, _⟩ => rfl
  | ⟨1, _⟩ => show o + 1 * t.val = o + t.val; omega

/-- The product of the normed rows and one segment of the columns. -/
theorem seg_at (o : ℕ) (inb) (s t : Fin 512) (ho : o + t.val < 6656) :
    ∑ k, k0_pay3 (F := Ideal) x g (ix2 s k) * View.readAt (Elt Ideal) a3.view (Rect.unit (s := S1024x6656) ![0, o] S1024x512.size inb).toLoadRect (h3.unread w) (ix2 k t)
      = raw x g w s (o + t.val) ho := by
  unfold raw proj
  exact Finset.sum_congr rfl fun k _ => congrArg₂ (· * ·) (pay3_at x g s k) (cols_at a3 h3 w o inb k t ho)

section
variable (h : Vec Ideal S512x1024 .bf16) (v : Vec Ideal S1024x512 .bf16) (e : Vec Ideal S1x512 .f32) (s t : Fin 512)
theorem pay5_at : k0_pay5 (F := Ideal) h v (ix2 s t) = ∑ k, h (ix2 s k) * v (ix2 k t) := by
  unfold k0_pay5; pointwise; done
theorem pay7_at : k0_pay7 (F := Ideal) h v (ix2 s t) = ∑ k, h (ix2 s k) * v (ix2 k t) := by
  unfold k0_pay7; pointwise; done
theorem pay10_at : k0_pay10 (F := Ideal) h v (ix2 s t) = ∑ k, h (ix2 s k) * v (ix2 k t) := by
  unfold k0_pay10; pointwise; done
theorem pay12_at : k0_pay12 (F := Ideal) h v (ix2 s t) = ∑ k, h (ix2 s k) * v (ix2 k t) := by
  unfold k0_pay12; pointwise; done
theorem pay6_at : k0_pay6 (F := Ideal) h v (ix2 s t) = ∑ k, h (ix2 s k) * v (ix2 k t) := by
  unfold k0_pay6; pointwise [pay5_at]; done
theorem pay8_at : k0_pay8 (F := Ideal) h v (ix2 s t) = ∑ k, h (ix2 s k) * v (ix2 k t) := by
  unfold k0_pay8; pointwise [pay7_at]; done
theorem pay11_at : k0_pay11 (F := Ideal) h v (ix2 s t) = ∑ k, h (ix2 s k) * v (ix2 k t) := by
  unfold k0_pay11; pointwise [pay10_at]; done
theorem pay13_at : k0_pay13 (F := Ideal) h v (ix2 s t) = ∑ k, h (ix2 s k) * v (ix2 k t) := by
  unfold k0_pay13; pointwise [pay12_at]; done
theorem pay14_at : k0_pay14 (F := Ideal) h v (ix2 s t) = ∑ k, h (ix2 s k) * v (ix2 k t) := by
  unfold k0_pay14; pointwise; done
theorem pay4_at : k0_pay4 (F := Ideal) h v (ix2 s t) = (∑ k, h (ix2 s k) * v (ix2 k t)) * Ideal.ofBits FTy.f32 1040187392#32 := by
  unfold k0_pay4; pointwise; done
theorem pay9_at : k0_pay9 (F := Ideal) h v (ix2 s t) = (∑ k, h (ix2 s k) * v (ix2 k t)) * Ideal.ofBits FTy.f32 1040187392#32 := by
  unfold k0_pay9; pointwise; done
theorem pay15_at : k0_pay15 (F := Ideal) h v e (ix2 s t) = Ideal.logistic (∑ k, h (ix2 s k) * v (ix2 k t) + e (ix2 0 t)) := by
  unfold k0_pay15; pointwise; done
theorem pay16_at : k0_pay16 (F := Ideal) h v e (ix2 s t) = Ideal.logistic (∑ k, h (ix2 s k) * v (ix2 k t) + e (ix2 0 t)) := by
  unfold k0_pay16; pointwise; done
theorem pay17_at : k0_pay17 (F := Ideal) h v e (ix2 s t) = Ideal.logistic (∑ k, h (ix2 s k) * v (ix2 k t) + e (ix2 0 t)) := by
  unfold k0_pay17; pointwise; done
theorem pay18_at : k0_pay18 (F := Ideal) h v e (ix2 s t) = Ideal.logistic (∑ k, h (ix2 s k) * v (ix2 k t) + e (ix2 0 t)) := by
  unfold k0_pay18; pointwise; done
theorem pay1_at : k0_pay1 (F := Ideal) h v e (ix2 s t) = Ideal.logistic (∑ k, h (ix2 s k) * v (ix2 k t) + e (ix2 0 t)) := by
  unfold k0_pay1; pointwise; done
theorem pay2_at : k0_pay2 (F := Ideal) h v e (ix2 s t) = Ideal.logistic (∑ k, h (ix2 s k) * v (ix2 k t) + e (ix2 0 t)) := by
  unfold k0_pay2; pointwise; done
end

theorem emb_at {n : ℕ} (o : ℕ) (inb) (y : S512x512.Idx) (ho : o + (y 1).val < n) :
    (Rect.unit (s := (⟨2, ![512, n]⟩ : Shape)) ![0, o] S512x512.size inb).emb y = ix2 (y 0) ⟨o + (y 1).val, ho⟩ := by
  funext a
  match a with
  | ⟨0, _⟩ => exact Fin.ext (by show 0 + 1 * (y 0).val = (y 0).val; omega)
  | ⟨1, _⟩ => exact Fin.ext (by show o + 1 * (y 1).val = o + (y 1).val; omega)

theorem block4 (i : grid0.Coords) (a5 h5 a6 h6 a7 h7 a8 h8 a9 h9 a10 h10 h11) (y) :
    out0_A_4 (F := Ideal) c i a1 h1 a2 h2 a3 h3 a4 h4 a5 h5 a6 h6 a7 h7 a8 h8 a9 h9 a10 h10 a11 h11 x g w b y = qkv x g w y := by
  unfold out0_A_4
  rw [View.read_writes_eq_canon _ _ _ (cover0_A_4 _ _ _ _ _ _ _ _ _ _ _ _ _ _ _ _ _ _ _ _ _ _ _ _ _ _ _ _ )]
  refine View.canon_apply_of_pieces (Val := Elt Ideal) (qkv x g w) _ ?_ y (cover0_A_4 _ _ _ _ _ _ _ _ _ _ _ _ _ _ _ _ _ _ _ _ _ _ _ _ _ _ _ _  y)
  unfold kernelRun0_A
  dsimp only
  simp only [kernelRun0_A.sl.r_1, kernelRun0_A.sl.r_3, v18_eq, v118_eq]
  intro p hp
  simp only [List.mem_cons, List.mem_nil_iff, or_false] at hp
  rcases hp with rfl | rfl | rfl | rfl | rfl | rfl | rfl
  · intro y
    have hy : (y 1).val < 512 := (y 1).isLt
    refine Eq.trans ?_ (congrArg _ (emb_at (n := 3584) 3072 (by decide) y (by omega)).symm)
    refine (congrArg _ (eq_ix2 y)).trans ((pay14_at _ _ _ _).trans ?_)
    rw [seg_at a3 h3 x g w 3072 _ (y 0) (y 1) (by omega)]
    show _ = raw x g w (y 0) (3072 + (y 1).val) _ * fac (3072 + (y 1).val)
    rw [fac, if_neg (by omega), mul_one]
  · intro y
    have hy : (y 1).val < 512 := (y 1).isLt
    refine Eq.trans ?_ (congrArg _ (emb_at (n := 3584) 2560 (by decide) y (by omega)).symm)
    refine (congrArg _ (eq_ix2 y)).trans ((pay13_at _ _ _ _).trans ?_)
    rw [seg_at a3 h3 x g w 2560 _ (y 0) (y 1) (by omega)]
    show _ = raw x g w (y 0) (2560 + (y 1).val) _ * fac (2560 + (y 1).val)
    rw [fac, if_neg (by omega), mul_one]
  · intro y
    have hy : (y 1).val < 512 := (y 1).isLt
    refine Eq.trans ?_ (congrArg _ (emb_at (n := 3584) 2048 (by decide) y (by omega)).symm)
    refine (congrArg _ (eq_ix2 y)).trans ((pay11_at _ _ _ _).trans ?_)
    rw [seg_at a3 h3 x g w 2048 _ (y 0) (y 1) (by omega)]
    show _ = raw x g w (y 0) (2048 + (y 1).val) _ * fac (2048 + (y 1).val)
    rw [fac, if_neg (by omega), mul_one]
  · intro y
    have hy : (y 1).val < 512 := (y 1).isLt
    refine Eq.trans ?_ (congrArg _ (emb_at (n := 3584) 1536 (by decide) y (by omega)).symm)
    refine (congrArg _ (eq_ix2 y)).trans ((pay9_at _ _ _ _).trans ?_)
    rw [seg_at a3 h3 x g w 1536 _ (y 0) (y 1) (by omega)]
    show _ = raw x g w (y 0) (1536 + (y 1).val) _ * fac (1536 + (y 1).val)
    rw [fac, if_pos (by omega)]
  · intro y
    have hy : (y 1).val < 512 := (y 1).isLt
    refine Eq.trans ?_ (congrArg _ (emb_at (n := 3584) 1024 (by decide) y (by omega)).symm)
    refine (congrArg _ (eq_ix2 y)).trans ((pay8_at _ _ _ _).trans ?_)
    rw [seg_at a3 h3 x g w 1024 _ (y 0) (y 1) (by omega)]
    show _ = raw x g w (y 0) (1024 + (y 1).val) _ * fac (1024 + (y 1).val)
    rw [fac, if_neg (by omega), mul_one]
  · intro y
    have hy : (y 1).val < 512 := (y 1).isLt
    refine Eq.trans ?_ (congrArg _ (emb_at (n := 3584) 512 (by decide) y (by omega)).symm)
    refine (congrArg _ (eq_ix2 y)).trans ((pay6_at _ _ _ _).trans ?_)
    rw [seg_at a3 h3 x g w 512 _ (y 0) (y 1) (by omega)]
    show _ = raw x g w (y 0) (512 + (y 1).val) _ * fac (512 + (y 1).val)
    rw [fac, if_neg (by omega), mul_one]
  · intro y
    have hy : (y 1).val < 512 := (y 1).isLt
    refine Eq.trans ?_ (congrArg _ (emb_at (n := 3584) 0 (by decide) y (by omega)).symm)
    refine (congrArg _ (eq_ix2 y)).trans ((pay4_at _ _ _ _).trans ?_)
    rw [seg_at a3 h3 x g w 0 _ (y 0) (y 1) (by omega)]
    show _ = raw x g w (y 0) (0 + (y 1).val) _ * fac (0 + (y 1).val)
    rw [fac, if_pos (by omega)]

theorem block5 (i : grid0.Coords) (a5 h5 a6 h6 a7 h7 a8 h8 a9 h9 a10 h10 h11) (y) :
    out0_A_5 (F := Ideal) c i a1 h1 a2 h2 a3 h3 a4 h4 a5 h5 a6 h6 a7 h7 a8 h8 a9 h9 a10 h10 a11 h11 x g w b y = part 1 x g w y := by
  unfold out0_A_5
  rw [View.read_writes_eq_canon _ _ _ (cover0_A_5 _ _ _ _ _ _ _ _ _ _ _ _ _ _ _ _ _ _ _ _ _ _ _ _ _ _ _ _ )]
  refine View.canon_apply_of_pieces (Val := Elt Ideal) (part 1 x g w) _ ?_ y (cover0_A_5 _ _ _ _ _ _ _ _ _ _ _ _ _ _ _ _ _ _ _ _ _ _ _ _ _ _ _ _  y)
  unfold kernelRun0_A
  dsimp only
  simp only [kernelRun0_A.sl.r, v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay5_at _ _ _ _).trans ?_)
    rw [seg_at a3 h3 x g w 512 _ (y 0) (y 1) (by omega)]
    show raw x g w (y 0) (512 + (y 1).val) _ = raw x g w (y 0) (512 * 1 + (0 + (y 1).val)) _
    exact raw_congr x g w _ (by omega)

theorem block6 (i : grid0.Coords) (a5 h5 a6 h6 a7 h7 a8 h8 a9 h9 a10 h10 h11) (y) :
    out0_A_6 (F := Ideal) c i a1 h1 a2 h2 a3 h3 a4 h4 a5 h5 a6 h6 a7 h7 a8 h8 a9 h9 a10 h10 a11 h11 x g w b y = part 2 x g w y := by
  unfold out0_A_6
  rw [View.read_writes_eq_canon _ _ _ (cover0_A_6 _ _ _ _ _ _ _ _ _ _ _ _ _ _ _ _ _ _ _ _ _ _ _ _ _ _ _ _ )]
  refine View.canon_apply_of_pieces (Val := Elt Ideal) (part 2 x g w) _ ?_ y (cover0_A_6 _ _ _ _ _ _ _ _ _ _ _ _ _ _ _ _ _ _ _ _ _ _ _ _ _ _ _ _  y)
  unfold kernelRun0_A
  dsimp only
  simp only [v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay7_at _ _ _ _).trans ?_)
    rw [seg_at a3 h3 x g w 1024 _ (y 0) (y 1) (by omega)]
    show raw x g w (y 0) (1024 + (y 1).val) _ = raw x g w (y 0) (512 * 2 + (0 + (y 1).val)) _
    exact raw_congr x g w _ (by omega)

theorem block7 (i : grid0.Coords) (a5 h5 a6 h6 a7 h7 a8 h8 a9 h9 a10 h10 h11) (y) :
    out0_A_7 (F := Ideal) c i a1 h1 a2 h2 a3 h3 a4 h4 a5 h5 a6 h6 a7 h7 a8 h8 a9 h9 a10 h10 a11 h11 x g w b y = part 4 x g w y := by
  unfold out0_A_7
  rw [View.read_writes_eq_canon _ _ _ (cover0_A_7 _ _ _ _ _ _ _ _ _ _ _ _ _ _ _ _ _ _ _ _ _ _ _ _ _ _ _ _ )]
  refine View.canon_apply_of_pieces (Val := Elt Ideal) (part 4 x g w) _ ?_ y (cover0_A_7 _ _ _ _ _ _ _ _ _ _ _ _ _ _ _ _ _ _ _ _ _ _ _ _ _ _ _ _  y)
  unfold kernelRun0_A
  dsimp only
  simp only [kernelRun0_A.sl.r_2, v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay10_at _ _ _ _).trans ?_)
    rw [seg_at a3 h3 x g w 2048 _ (y 0) (y 1) (by omega)]
    show raw x g w (y 0) (2048 + (y 1).val) _ = raw x g w (y 0) (512 * 4 + (0 + (y 1).val)) _
    exact raw_congr x g w _ (by omega)

theorem block8 (i : grid0.Coords) (a5 h5 a6 h6 a7 h7 a8 h8 a9 h9 a10 h10 h11) (y) :
    out0_A_8 (F := Ideal) c i a1 h1 a2 h2 a3 h3 a4 h4 a5 h5 a6 h6 a7 h7 a8 h8 a9 h9 a10 h10 a11 h11 x g w b y = part 5 x g w y := by
  unfold out0_A_8
  rw [View.read_writes_eq_canon _ _ _ (cover0_A_8 _ _ _ _ _ _ _ _ _ _ _ _ _ _ _ _ _ _ _ _ _ _ _ _ _ _ _ _ )]
  refine View.canon_apply_of_pieces (Val := Elt Ideal) (part 5 x g w) _ ?_ y (cover0_A_8 _ _ _ _ _ _ _ _ _ _ _ _ _ _ _ _ _ _ _ _ _ _ _ _ _ _ _ _  y)
  unfold kernelRun0_A
  dsimp only
  simp only [v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay12_at _ _ _ _).trans ?_)
    rw [seg_at a3 h3 x g w 2560 _ (y 0) (y 1) (by omega)]
    show raw x g w (y 0) (2560 + (y 1).val) _ = raw x g w (y 0) (512 * 5 + (0 + (y 1).val)) _
    exact raw_congr x g w _ (by omega)

theorem block9 (i : grid0.Coords) (a5 h5 a6 h6 a7 h7 a8 h8 a9 h9 a10 h10 h11) (y) :
    out0_A_9 (F := Ideal) c i a1 h1 a2 h2 a3 h3 a4 h4 a5 h5 a6 h6 a7 h7 a8 h8 a9 h9 a10 h10 a11 h11 x g w b y = gate x g w b y := by
  unfold out0_A_9
  rw [View.read_writes_eq_canon _ _ _ (cover0_A_9 _ _ _ _ _ _ _ _ _ _ _ _ _ _ _ _ _ _ _ _ _ _ _ _ _ _ _ _ )]
  refine View.canon_apply_of_pieces (Val := Elt Ideal) (gate x g w b) _ ?_ y (cover0_A_9 _ _ _ _ _ _ _ _ _ _ _ _ _ _ _ _ _ _ _ _ _ _ _ _ _ _ _ _  y)
  unfold kernelRun0_A
  dsimp only
  simp only [kernelRun0_A.sl.r_4, kernelRun0_A.sl.r_5, v18_eq, v118_eq]
  intro p hp
  simp only [List.mem_cons, List.mem_nil_iff, or_false] at hp
  rcases hp with rfl | rfl | rfl | rfl | rfl | rfl
  · intro y
    have hy : (y 1).val < 512 := (y 1).isLt
    refine Eq.trans ?_ (congrArg _ (emb_at (n := 3072) 2560 (by decide) y (by omega)).symm)
    refine (congrArg _ (eq_ix2 y)).trans ((pay2_at _ _ _ _ _).trans ?_)
    rw [seg_at a3 h3 x g w 6144 _ (y 0) (y 1) (by omega), offs_at a4 h4 b 2560 _ (y 1) (by omega)]
    show Ideal.logistic (raw x g w (y 0) (6144 + (y 1).val) _ + _) = Ideal.logistic (raw x g w (y 0) (3584 + (2560 + (y 1).val)) _ + _)
    exact congrArg (fun v => Ideal.logistic (v + _)) (raw_congr x g w _ (by omega))
  · intro y
    have hy : (y 1).val < 512 := (y 1).isLt
    refine Eq.trans ?_ (congrArg _ (emb_at (n := 3072) 2048 (by decide) y (by omega)).symm)
    refine (congrArg _ (eq_ix2 y)).trans ((pay1_at _ _ _ _ _).trans ?_)
    rw [seg_at a3 h3 x g w 5632 _ (y 0) (y 1) (by omega), offs_at a4 h4 b 2048 _ (y 1) (by omega)]
    show Ideal.logistic (raw x g w (y 0) (5632 + (y 1).val) _ + _) = Ideal.logistic (raw x g w (y 0) (3584 + (2048 + (y 1).val)) _ + _)
    exact congrArg (fun v => Ideal.logistic (v + _)) (raw_congr x g w _ (by omega))
  · intro y
    have hy : (y 1).val < 512 := (y 1).isLt
    refine Eq.trans ?_ (congrArg _ (emb_at (n := 3072) 1536 (by decide) y (by omega)).symm)
    refine (congrArg _ (eq_ix2 y)).trans ((pay18_at _ _ _ _ _).trans ?_)
    rw [seg_at a3 h3 x g w 5120 _ (y 0) (y 1) (by omega), offs_at a4 h4 b 1536 _ (y 1) (by omega)]
    show Ideal.logistic (raw x g w (y 0) (5120 + (y 1).val) _ + _) = Ideal.logistic (raw x g w (y 0) (3584 + (1536 + (y 1).val)) _ + _)
    exact congrArg (fun v => Ideal.logistic (v + _)) (raw_congr x g w _ (by omega))
  · intro y
    have hy : (y 1).val < 512 := (y 1).isLt
    refine Eq.trans ?_ (congrArg _ (emb_at (n := 3072) 1024 (by decide) y (by omega)).symm)
    refine (congrArg _ (eq_ix2 y)).trans ((pay17_at _ _ _ _ _).trans ?_)
    rw [seg_at a3 h3 x g w 4608 _ (y 0) (y 1) (by omega), offs_at a4 h4 b 1024 _ (y 1) (by omega)]
    show Ideal.logistic (raw x g w (y 0) (4608 + (y 1).val) _ + _) = Ideal.logistic (raw x g w (y 0) (3584 + (1024 + (y 1).val)) _ + _)
    exact congrArg (fun v => Ideal.logistic (v + _)) (raw_congr x g w _ (by omega))
  · intro y
    have hy : (y 1).val < 512 := (y 1).isLt
    refine Eq.trans ?_ (congrArg _ (emb_at (n := 3072) 512 (by decide) y (by omega)).symm)
    refine (congrArg _ (eq_ix2 y)).trans ((pay16_at _ _ _ _ _).trans ?_)
    rw [seg_at a3 h3 x g w 4096 _ (y 0) (y 1) (by omega), offs_at a4 h4 b 512 _ (y 1) (by omega)]
    show Ideal.logistic (raw x g w (y 0) (4096 + (y 1).val) _ + _) = Ideal.logistic (raw x g w (y 0) (3584 + (512 + (y 1).val)) _ + _)
    exact congrArg (fun v => Ideal.logistic (v + _)) (raw_congr x g w _ (by omega))
  · intro y
    have hy : (y 1).val < 512 := (y 1).isLt
    refine Eq.trans ?_ (congrArg _ (emb_at (n := 3072) 0 (by decide) y (by omega)).symm)
    refine (congrArg _ (eq_ix2 y)).trans ((pay15_at _ _ _ _ _).trans ?_)
    rw [seg_at a3 h3 x g w 3584 _ (y 0) (y 1) (by omega), offs_at a4 h4 b 0 _ (y 1) (by omega)]
    show Ideal.logistic (raw x g w (y 0) (3584 + (y 1).val) _ + _) = Ideal.logistic (raw x g w (y 0) (3584 + (0 + (y 1).val)) _ + _)
    exact congrArg (fun v => Ideal.logistic (v + _)) (raw_congr x g w _ (by omega))

end

end Cert.Lin.In

end
-- ==== Proof.Lin.InRun.lean ====
/-
  The projections of the prompt's rows, as whole arrays: the kernel's and the reference's.
-/
module

public import proofs.«01_k».proof.Proof.Lin.In

@[expose] public section

noncomputable section

namespace Cert.Lin.In

open Idealize.ShloMosaic Idealize.ShloMosaic.TcCoe
open Idealize.ShloMosaic.Pipeline (Dat)

section

open Cert.Kernel2Ideal Cert.Kernel2Ideal.Gen Cert.Kernel2Ideal.Value

variable (m : (ℓ : Loc nD τ sig) → Buf (Elt Ideal) ℓ)

/-- The arrays the kernel is started on. -/
def xIn (c : Dev nD) : S16384x1024.Idx → EReal := m ((c.tc : Thread nD τ).loc main_arg0)
def gIn (c : Dev nD) : S1x1024.Idx → EReal := m ((c.tc : Thread nD τ).loc main_arg1)
def wIn (c : Dev nD) : S1024x6656.Idx → EReal := m ((c.tc : Thread nD τ).loc main_arg2)
def bIn (c : Dev nD) : S1x3072.Idx → EReal := m ((c.tc : Thread nD τ).loc main_arg3)

/-- A row of a point's block, as a row of the array. -/
theorem row_lt (t : Fin grid0.N) (r : Fin 512) : 512 * t.val + r.val < 16384 := by
  have h : t.val < 32 := t.isLt.trans_eq N_0
  have := r.isLt
  omega

def rowOf (t : Fin grid0.N) (r : Fin 512) : Fin 16384 := ⟨512 * t.val + r.val, row_lt t r⟩

theorem whole1 (t : Fin cfg0.N) (j : S1x1024.Idx) : ((cfg0.win 1).blk t).view.emb j = j := by
  funext a
  match a with
  | ⟨0, _⟩ => exact Fin.ext (by show 0 * 1 + 1 * (j 0).val = (j 0).val; omega)
  | ⟨1, _⟩ => exact Fin.ext (by show 0 * 1024 + 1 * (j 1).val = (j 1).val; omega)

theorem whole2 (t : Fin cfg0.N) (j : S1024x6656.Idx) : ((cfg0.win 2).blk t).view.emb j = j := by
  funext a
  match a with
  | ⟨0, _⟩ => exact Fin.ext (by show 0 * 1024 + 1 * (j 0).val = (j 0).val; omega)
  | ⟨1, _⟩ => exact Fin.ext (by show 0 * 6656 + 1 * (j 1).val = (j 1).val; omega)

theorem whole3 (t : Fin cfg0.N) (j : S1x3072.Idx) : ((cfg0.win 3).blk t).view.emb j = j := by
  funext a
  match a with
  | ⟨0, _⟩ => exact Fin.ext (by show 0 * 1 + 1 * (j 0).val = (j 0).val; omega)
  | ⟨1, _⟩ => exact Fin.ext (by show 0 * 3072 + 1 * (j 1).val = (j 1).val; omega)

theorem place0 : ∀ t : Fin grid0.N, win0_0.index t 0 = t.val ∧ win0_0.index t 1 = 0 := by decide +kernel

theorem emb0 (t : Fin grid0.N) (j : S512x1024.Idx) : (win0_0.rect t).emb j = ix2 (rowOf t (j 0)) (j 1) := by
  funext a
  match a with
  | ⟨0, _⟩ =>
    refine Fin.ext ((win0_0.rect_emb_val t j 0).trans ?_)
    rw [(place0 t).1]
    show t.val * 512 + (j 0).val = 512 * t.val + (j 0).val
    omega
  | ⟨1, _⟩ =>
    refine Fin.ext ((win0_0.rect_emb_val t j 1).trans ?_)
    rw [(place0 t).2]
    show 0 * 1024 + (j 1).val = (j 1).val
    omega

theorem place4 : ∀ t : Fin grid0.N, win0_4.index t 0 = t.val ∧ win0_4.index t 1 = 0 := by decide +kernel

theorem emb4 (t : Fin grid0.N) (j : S512x3584.Idx) : (win0_4.rect t).emb j = ix2 (rowOf t (j 0)) (j 1) := by
  funext a
  match a with
  | ⟨0, _⟩ =>
    refine Fin.ext ((win0_4.rect_emb_val t j 0).trans ?_)
    rw [(place4 t).1]
    show t.val * 512 + (j 0).val = 512 * t.val + (j 0).val
    omega
  | ⟨1, _⟩ =>
    refine Fin.ext ((win0_4.rect_emb_val t j 1).trans ?_)
    rw [(place4 t).2]
    show 0 * 3584 + (j 1).val = (j 1).val
    omega

theorem place5 : ∀ t : Fin grid0.N, win0_5.index t 0 = t.val ∧ win0_5.index t 1 = 0 := by decide +kernel

theorem emb5 (t : Fin grid0.N) (j : S512x512.Idx) : (win0_5.rect t).emb j = ix2 (rowOf t (j 0)) (j 1) := by
  funext a
  match a with
  | ⟨0, _⟩ =>
    refine Fin.ext ((win0_5.rect_emb_val t j 0).trans ?_)
    rw [(place5 t).1]
    show t.val * 512 + (j 0).val = 512 * t.val + (j 0).val
    omega
  | ⟨1, _⟩ =>
    refine Fin.ext ((win0_5.rect_emb_val t j 1).trans ?_)
    rw [(place5 t).2]
    show 0 * 512 + (j 1).val = (j 1).val
    omega

theorem place6 : ∀ t : Fin grid0.N, win0_6.index t 0 = t.val ∧ win0_6.index t 1 = 0 := by decide +kernel

theorem emb6 (t : Fin grid0.N) (j : S512x512.Idx) : (win0_6.rect t).emb j = ix2 (rowOf t (j 0)) (j 1) := by
  funext a
  match a with
  | ⟨0, _⟩ =>
    refine Fin.ext ((win0_6.rect_emb_val t j 0).trans ?_)
    rw [(place6 t).1]
    show t.val * 512 + (j 0).val = 512 * t.val + (j 0).val
    omega
  | ⟨1, _⟩ =>
    refine Fin.ext ((win0_6.rect_emb_val t j 1).trans ?_)
    rw [(place6 t).2]
    show 0 * 512 + (j 1).val = (j 1).val
    omega

theorem place7 : ∀ t : Fin grid0.N, win0_7.index t 0 = t.val ∧ win0_7.index t 1 = 0 := by decide +kernel

theorem emb7 (t : Fin grid0.N) (j : S512x512.Idx) : (win0_7.rect t).emb j = ix2 (rowOf t (j 0)) (j 1) := by
  funext a
  match a with
  | ⟨0, _⟩ =>
    refine Fin.ext ((win0_7.rect_emb_val t j 0).trans ?_)
    rw [(place7 t).1]
    show t.val * 512 + (j 0).val = 512 * t.val + (j 0).val
    omega
  | ⟨1, _⟩ =>
    refine Fin.ext ((win0_7.rect_emb_val t j 1).trans ?_)
    rw [(place7 t).2]
    show 0 * 512 + (j 1).val = (j 1).val
    omega

theorem place8 : ∀ t : Fin grid0.N, win0_8.index t 0 = t.val ∧ win0_8.index t 1 = 0 := by decide +kernel

theorem emb8 (t : Fin grid0.N) (j : S512x512.Idx) : (win0_8.rect t).emb j = ix2 (rowOf t (j 0)) (j 1) := by
  funext a
  match a with
  | ⟨0, _⟩ =>
    refine Fin.ext ((win0_8.rect_emb_val t j 0).trans ?_)
    rw [(place8 t).1]
    show t.val * 512 + (j 0).val = 512 * t.val + (j 0).val
    omega
  | ⟨1, _⟩ =>
    refine Fin.ext ((win0_8.rect_emb_val t j 1).trans ?_)
    rw [(place8 t).2]
    show 0 * 512 + (j 1).val = (j 1).val
    omega

theorem place9 : ∀ t : Fin grid0.N, win0_9.index t 0 = t.val ∧ win0_9.index t 1 = 0 := by decide +kernel

theorem emb9 (t : Fin grid0.N) (j : S512x3072.Idx) : (win0_9.rect t).emb j = ix2 (rowOf t (j 0)) (j 1) := by
  funext a
  match a with
  | ⟨0, _⟩ =>
    refine Fin.ext ((win0_9.rect_emb_val t j 0).trans ?_)
    rw [(place9 t).1]
    show t.val * 512 + (j 0).val = 512 * t.val + (j 0).val
    omega
  | ⟨1, _⟩ =>
    refine Fin.ext ((win0_9.rect_emb_val t j 1).trans ?_)
    rw [(place9 t).2]
    show 0 * 3072 + (j 1).val = (j 1).val
    omega

theorem in0 (c : Dev nD) (t : Fin cfg0.N) (r : Fin 512) (k : Fin 1024) : iblk m c 0 t (ix2 r k) = xIn m c (ix2 (rowOf t r) k) := by
  unfold iblk
  rw [show V m c (Pipeline.arrRef spec0 0) = _ from V_main_arg0 m c]
  exact congrArg (xIn m c) (emb0 t (ix2 r k))

theorem in1 (c : Dev nD) (t : Fin cfg0.N) : iblk m c 1 t = gIn m c := by
  unfold iblk
  rw [show V m c (Pipeline.arrRef spec0 1) = _ from V_main_arg1 m c]
  exact funext fun j => congrArg (gIn m c) (whole1 t j)

theorem in2 (c : Dev nD) (t : Fin cfg0.N) : iblk m c 2 t = wIn m c := by
  unfold iblk
  have e : V m c (Pipeline.arrRef spec0 2) = wIn m c := by
    show StableHlo.after hostOps0 _ _ = _
    after_results
    rfl
  rw [e]
  exact funext fun j => congrArg (wIn m c) (whole2 t j)

theorem in3 (c : Dev nD) (t : Fin cfg0.N) : iblk m c 3 t = bIn m c := by
  unfold iblk
  rw [show V m c (Pipeline.arrRef spec0 3) = _ from V_main_arg3 m c]
  exact funext fun j => congrArg (bIn m c) (whole3 t j)

theorem raw_in (c : Dev nD) (t : Fin cfg0.N) (r : Fin 512) (d : ℕ) (hd : d < 6656) :
    raw (iblk m c 0 t) (iblk m c 1 t) (iblk m c 2 t) r d hd = raw (xIn m c) (gIn m c) (wIn m c) (rowOf t r) d hd := by
  rw [in1, in2]
  unfold raw
  congr 1
  exact funext fun k => in0 m c t r k

theorem row_mod (i : Fin 16384) (h : i.val / 512 < grid0.N) : rowOf ⟨i.val / 512, h⟩ ⟨i.val % 512, Nat.mod_lt _ (by decide)⟩ = i :=
  Fin.ext (by show 512 * (i.val / 512) + i.val % 512 = i.val; omega)

theorem flush4 (c : Dev nD) (t : Fin cfg0.N) (j : S512x3584.Idx) :
    (dats m 0 c).flushed 4 t j = (qkv (xIn m c) (gIn m c) (wIn m c)) ((win0_4.rect t).emb j) := by
  refine (congrFun (flushed4_A m c t) j).trans ?_
  refine (block4 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb4]
  unfold qkv
  exact congrArg (· * _) (raw_in m c t _ _ _)

theorem final4 (c : Dev nD) : (dats m 0 c).arrAt 4 cfg0.N = qkv (xIn m c) (gIn m c) (wIn m c) := by
  refine (dats m 0 c).arrAt_eq_of_cover 4 (qkv (xIn m c) (gIn m c) (wIn m c)) (fun t _ => funext fun j => flush4 m c t j) (fun i => ?_)
  have h0 : (i 0).val < 16384 := (i 0).isLt
  have hN : grid0.N = 32 := N_0
  have ht : (i 0).val / 512 < grid0.N := by omega
  refine ⟨⟨(i 0).val / 512, ht⟩, flush0_4 _, Finset.mem_map.mpr ⟨ix2 ⟨(i 0).val % 512, Nat.mod_lt _ (by decide)⟩ (i 1), Finset.mem_univ _, ?_⟩⟩
  exact (emb4 _ _).trans ((congrArg (fun r => ix2 r (i 1)) (row_mod (i 0) ht)).trans (eq_ix2 i).symm)

theorem flush5 (c : Dev nD) (t : Fin cfg0.N) (j : S512x512.Idx) :
    (dats m 0 c).flushed 5 t j = (part 1 (xIn m c) (gIn m c) (wIn m c)) ((win0_5.rect t).emb j) := by
  refine (congrFun (flushed5_A m c t) j).trans ?_
  refine (block5 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb5]
  unfold part
  exact raw_in m c t _ _ _

theorem final5 (c : Dev nD) : (dats m 0 c).arrAt 5 cfg0.N = part 1 (xIn m c) (gIn m c) (wIn m c) := by
  refine (dats m 0 c).arrAt_eq_of_cover 5 (part 1 (xIn m c) (gIn m c) (wIn m c)) (fun t _ => funext fun j => flush5 m c t j) (fun i => ?_)
  have h0 : (i 0).val < 16384 := (i 0).isLt
  have hN : grid0.N = 32 := N_0
  have ht : (i 0).val / 512 < grid0.N := by omega
  refine ⟨⟨(i 0).val / 512, ht⟩, flush0_5 _, Finset.mem_map.mpr ⟨ix2 ⟨(i 0).val % 512, Nat.mod_lt _ (by decide)⟩ (i 1), Finset.mem_univ _, ?_⟩⟩
  exact (emb5 _ _).trans ((congrArg (fun r => ix2 r (i 1)) (row_mod (i 0) ht)).trans (eq_ix2 i).symm)

theorem flush6 (c : Dev nD) (t : Fin cfg0.N) (j : S512x512.Idx) :
    (dats m 0 c).flushed 6 t j = (part 2 (xIn m c) (gIn m c) (wIn m c)) ((win0_6.rect t).emb j) := by
  refine (congrFun (flushed6_A m c t) j).trans ?_
  refine (block6 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb6]
  unfold part
  exact raw_in m c t _ _ _

theorem final6 (c : Dev nD) : (dats m 0 c).arrAt 6 cfg0.N = part 2 (xIn m c) (gIn m c) (wIn m c) := by
  refine (dats m 0 c).arrAt_eq_of_cover 6 (part 2 (xIn m c) (gIn m c) (wIn m c)) (fun t _ => funext fun j => flush6 m c t j) (fun i => ?_)
  have h0 : (i 0).val < 16384 := (i 0).isLt
  have hN : grid0.N = 32 := N_0
  have ht : (i 0).val / 512 < grid0.N := by omega
  refine ⟨⟨(i 0).val / 512, ht⟩, flush0_6 _, Finset.mem_map.mpr ⟨ix2 ⟨(i 0).val % 512, Nat.mod_lt _ (by decide)⟩ (i 1), Finset.mem_univ _, ?_⟩⟩
  exact (emb6 _ _).trans ((congrArg (fun r => ix2 r (i 1)) (row_mod (i 0) ht)).trans (eq_ix2 i).symm)

theorem flush7 (c : Dev nD) (t : Fin cfg0.N) (j : S512x512.Idx) :
    (dats m 0 c).flushed 7 t j = (part 4 (xIn m c) (gIn m c) (wIn m c)) ((win0_7.rect t).emb j) := by
  refine (congrFun (flushed7_A m c t) j).trans ?_
  refine (block7 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb7]
  unfold part
  exact raw_in m c t _ _ _

theorem final7 (c : Dev nD) : (dats m 0 c).arrAt 7 cfg0.N = part 4 (xIn m c) (gIn m c) (wIn m c) := by
  refine (dats m 0 c).arrAt_eq_of_cover 7 (part 4 (xIn m c) (gIn m c) (wIn m c)) (fun t _ => funext fun j => flush7 m c t j) (fun i => ?_)
  have h0 : (i 0).val < 16384 := (i 0).isLt
  have hN : grid0.N = 32 := N_0
  have ht : (i 0).val / 512 < grid0.N := by omega
  refine ⟨⟨(i 0).val / 512, ht⟩, flush0_7 _, Finset.mem_map.mpr ⟨ix2 ⟨(i 0).val % 512, Nat.mod_lt _ (by decide)⟩ (i 1), Finset.mem_univ _, ?_⟩⟩
  exact (emb7 _ _).trans ((congrArg (fun r => ix2 r (i 1)) (row_mod (i 0) ht)).trans (eq_ix2 i).symm)

theorem flush8 (c : Dev nD) (t : Fin cfg0.N) (j : S512x512.Idx) :
    (dats m 0 c).flushed 8 t j = (part 5 (xIn m c) (gIn m c) (wIn m c)) ((win0_8.rect t).emb j) := by
  refine (congrFun (flushed8_A m c t) j).trans ?_
  refine (block8 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb8]
  unfold part
  exact raw_in m c t _ _ _

theorem final8 (c : Dev nD) : (dats m 0 c).arrAt 8 cfg0.N = part 5 (xIn m c) (gIn m c) (wIn m c) := by
  refine (dats m 0 c).arrAt_eq_of_cover 8 (part 5 (xIn m c) (gIn m c) (wIn m c)) (fun t _ => funext fun j => flush8 m c t j) (fun i => ?_)
  have h0 : (i 0).val < 16384 := (i 0).isLt
  have hN : grid0.N = 32 := N_0
  have ht : (i 0).val / 512 < grid0.N := by omega
  refine ⟨⟨(i 0).val / 512, ht⟩, flush0_8 _, Finset.mem_map.mpr ⟨ix2 ⟨(i 0).val % 512, Nat.mod_lt _ (by decide)⟩ (i 1), Finset.mem_univ _, ?_⟩⟩
  exact (emb8 _ _).trans ((congrArg (fun r => ix2 r (i 1)) (row_mod (i 0) ht)).trans (eq_ix2 i).symm)

theorem flush9 (c : Dev nD) (t : Fin cfg0.N) (j : S512x3072.Idx) :
    (dats m 0 c).flushed 9 t j = (gate (xIn m c) (gIn m c) (wIn m c) (bIn m c)) ((win0_9.rect t).emb j) := by
  refine (congrFun (flushed9_A m c t) j).trans ?_
  refine (block9 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb9, in3]
  unfold gate
  exact congrArg (fun v => Ideal.logistic (v + _)) (raw_in m c t _ _ _)

theorem final9 (c : Dev nD) : (dats m 0 c).arrAt 9 cfg0.N = gate (xIn m c) (gIn m c) (wIn m c) (bIn m c) := by
  refine (dats m 0 c).arrAt_eq_of_cover 9 (gate (xIn m c) (gIn m c) (wIn m c) (bIn m c)) (fun t _ => funext fun j => flush9 m c t j) (fun i => ?_)
  have h0 : (i 0).val < 16384 := (i 0).isLt
  have hN : grid0.N = 32 := N_0
  have ht : (i 0).val / 512 < grid0.N := by omega
  refine ⟨⟨(i 0).val / 512, ht⟩, flush0_9 _, Finset.mem_map.mpr ⟨ix2 ⟨(i 0).val % 512, Nat.mod_lt _ (by decide)⟩ (i 1), Finset.mem_univ _, ?_⟩⟩
  exact (emb9 _ _).trans ((congrArg (fun r => ix2 r (i 1)) (row_mod (i 0) ht)).trans (eq_ix2 i).symm)

end

section

open Cert.Reference2Ideal Cert.Reference2Ideal.Gen Cert.Reference2Ideal.Value

variable (x : FVec Ideal S16384x1024 .f32) (g : FVec Ideal S1x1024 .f32) (w : FVec Ideal S1024x6656 .f32) (b : FVec Ideal S1x3072 .f32)

/-- The reference's product, before its columns are split. -/
def rProd : FVec Ideal S16384x6656 .f32 :=
  Host.dotGeneral dot_S16384x1024_S1024x6656_S16384x6656_1_0_0_1_n_n none
    (mulf (mulf x (broadcastInDim S16384x1024 ![0, 1] bcast_S16384x1_S16384x1024_0_1 (Host.rsqrt (addf
      (Host.divf (broadcastInDim S16384x1 ![0] bcast_S16384_S16384x1_0 (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 g)) w

theorem rProd_at (r : Fin 16384) (c : Fin 6656) : rProd x g w (ix2 r c) = raw x g w r c.val c.isLt := by
  unfold rProd
  pointwise
  rfl

def rQkv : FVec Ideal S16384x3584 .bf16 :=
  truncf .bf16 (concatenate S16384x3584 1 [
    ⟨S16384x512, mulf (extractStridedSlice S16384x512 ![0, 0] (rProd x g w) slices_S16384x6656_S16384x512_0_0) (broadcastInDim S16384x512 ![] bcast_S_S16384x512 (constant S_ .f32 0x3E000000#32))⟩,
    ⟨S16384x512, extractStridedSlice S16384x512 ![0, 512] (rProd x g w) slices_S16384x6656_S16384x512_0_512⟩,
    ⟨S16384x512, extractStridedSlice S16384x512 ![0, 1024] (rProd x g w) slices_S16384x6656_S16384x512_0_1024⟩,
    ⟨S16384x512, mulf (extractStridedSlice S16384x512 ![0, 1536] (rProd x g w) slices_S16384x6656_S16384x512_0_1536) (broadcastInDim S16384x512 ![] bcast_S_S16384x512 (constant S_ .f32 0x3E000000#32))⟩,
    ⟨S16384x512, extractStridedSlice S16384x512 ![0, 2048] (rProd x g w) slices_S16384x6656_S16384x512_0_2048⟩,
    ⟨S16384x512, extractStridedSlice S16384x512 ![0, 2560] (rProd x g w) slices_S16384x6656_S16384x512_0_2560⟩,
    ⟨S16384x512, extractStridedSlice S16384x512 ![0, 3072] (rProd x g w) slices_S16384x6656_S16384x512_0_3072⟩]
    concatenates_S16384x512_S16384x512_S16384x512_S16384x512_S16384x512_S16384x512_S16384x512_S16384x3584_d1) bitsLt_bf16_f32

theorem ref4 : rQkv x g w = qkv x g w := by
  funext i
  have h1 : (i 1).val < 3584 := (i 1).isLt
  rw [eq_ix2 i]
  unfold rQkv
  pointwise [rProd_at]
  show _ = raw x g w (i 0) (i 1).val _ * fac (i 1).val
  unfold fac
  repeat' split
  all_goals first
    | omega
    | exact congrArg (· * _) (raw_congr x g w _ (by omega))
    | exact (raw_congr x g w _ (by omega)).trans (mul_one _).symm

theorem ref5 : extractStridedSlice S16384x512 ![0, 512] (rProd x g w) slices_S16384x6656_S16384x512_0_512 = part 1 x g w := by
  funext i
  rw [eq_ix2 i]
  pointwise [rProd_at]
  unfold part
  exact raw_congr x g w _ (by show 512 + (i 1).val = 512 * 1 + (i 1).val; omega)

theorem ref6 : extractStridedSlice S16384x512 ![0, 1024] (rProd x g w) slices_S16384x6656_S16384x512_0_1024 = part 2 x g w := by
  funext i
  rw [eq_ix2 i]
  pointwise [rProd_at]
  unfold part
  exact raw_congr x g w _ (by show 1024 + (i 1).val = 512 * 2 + (i 1).val; omega)

theorem ref7 : extractStridedSlice S16384x512 ![0, 2048] (rProd x g w) slices_S16384x6656_S16384x512_0_2048 = part 4 x g w := by
  funext i
  rw [eq_ix2 i]
  pointwise [rProd_at]
  unfold part
  exact raw_congr x g w _ (by show 2048 + (i 1).val = 512 * 4 + (i 1).val; omega)

theorem ref8 : extractStridedSlice S16384x512 ![0, 2560] (rProd x g w) slices_S16384x6656_S16384x512_0_2560 = part 5 x g w := by
  funext i
  rw [eq_ix2 i]
  pointwise [rProd_at]
  unfold part
  exact raw_congr x g w _ (by show 2560 + (i 1).val = 512 * 5 + (i 1).val; omega)

theorem ref9 : (truncf .bf16 (Host.divf (broadcastInDim S16384x3072 ![] bcast_S_S16384x3072 (constant S_ .f32 0x3F800000#32))
      (addf (broadcastInDim S16384x3072 ![] bcast_S_S16384x3072 (constant S_ .f32 0x3F800000#32)) (Host.exp (Host.negf
        (addf (extractStridedSlice S16384x3072 ![0, 3584] (rProd x g w) slices_S16384x6656_S16384x3072_0_3584)
          (broadcastInDim S16384x3072 ![0, 1] bcast_S1x3072_S16384x3072_0_1 b)))))) bitsLt_bf16_f32 : FVec Ideal S16384x3072 .bf16) = gate x g w b := by
  funext i
  rw [eq_ix2 i]
  pointwise [rProd_at]
  rfl

end

theorem algebraic : Cert.algebraic_Kernel2Ideal_Reference2Ideal := by
  intro m g m' g' _ hagree
  refine ⟨fun c => qkv (xIn m c) (gIn m c) (wIn m c), fun c => part 1 (xIn m c) (gIn m c) (wIn m c), fun c => part 2 (xIn m c) (gIn m c) (wIn m c),
    fun c => part 4 (xIn m c) (gIn m c) (wIn m c), fun c => part 5 (xIn m c) (gIn m c) (wIn m c), fun c => gate (xIn m c) (gIn m c) (wIn m c) (bIn m c), ?_, ?_⟩
  · exact (θ_run Cert.Kernel2Ideal.defs _ _).mono (fun _ h c => ⟨(h c).1.trans (final4 m c), (h c).2.1.trans (final5 m c), (h c).2.2.1.trans (final6 m c),
      (h c).2.2.2.1.trans (final7 m c), (h c).2.2.2.2.1.trans (final8 m c), (h c).2.2.2.2.2.1.trans (final9 m c), (h c).2.2.2.2.2.2⟩)
      (Cert.Kernel2Ideal.Value.run_blocks (F := Ideal) m g)
  · refine (θ_run Cert.Reference2Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference2Ideal.Value.run (F := Ideal) m' g')
    · unfold Cert.Reference2Ideal.Value.res_main_v26
      rw [(hagree c).1, (hagree c).2.1, (hagree c).2.2.1]
      exact ref4 (xIn m c) (gIn m c) (wIn m c)
    · rw [(hagree c).1, (hagree c).2.1, (hagree c).2.2.1]
      exact ref5 (xIn m c) (gIn m c) (wIn m c)
    · rw [(hagree c).1, (hagree c).2.1, (hagree c).2.2.1]
      exact ref6 (xIn m c) (gIn m c) (wIn m c)
    · rw [(hagree c).1, (hagree c).2.1, (hagree c).2.2.1]
      exact ref7 (xIn m c) (gIn m c) (wIn m c)
    · rw [(hagree c).1, (hagree c).2.1, (hagree c).2.2.1]
      exact ref8 (xIn m c) (gIn m c) (wIn m c)
    · rw [(hagree c).1, (hagree c).2.1, (hagree c).2.2.1, (hagree c).2.2.2]
      exact ref9 (xIn m c) (gIn m c) (wIn m c) (bIn m c)

end Cert.Lin.In

end
-- ==== Proof.Lin.Mem.lean ====
/-
  The keys and values of the memory: the kernel's arrays are the reference's.
-/
module

public import proofs.«01_k».proof.Defs
public import proofs.«01_k».proof.Proof.Gen.Kernel3Ideal.Value
public import proofs.«01_k».proof.Proof.Gen.Reference3Ideal.Run
public import proofs.«01_k».proof.Proof.Lin.Proj

@[expose] public section

noncomputable section

namespace Cert.Lin.Mem

open Idealize.ShloMosaic Idealize.ShloMosaic.TcCoe
open Idealize.ShloMosaic.Pipeline (Dat)

section

open Cert.Kernel3Ideal Cert.Kernel3Ideal.Gen Cert.Kernel3Ideal.Value

theorem pay1_at (x : Vec Ideal S256x1024 .f32) (g : Vec Ideal S1x1024 .f32) (w : Vec Ideal S1024x1024 .bf16) (r : Fin 256) (c : Fin 1024) :
    k0_pay1 (F := Ideal) x g w (ix2 r c) = proj (fun k => x (ix2 r k)) (fun k => g (ix2 0 k)) (fun k => w (ix2 k c)) := by
  unfold k0_pay1
  pointwise
  rfl

/-- One half of the projected memory. -/
def half (x : S256x1024.Idx → EReal) (g : S1x1024.Idx → EReal) (w : S1024x1024.Idx → EReal) (o : Fin 2) : S256x512.Idx → EReal :=
  fun i => proj (fun k => x (ix2 (i 0) k)) (fun k => g (ix2 0 k)) (fun k => w (ix2 k ⟨512 * o.val + (i 1).val, by have h : (i 1).val < 512 := (i 1).isLt; omega⟩))

theorem out3 (x : Vec Ideal S256x1024 .f32) (g : Vec Ideal S1x1024 .f32) (w : Vec Ideal S1024x1024 .bf16) : out0_3 x g w = half x g w 0 := by
  funext i
  unfold out0_3
  rw [canon3_eq]
  refine (congrArg (k0_pay1 _ _ _) (eq_ix2 _)).trans ((pay1_at _ _ _ _ _).trans ?_)
  rw [View.ld_unit_zero (by decide), View.ld_unit_zero (by decide), View.ld_unit_zero (by decide)]
  unfold half
  congr 1
  funext k
  congr 2
  exact Fin.ext (by show (i 1).val = 512 * 0 + (i 1).val; omega)

theorem out4 (x : Vec Ideal S256x1024 .f32) (g : Vec Ideal S1x1024 .f32) (w : Vec Ideal S1024x1024 .bf16) : out0_4 x g w = half x g w 1 := by
  funext i
  unfold out0_4
  rw [canon4_eq]
  refine (congrArg (k0_pay1 _ _ _) (eq_ix2 _)).trans ((pay1_at _ _ _ _ _).trans ?_)
  rw [View.ld_unit_zero (by decide), View.ld_unit_zero (by decide), View.ld_unit_zero (by decide)]
  unfold half
  congr 1
  funext k
  congr 2
  exact Fin.ext (by show (i 1).val + 512 = 512 * 1 + (i 1).val; omega)

variable (m : (ℓ : Loc nD τ sig) → Buf (Elt Ideal) ℓ)

/-- The arrays the kernel is started on. -/
def xIn (c : Dev nD) : S256x1024.Idx → EReal := m ((c.tc : Thread nD τ).loc main_arg0)
def gIn (c : Dev nD) : S1x1024.Idx → EReal := m ((c.tc : Thread nD τ).loc main_arg1)
def wIn (c : Dev nD) : S1024x1024.Idx → EReal := m ((c.tc : Thread nD τ).loc main_arg2)

/-- The one block of each window is the whole array. -/
theorem at0 (t : Fin cfg0.N) (j : S256x1024.Idx) : ((cfg0.win 0).blk t).view.emb j = j := by
  funext a
  match a with
  | ⟨0, _⟩ => exact Fin.ext (by show 0 * 256 + 1 * (j 0).val = (j 0).val; omega)
  | ⟨1, _⟩ => exact Fin.ext (by show 0 * 1024 + 1 * (j 1).val = (j 1).val; omega)

theorem at1 (t : Fin cfg0.N) (j : S1x1024.Idx) : ((cfg0.win 1).blk t).view.emb j = j := by
  funext a
  match a with
  | ⟨0, _⟩ => exact Fin.ext (by show 0 * 1 + 1 * (j 0).val = (j 0).val; omega)
  | ⟨1, _⟩ => exact Fin.ext (by show 0 * 1024 + 1 * (j 1).val = (j 1).val; omega)

theorem at2 (t : Fin cfg0.N) (j : S1024x1024.Idx) : ((cfg0.win 2).blk t).view.emb j = j := by
  funext a
  match a with
  | ⟨0, _⟩ => exact Fin.ext (by show 0 * 1024 + 1 * (j 0).val = (j 0).val; omega)
  | ⟨1, _⟩ => exact Fin.ext (by show 0 * 1024 + 1 * (j 1).val = (j 1).val; omega)

theorem at3 (t : Fin cfg0.N) (j : S256x512.Idx) : ((cfg0.win 3).blk t).view.emb j = j := by
  funext a
  match a with
  | ⟨0, _⟩ => exact Fin.ext (by show 0 * 256 + 1 * (j 0).val = (j 0).val; omega)
  | ⟨1, _⟩ => exact Fin.ext (by show 0 * 512 + 1 * (j 1).val = (j 1).val; omega)

theorem at4 (t : Fin cfg0.N) (j : S256x512.Idx) : ((cfg0.win 4).blk t).view.emb j = j := by
  funext a
  match a with
  | ⟨0, _⟩ => exact Fin.ext (by show 0 * 256 + 1 * (j 0).val = (j 0).val; omega)
  | ⟨1, _⟩ => exact Fin.ext (by show 0 * 512 + 1 * (j 1).val = (j 1).val; omega)

theorem in0 (c : Dev nD) (t : Fin cfg0.N) : iblk m c 0 t = xIn m c := by
  unfold iblk
  rw [show V m c (Pipeline.arrRef spec0 0) = _ from V_main_arg0 m c]
  exact funext fun j => congrArg (xIn m c) (at0 t j)

theorem in1 (c : Dev nD) (t : Fin cfg0.N) : iblk m c 1 t = gIn m c := by
  unfold iblk
  rw [show V m c (Pipeline.arrRef spec0 1) = _ from V_main_arg1 m c]
  exact funext fun j => congrArg (gIn m c) (at1 t j)

theorem in2 (c : Dev nD) (t : Fin cfg0.N) : iblk m c 2 t = wIn m c := by
  unfold iblk
  have e : V m c (Pipeline.arrRef spec0 2) = wIn m c := by
    show StableHlo.after hostOps0 _ _ = _
    after_results
    rfl
  rw [e]
  exact funext fun j => congrArg (wIn m c) (at2 t j)

/-- The result arrays. -/
theorem final3 (c : Dev nD) : (dats m 0 c).arrAt 3 cfg0.N = half (xIn m c) (gIn m c) (wIn m c) 0 := by
  refine (dats m 0 c).arrAt_eq_of_cover 3 (half (xIn m c) (gIn m c) (wIn m c) 0) (fun t _ => ?_) (fun i => ⟨⟨0, by decide⟩, flush0_3 _, ?_⟩)
  · rw [flushed3, in0, in1, in2, out3]
    exact funext fun j => (congrArg (half (xIn m c) (gIn m c) (wIn m c) 0) (at3 t j)).symm
  · exact Finset.mem_map.mpr ⟨i, Finset.mem_univ _, at3 _ i⟩

theorem final4 (c : Dev nD) : (dats m 0 c).arrAt 4 cfg0.N = half (xIn m c) (gIn m c) (wIn m c) 1 := by
  refine (dats m 0 c).arrAt_eq_of_cover 4 (half (xIn m c) (gIn m c) (wIn m c) 1) (fun t _ => ?_) (fun i => ⟨⟨0, by decide⟩, flush0_4 _, ?_⟩)
  · rw [flushed4, in0, in1, in2, out4]
    exact funext fun j => (congrArg (half (xIn m c) (gIn m c) (wIn m c) 1) (at4 t j)).symm
  · exact Finset.mem_map.mpr ⟨i, Finset.mem_univ _, at4 _ i⟩

end

section

open Cert.Reference3Ideal Cert.Reference3Ideal.Gen

/-- The reference's product, before its two halves are taken. -/
def rProd (x : FVec Ideal S256x1024 .f32) (g : FVec Ideal S1x1024 .f32)
    (w : FVec Ideal S1024x1024 .f32) : FVec Ideal S256x1024 .f32 :=
  Host.dotGeneral dot_S256x1024_S1024x1024_S256x1024_1_0_0_1_n_n none
    (mulf (mulf x (broadcastInDim S256x1024 ![0, 1] bcast_S256x1_S256x1024_0_1 (Host.rsqrt (addf
      (Host.divf (broadcastInDim S256x1 ![0] bcast_S256_S256x1_0 (Host.reduceAdd (mulf x x) (constant S_ .f32 0x00000000#32) reducesTo_S256x1024_S256_d1 h_S_))
        (broadcastInDim S256x1 ![] bcast_S_S256x1 (constant S_ .f32 0x44800000#32)))
      (broadcastInDim S256x1 ![] bcast_S_S256x1 (constant S_ .f32 0x358637BD#32))))))
      (broadcastInDim S256x1024 ![0, 1] bcast_S1x1024_S256x1024_0_1 g)) w

theorem rProd_at (x : FVec Ideal S256x1024 .f32) (g : FVec Ideal S1x1024 .f32)
    (w : FVec Ideal S1024x1024 .f32) (r : Fin 256) (c : Fin 1024) :
    rProd x g w (ix2 r c) = proj (fun k => x (ix2 r k)) (fun k => g (ix2 0 k)) (fun k => w (ix2 k c)) := by
  unfold rProd
  pointwise
  rfl

theorem ref3 (x : FVec Ideal S256x1024 .f32) (g : FVec Ideal S1x1024 .f32)
    (w : FVec Ideal S1024x1024 .f32) :
    extractStridedSlice S256x512 ![0, 0] (rProd x g w) slices_S256x1024_S256x512_0_0 = half x g w 0 := by
  funext i
  rw [eq_ix2 i]
  pointwise [rProd_at]
  unfold half
  congr 1
  funext k
  congr 2
  exact Fin.ext (by show (i 1).val = 512 * 0 + (i 1).val; omega)

theorem ref4 (x : FVec Ideal S256x1024 .f32) (g : FVec Ideal S1x1024 .f32)
    (w : FVec Ideal S1024x1024 .f32) :
    extractStridedSlice S256x512 ![0, 512] (rProd x g w) slices_S256x1024_S256x512_0_512 = half x g w 1 := by
  funext i
  rw [eq_ix2 i]
  pointwise [rProd_at]
  unfold half
  congr 1

end

theorem algebraic : Cert.algebraic_Kernel3Ideal_Reference3Ideal := by
  intro m g m' g' _ hagree
  refine ⟨fun c => half (xIn m c) (gIn m c) (wIn m c) 0, fun c => half (xIn m c) (gIn m c) (wIn m c) 1, ?_, ?_⟩
  · exact (θ_run Cert.Kernel3Ideal.defs _ _).mono (fun _ h c => ⟨(h c).1.trans (final3 m c), (h c).2.1.trans (final4 m c), (h c).2.2⟩)
      (Cert.Kernel3Ideal.Value.run_blocks (F := Ideal) m g)
  · refine (θ_run Cert.Reference3Ideal.defs _ _).mono (fun _ h c => ⟨(h c).1.trans ?_, (h c).2.1.trans ?_, (h c).2.2⟩) (Cert.Reference3Ideal.Value.run (F := Ideal) m' g')
    · rw [(hagree c).1, (hagree c).2.1, (hagree c).2.2]
      exact ref3 (xIn m c) (gIn m c) (wIn m c)
    · rw [(hagree c).1, (hagree c).2.1, (hagree c).2.2]
      exact ref4 (xIn m c) (gIn m c) (wIn m c)

end Cert.Lin.Mem

end
-- ==== Proof.Lin.InSample.lean ====
/-
  The projections of the sampled rows: the kernel's arrays are the reference's.
-/
module

public import proofs.«01_k».proof.Defs
public import proofs.«01_k».proof.Proof.Gen.Kernel4Ideal.Value
public import proofs.«01_k».proof.Proof.Gen.Reference4Ideal.Run
public import proofs.«01_k».proof.Proof.Lin.Proj

@[expose] public section

noncomputable section

namespace Cert.Lin.InSample

open Idealize.ShloMosaic Idealize.ShloMosaic.TcCoe
open Idealize.ShloMosaic.Pipeline (Dat)

/-- The factor of a column: an eighth for the queries of the two self attentions. -/
def fac (c : ℕ) : EReal := if c < 512 ∨ (1536 ≤ c ∧ c < 2048) then Ideal.ofBits FTy.f32 1040187392#32 else 1

/-- A projected row at a column, the column's scale and the gates' offset not yet applied. -/
def raw {n : ℕ} (x : (⟨2, ![n, 1024]⟩ : Shape).Idx → EReal) (g : (⟨2, ![1, 1024]⟩ : Shape).Idx → EReal) (w : (⟨2, ![1024, 6656]⟩ : Shape).Idx → EReal)
    (r : Fin n) (c : ℕ) (hc : c < 6656) : EReal :=
  proj (fun k => x (ix2 r k)) (fun k => g (ix2 0 k)) (fun k => w (ix2 k ⟨c, hc⟩))

theorem raw_congr {n : ℕ} (x : (⟨2, ![n, 1024]⟩ : Shape).Idx → EReal) (g : (⟨2, ![1, 1024]⟩ : Shape).Idx → EReal) (w : (⟨2, ![1024, 6656]⟩ : Shape).Idx → EReal)
    (r : Fin n) {c d : ℕ} {hc : c < 6656} {hd : d < 6656} (e : c = d) : raw x g w r c hc = raw x g w r d hd := by
  subst e; rfl

/-- The results, each at a row and a column: the scaled columns, the plain ones from a column on, and the gates. -/
def qkv {n : ℕ} (x : (⟨2, ![n, 1024]⟩ : Shape).Idx → EReal) (g : (⟨2, ![1, 1024]⟩ : Shape).Idx → EReal) (w : (⟨2, ![1024, 6656]⟩ : Shape).Idx → EReal) :
    (⟨2, ![n, 3584]⟩ : Shape).Idx → EReal :=
  fun i => raw x g w (i 0) (i 1).val (by have h : (i 1).val < 3584 := (i 1).isLt; omega) * fac (i 1).val

def part {n : ℕ} (o : Fin 12) (x : (⟨2, ![n, 1024]⟩ : Shape).Idx → EReal) (g : (⟨2, ![1, 1024]⟩ : Shape).Idx → EReal) (w : (⟨2, ![1024, 6656]⟩ : Shape).Idx → EReal) :
    (⟨2, ![n, 512]⟩ : Shape).Idx → EReal :=
  fun i => raw x g w (i 0) (512 * o.val + (i 1).val) (by have h : (i 1).val < 512 := (i 1).isLt; omega)

def gate {n : ℕ} (x : (⟨2, ![n, 1024]⟩ : Shape).Idx → EReal) (g : (⟨2, ![1, 1024]⟩ : Shape).Idx → EReal) (w : (⟨2, ![1024, 6656]⟩ : Shape).Idx → EReal)
    (b : (⟨2, ![1, 3072]⟩ : Shape).Idx → EReal) : (⟨2, ![n, 3072]⟩ : Shape).Idx → EReal :=
  fun i => Ideal.logistic (raw x g w (i 0) (3584 + (i 1).val) (by have h : (i 1).val < 3072 := (i 1).isLt; omega) + b (ix2 0 (i 1)))

section

open Cert.Kernel4Ideal Cert.Kernel4Ideal.Gen Cert.Kernel4Ideal.Value

theorem pay3_at (x : Vec Ideal S512x1024 .f32) (g : Vec Ideal S1x1024 .f32) (s : Fin 512) (k : Fin 1024) :
    k0_pay3 (F := Ideal) x g (ix2 s k) = normed (fun k => x (ix2 s k)) (fun k => g (ix2 0 k)) k := by
  unfold k0_pay3
  pointwise
  rfl

variable (c : Dev nD) (a1 : Memref sig .tc .vmem S512x1024 .f32) (h1 : a1.IsWhole) (a2 : Memref sig .tc .vmem S1x1024 .f32) (h2 : a2.IsWhole)
  (a3 : Memref sig .tc .vmem S1024x6656 .bf16) (h3 : a3.IsWhole) (a4 : Memref sig .tc .vmem S1x3072 .f32) (h4 : a4.IsWhole) (a11 : Memref sig .tc .vmem S512x1024 .bf16)
  (x : Vec Ideal S512x1024 .f32) (g : Vec Ideal S1x1024 .f32) (w : Vec Ideal S1024x6656 .bf16) (b : Vec Ideal S1x3072 .f32)

/-- The normed rows, as they are read back. -/
theorem v18_eq : kernelRun0_A.sl.v18 (F := Ideal) c a1 h1 a2 h2 a11 x g = k0_pay3 x g := by
  unfold kernelRun0_A.sl.v18 kernelRun0_A.sl.HS0_1
  refine (View.readCov_unit_zero (S := S512x1024) a11.view (off := ![0, 0]) (by decide) _ _).trans ?_
  rw [View.readAt_eq_ld, View.readAt_eq_ld, h1.read_unread, h2.read_unread, View.ld_unit_zero (by decide), View.ld_unit_zero (by decide)]

theorem v118_eq : kernelRun0_A.sl.v118 (F := Ideal) c a1 h1 a2 h2 a11 x g = k0_pay3 x g := by
  unfold kernelRun0_A.sl.v118 kernelRun0_A.sl.HS0_1
  refine (View.readCov_unit_zero (S := S512x1024) a11.view (off := ![0, 0]) (by decide) _ _).trans ?_
  rw [View.readAt_eq_ld, View.readAt_eq_ld, h1.read_unread, h2.read_unread, View.ld_unit_zero (by decide), View.ld_unit_zero (by decide)]

theorem cols_at (o : ℕ) (inb) (k : Fin 1024) (t : Fin 512) (ho : o + t.val < 6656) :
    View.readAt (Elt Ideal) a3.view (Rect.unit (s := S1024x6656) ![0, o] S1024x512.size inb).toLoadRect (h3.unread w) (ix2 k t) = w (ix2 k ⟨o + t.val, ho⟩) := by
  rw [View.readAt_apply, h3.read_unread]
  refine congrArg w (funext fun a => Fin.ext ?_)
  match a with
  | ⟨0, _⟩ => show 0 + 1 * k.val = k.val; omega
  | ⟨1, _⟩ => show o + 1 * t.val = o + t.val; omega

theorem offs_at (o : ℕ) (inb) (t : Fin 512) (ho : o + t.val < 3072) :
    View.readAt (Elt Ideal) a4.view (Rect.unit (s := S1x3072) ![0, o] S1x512.size inb).toLoadRect (h4.unread b) (ix2 0 t) = b (ix2 0 ⟨o + t.val, ho⟩) := by
  rw [View.readAt_apply, h4.read_unread]
  refine congrArg b (funext fun a => Fin.ext ?_)
  match a with
  | ⟨0, _⟩ => rfl
  | ⟨1, _⟩ => show o + 1 * t.val = o + t.val; omega

/-- The product of the normed rows and one segment of the columns. -/
theorem seg_at (o : ℕ) (inb) (s t : Fin 512) (ho : o + t.val < 6656) :
    ∑ k, k0_pay3 (F := Ideal) x g (ix2 s k) * View.readAt (Elt Ideal) a3.view (Rect.unit (s := S1024x6656) ![0, o] S1024x512.size inb).toLoadRect (h3.unread w) (ix2 k t)
      = raw x g w s (o + t.val) ho := by
  unfold raw proj
  exact Finset.sum_congr rfl fun k _ => congrArg₂ (· * ·) (pay3_at x g s k) (cols_at a3 h3 w o inb k t ho)

section
variable (h : Vec Ideal S512x1024 .bf16) (v : Vec Ideal S1024x512 .bf16) (e : Vec Ideal S1x512 .f32) (s t : Fin 512)
theorem pay5_at : k0_pay5 (F := Ideal) h v (ix2 s t) = ∑ k, h (ix2 s k) * v (ix2 k t) := by
  unfold k0_pay5; pointwise; done
theorem pay7_at : k0_pay7 (F := Ideal) h v (ix2 s t) = ∑ k, h (ix2 s k) * v (ix2 k t) := by
  unfold k0_pay7; pointwise; done
theorem pay10_at : k0_pay10 (F := Ideal) h v (ix2 s t) = ∑ k, h (ix2 s k) * v (ix2 k t) := by
  unfold k0_pay10; pointwise; done
theorem pay12_at : k0_pay12 (F := Ideal) h v (ix2 s t) = ∑ k, h (ix2 s k) * v (ix2 k t) := by
  unfold k0_pay12; pointwise; done
theorem pay6_at : k0_pay6 (F := Ideal) h v (ix2 s t) = ∑ k, h (ix2 s k) * v (ix2 k t) := by
  unfold k0_pay6; pointwise [pay5_at]; done
theorem pay8_at : k0_pay8 (F := Ideal) h v (ix2 s t) = ∑ k, h (ix2 s k) * v (ix2 k t) := by
  unfold k0_pay8; pointwise [pay7_at]; done
theorem pay11_at : k0_pay11 (F := Ideal) h v (ix2 s t) = ∑ k, h (ix2 s k) * v (ix2 k t) := by
  unfold k0_pay11; pointwise [pay10_at]; done
theorem pay13_at : k0_pay13 (F := Ideal) h v (ix2 s t) = ∑ k, h (ix2 s k) * v (ix2 k t) := by
  unfold k0_pay13; pointwise [pay12_at]; done
theorem pay14_at : k0_pay14 (F := Ideal) h v (ix2 s t) = ∑ k, h (ix2 s k) * v (ix2 k t) := by
  unfold k0_pay14; pointwise; done
theorem pay4_at : k0_pay4 (F := Ideal) h v (ix2 s t) = (∑ k, h (ix2 s k) * v (ix2 k t)) * Ideal.ofBits FTy.f32 1040187392#32 := by
  unfold k0_pay4; pointwise; done
theorem pay9_at : k0_pay9 (F := Ideal) h v (ix2 s t) = (∑ k, h (ix2 s k) * v (ix2 k t)) * Ideal.ofBits FTy.f32 1040187392#32 := by
  unfold k0_pay9; pointwise; done
theorem pay15_at : k0_pay15 (F := Ideal) h v e (ix2 s t) = Ideal.logistic (∑ k, h (ix2 s k) * v (ix2 k t) + e (ix2 0 t)) := by
  unfold k0_pay15; pointwise; done
theorem pay16_at : k0_pay16 (F := Ideal) h v e (ix2 s t) = Ideal.logistic (∑ k, h (ix2 s k) * v (ix2 k t) + e (ix2 0 t)) := by
  unfold k0_pay16; pointwise; done
theorem pay17_at : k0_pay17 (F := Ideal) h v e (ix2 s t) = Ideal.logistic (∑ k, h (ix2 s k) * v (ix2 k t) + e (ix2 0 t)) := by
  unfold k0_pay17; pointwise; done
theorem pay18_at : k0_pay18 (F := Ideal) h v e (ix2 s t) = Ideal.logistic (∑ k, h (ix2 s k) * v (ix2 k t) + e (ix2 0 t)) := by
  unfold k0_pay18; pointwise; done
theorem pay1_at : k0_pay1 (F := Ideal) h v e (ix2 s t) = Ideal.logistic (∑ k, h (ix2 s k) * v (ix2 k t) + e (ix2 0 t)) := by
  unfold k0_pay1; pointwise; done
theorem pay2_at : k0_pay2 (F := Ideal) h v e (ix2 s t) = Ideal.logistic (∑ k, h (ix2 s k) * v (ix2 k t) + e (ix2 0 t)) := by
  unfold k0_pay2; pointwise; done
end

theorem emb_at {n : ℕ} (o : ℕ) (inb) (y : S512x512.Idx) (ho : o + (y 1).val < n) :
    (Rect.unit (s := (⟨2, ![512, n]⟩ : Shape)) ![0, o] S512x512.size inb).emb y = ix2 (y 0) ⟨o + (y 1).val, ho⟩ := by
  funext a
  match a with
  | ⟨0, _⟩ => exact Fin.ext (by show 0 + 1 * (y 0).val = (y 0).val; omega)
  | ⟨1, _⟩ => exact Fin.ext (by show o + 1 * (y 1).val = o + (y 1).val; omega)

theorem block4 (i : grid0.Coords) (a5 h5 a6 h6 a7 h7 a8 h8 a9 h9 a10 h10 h11) (y) :
    out0_A_4 (F := Ideal) c i a1 h1 a2 h2 a3 h3 a4 h4 a5 h5 a6 h6 a7 h7 a8 h8 a9 h9 a10 h10 a11 h11 x g w b y = qkv x g w y := by
  unfold out0_A_4
  rw [View.read_writes_eq_canon _ _ _ (cover0_A_4 _ _ _ _ _ _ _ _ _ _ _ _ _ _ _ _ _ _ _ _ _ _ _ _ _ _ _ _ )]
  refine View.canon_apply_of_pieces (Val := Elt Ideal) (qkv x g w) _ ?_ y (cover0_A_4 _ _ _ _ _ _ _ _ _ _ _ _ _ _ _ _ _ _ _ _ _ _ _ _ _ _ _ _  y)
  unfold kernelRun0_A
  dsimp only
  simp only [kernelRun0_A.sl.r_1, kernelRun0_A.sl.r_3, v18_eq, v118_eq]
  intro p hp
  simp only [List.mem_cons, List.mem_nil_iff, or_false] at hp
  rcases hp with rfl | rfl | rfl | rfl | rfl | rfl | rfl
  · intro y
    have hy : (y 1).val < 512 := (y 1).isLt
    refine Eq.trans ?_ (congrArg _ (emb_at (n := 3584) 3072 (by decide) y (by omega)).symm)
    refine (congrArg _ (eq_ix2 y)).trans ((pay14_at _ _ _ _).trans ?_)
    rw [seg_at a3 h3 x g w 3072 _ (y 0) (y 1) (by omega)]
    show _ = raw x g w (y 0) (3072 + (y 1).val) _ * fac (3072 + (y 1).val)
    rw [fac, if_neg (by omega), mul_one]
  · intro y
    have hy : (y 1).val < 512 := (y 1).isLt
    refine Eq.trans ?_ (congrArg _ (emb_at (n := 3584) 2560 (by decide) y (by omega)).symm)
    refine (congrArg _ (eq_ix2 y)).trans ((pay13_at _ _ _ _).trans ?_)
    rw [seg_at a3 h3 x g w 2560 _ (y 0) (y 1) (by omega)]
    show _ = raw x g w (y 0) (2560 + (y 1).val) _ * fac (2560 + (y 1).val)
    rw [fac, if_neg (by omega), mul_one]
  · intro y
    have hy : (y 1).val < 512 := (y 1).isLt
    refine Eq.trans ?_ (congrArg _ (emb_at (n := 3584) 2048 (by decide) y (by omega)).symm)
    refine (congrArg _ (eq_ix2 y)).trans ((pay11_at _ _ _ _).trans ?_)
    rw [seg_at a3 h3 x g w 2048 _ (y 0) (y 1) (by omega)]
    show _ = raw x g w (y 0) (2048 + (y 1).val) _ * fac (2048 + (y 1).val)
    rw [fac, if_neg (by omega), mul_one]
  · intro y
    have hy : (y 1).val < 512 := (y 1).isLt
    refine Eq.trans ?_ (congrArg _ (emb_at (n := 3584) 1536 (by decide) y (by omega)).symm)
    refine (congrArg _ (eq_ix2 y)).trans ((pay9_at _ _ _ _).trans ?_)
    rw [seg_at a3 h3 x g w 1536 _ (y 0) (y 1) (by omega)]
    show _ = raw x g w (y 0) (1536 + (y 1).val) _ * fac (1536 + (y 1).val)
    rw [fac, if_pos (by omega)]
  · intro y
    have hy : (y 1).val < 512 := (y 1).isLt
    refine Eq.trans ?_ (congrArg _ (emb_at (n := 3584) 1024 (by decide) y (by omega)).symm)
    refine (congrArg _ (eq_ix2 y)).trans ((pay8_at _ _ _ _).trans ?_)
    rw [seg_at a3 h3 x g w 1024 _ (y 0) (y 1) (by omega)]
    show _ = raw x g w (y 0) (1024 + (y 1).val) _ * fac (1024 + (y 1).val)
    rw [fac, if_neg (by omega), mul_one]
  · intro y
    have hy : (y 1).val < 512 := (y 1).isLt
    refine Eq.trans ?_ (congrArg _ (emb_at (n := 3584) 512 (by decide) y (by omega)).symm)
    refine (congrArg _ (eq_ix2 y)).trans ((pay6_at _ _ _ _).trans ?_)
    rw [seg_at a3 h3 x g w 512 _ (y 0) (y 1) (by omega)]
    show _ = raw x g w (y 0) (512 + (y 1).val) _ * fac (512 + (y 1).val)
    rw [fac, if_neg (by omega), mul_one]
  · intro y
    have hy : (y 1).val < 512 := (y 1).isLt
    refine Eq.trans ?_ (congrArg _ (emb_at (n := 3584) 0 (by decide) y (by omega)).symm)
    refine (congrArg _ (eq_ix2 y)).trans ((pay4_at _ _ _ _).trans ?_)
    rw [seg_at a3 h3 x g w 0 _ (y 0) (y 1) (by omega)]
    show _ = raw x g w (y 0) (0 + (y 1).val) _ * fac (0 + (y 1).val)
    rw [fac, if_pos (by omega)]

theorem block5 (i : grid0.Coords) (a5 h5 a6 h6 a7 h7 a8 h8 a9 h9 a10 h10 h11) (y) :
    out0_A_5 (F := Ideal) c i a1 h1 a2 h2 a3 h3 a4 h4 a5 h5 a6 h6 a7 h7 a8 h8 a9 h9 a10 h10 a11 h11 x g w b y = part 1 x g w y := by
  unfold out0_A_5
  rw [View.read_writes_eq_canon _ _ _ (cover0_A_5 _ _ _ _ _ _ _ _ _ _ _ _ _ _ _ _ _ _ _ _ _ _ _ _ _ _ _ _ )]
  refine View.canon_apply_of_pieces (Val := Elt Ideal) (part 1 x g w) _ ?_ y (cover0_A_5 _ _ _ _ _ _ _ _ _ _ _ _ _ _ _ _ _ _ _ _ _ _ _ _ _ _ _ _  y)
  unfold kernelRun0_A
  dsimp only
  simp only [kernelRun0_A.sl.r, v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay5_at _ _ _ _).trans ?_)
    rw [seg_at a3 h3 x g w 512 _ (y 0) (y 1) (by omega)]
    show raw x g w (y 0) (512 + (y 1).val) _ = raw x g w (y 0) (512 * 1 + (0 + (y 1).val)) _
    exact raw_congr x g w _ (by omega)

theorem block6 (i : grid0.Coords) (a5 h5 a6 h6 a7 h7 a8 h8 a9 h9 a10 h10 h11) (y) :
    out0_A_6 (F := Ideal) c i a1 h1 a2 h2 a3 h3 a4 h4 a5 h5 a6 h6 a7 h7 a8 h8 a9 h9 a10 h10 a11 h11 x g w b y = part 2 x g w y := by
  unfold out0_A_6
  rw [View.read_writes_eq_canon _ _ _ (cover0_A_6 _ _ _ _ _ _ _ _ _ _ _ _ _ _ _ _ _ _ _ _ _ _ _ _ _ _ _ _ )]
  refine View.canon_apply_of_pieces (Val := Elt Ideal) (part 2 x g w) _ ?_ y (cover0_A_6 _ _ _ _ _ _ _ _ _ _ _ _ _ _ _ _ _ _ _ _ _ _ _ _ _ _ _ _  y)
  unfold kernelRun0_A
  dsimp only
  simp only [v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay7_at _ _ _ _).trans ?_)
    rw [seg_at a3 h3 x g w 1024 _ (y 0) (y 1) (by omega)]
    show raw x g w (y 0) (1024 + (y 1).val) _ = raw x g w (y 0) (512 * 2 + (0 + (y 1).val)) _
    exact raw_congr x g w _ (by omega)

theorem block7 (i : grid0.Coords) (a5 h5 a6 h6 a7 h7 a8 h8 a9 h9 a10 h10 h11) (y) :
    out0_A_7 (F := Ideal) c i a1 h1 a2 h2 a3 h3 a4 h4 a5 h5 a6 h6 a7 h7 a8 h8 a9 h9 a10 h10 a11 h11 x g w b y = part 4 x g w y := by
  unfold out0_A_7
  rw [View.read_writes_eq_canon _ _ _ (cover0_A_7 _ _ _ _ _ _ _ _ _ _ _ _ _ _ _ _ _ _ _ _ _ _ _ _ _ _ _ _ )]
  refine View.canon_apply_of_pieces (Val := Elt Ideal) (part 4 x g w) _ ?_ y (cover0_A_7 _ _ _ _ _ _ _ _ _ _ _ _ _ _ _ _ _ _ _ _ _ _ _ _ _ _ _ _  y)
  unfold kernelRun0_A
  dsimp only
  simp only [kernelRun0_A.sl.r_2, v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay10_at _ _ _ _).trans ?_)
    rw [seg_at a3 h3 x g w 2048 _ (y 0) (y 1) (by omega)]
    show raw x g w (y 0) (2048 + (y 1).val) _ = raw x g w (y 0) (512 * 4 + (0 + (y 1).val)) _
    exact raw_congr x g w _ (by omega)

theorem block8 (i : grid0.Coords) (a5 h5 a6 h6 a7 h7 a8 h8 a9 h9 a10 h10 h11) (y) :
    out0_A_8 (F := Ideal) c i a1 h1 a2 h2 a3 h3 a4 h4 a5 h5 a6 h6 a7 h7 a8 h8 a9 h9 a10 h10 a11 h11 x g w b y = part 5 x g w y := by
  unfold out0_A_8
  rw [View.read_writes_eq_canon _ _ _ (cover0_A_8 _ _ _ _ _ _ _ _ _ _ _ _ _ _ _ _ _ _ _ _ _ _ _ _ _ _ _ _ )]
  refine View.canon_apply_of_pieces (Val := Elt Ideal) (part 5 x g w) _ ?_ y (cover0_A_8 _ _ _ _ _ _ _ _ _ _ _ _ _ _ _ _ _ _ _ _ _ _ _ _ _ _ _ _  y)
  unfold kernelRun0_A
  dsimp only
  simp only [v18_eq, v118_eq]
  intro p hp
  simp only [List.mem_cons, List.mem_nil_iff, or_false] at hp
  rcases hp with rfl
  · intro y
    have hy : (y 1).val < 512 := (y 1).isLt
    refine Eq.trans ?_ (congrArg _ (emb_at (n := 512) 0 (by decide) y (by omega)).symm)
    refine (congrArg _ (eq_ix2 y)).trans ((pay12_at _ _ _ _).trans ?_)
    rw [seg_at a3 h3 x g w 2560 _ (y 0) (y 1) (by omega)]
    show raw x g w (y 0) (2560 + (y 1).val) _ = raw x g w (y 0) (512 * 5 + (0 + (y 1).val)) _
    exact raw_congr x g w _ (by omega)

theorem block9 (i : grid0.Coords) (a5 h5 a6 h6 a7 h7 a8 h8 a9 h9 a10 h10 h11) (y) :
    out0_A_9 (F := Ideal) c i a1 h1 a2 h2 a3 h3 a4 h4 a5 h5 a6 h6 a7 h7 a8 h8 a9 h9 a10 h10 a11 h11 x g w b y = gate x g w b y := by
  unfold out0_A_9
  rw [View.read_writes_eq_canon _ _ _ (cover0_A_9 _ _ _ _ _ _ _ _ _ _ _ _ _ _ _ _ _ _ _ _ _ _ _ _ _ _ _ _ )]
  refine View.canon_apply_of_pieces (Val := Elt Ideal) (gate x g w b) _ ?_ y (cover0_A_9 _ _ _ _ _ _ _ _ _ _ _ _ _ _ _ _ _ _ _ _ _ _ _ _ _ _ _ _  y)
  unfold kernelRun0_A
  dsimp only
  simp only [kernelRun0_A.sl.r_4, kernelRun0_A.sl.r_5, v18_eq, v118_eq]
  intro p hp
  simp only [List.mem_cons, List.mem_nil_iff, or_false] at hp
  rcases hp with rfl | rfl | rfl | rfl | rfl | rfl
  · intro y
    have hy : (y 1).val < 512 := (y 1).isLt
    refine Eq.trans ?_ (congrArg _ (emb_at (n := 3072) 2560 (by decide) y (by omega)).symm)
    refine (congrArg _ (eq_ix2 y)).trans ((pay2_at _ _ _ _ _).trans ?_)
    rw [seg_at a3 h3 x g w 6144 _ (y 0) (y 1) (by omega), offs_at a4 h4 b 2560 _ (y 1) (by omega)]
    show Ideal.logistic (raw x g w (y 0) (6144 + (y 1).val) _ + _) = Ideal.logistic (raw x g w (y 0) (3584 + (2560 + (y 1).val)) _ + _)
    exact congrArg (fun v => Ideal.logistic (v + _)) (raw_congr x g w _ (by omega))
  · intro y
    have hy : (y 1).val < 512 := (y 1).isLt
    refine Eq.trans ?_ (congrArg _ (emb_at (n := 3072) 2048 (by decide) y (by omega)).symm)
    refine (congrArg _ (eq_ix2 y)).trans ((pay1_at _ _ _ _ _).trans ?_)
    rw [seg_at a3 h3 x g w 5632 _ (y 0) (y 1) (by omega), offs_at a4 h4 b 2048 _ (y 1) (by omega)]
    show Ideal.logistic (raw x g w (y 0) (5632 + (y 1).val) _ + _) = Ideal.logistic (raw x g w (y 0) (3584 + (2048 + (y 1).val)) _ + _)
    exact congrArg (fun v => Ideal.logistic (v + _)) (raw_congr x g w _ (by omega))
  · intro y
    have hy : (y 1).val < 512 := (y 1).isLt
    refine Eq.trans ?_ (congrArg _ (emb_at (n := 3072) 1536 (by decide) y (by omega)).symm)
    refine (congrArg _ (eq_ix2 y)).trans ((pay18_at _ _ _ _ _).trans ?_)
    rw [seg_at a3 h3 x g w 5120 _ (y 0) (y 1) (by omega), offs_at a4 h4 b 1536 _ (y 1) (by omega)]
    show Ideal.logistic (raw x g w (y 0) (5120 + (y 1).val) _ + _) = Ideal.logistic (raw x g w (y 0) (3584 + (1536 + (y 1).val)) _ + _)
    exact congrArg (fun v => Ideal.logistic (v + _)) (raw_congr x g w _ (by omega))
  · intro y
    have hy : (y 1).val < 512 := (y 1).isLt
    refine Eq.trans ?_ (congrArg _ (emb_at (n := 3072) 1024 (by decide) y (by omega)).symm)
    refine (congrArg _ (eq_ix2 y)).trans ((pay17_at _ _ _ _ _).trans ?_)
    rw [seg_at a3 h3 x g w 4608 _ (y 0) (y 1) (by omega), offs_at a4 h4 b 1024 _ (y 1) (by omega)]
    show Ideal.logistic (raw x g w (y 0) (4608 + (y 1).val) _ + _) = Ideal.logistic (raw x g w (y 0) (3584 + (1024 + (y 1).val)) _ + _)
    exact congrArg (fun v => Ideal.logistic (v + _)) (raw_congr x g w _ (by omega))
  · intro y
    have hy : (y 1).val < 512 := (y 1).isLt
    refine Eq.trans ?_ (congrArg _ (emb_at (n := 3072) 512 (by decide) y (by omega)).symm)
    refine (congrArg _ (eq_ix2 y)).trans ((pay16_at _ _ _ _ _).trans ?_)
    rw [seg_at a3 h3 x g w 4096 _ (y 0) (y 1) (by omega), offs_at a4 h4 b 512 _ (y 1) (by omega)]
    show Ideal.logistic (raw x g w (y 0) (4096 + (y 1).val) _ + _) = Ideal.logistic (raw x g w (y 0) (3584 + (512 + (y 1).val)) _ + _)
    exact congrArg (fun v => Ideal.logistic (v + _)) (raw_congr x g w _ (by omega))
  · intro y
    have hy : (y 1).val < 512 := (y 1).isLt
    refine Eq.trans ?_ (congrArg _ (emb_at (n := 3072) 0 (by decide) y (by omega)).symm)
    refine (congrArg _ (eq_ix2 y)).trans ((pay15_at _ _ _ _ _).trans ?_)
    rw [seg_at a3 h3 x g w 3584 _ (y 0) (y 1) (by omega), offs_at a4 h4 b 0 _ (y 1) (by omega)]
    show Ideal.logistic (raw x g w (y 0) (3584 + (y 1).val) _ + _) = Ideal.logistic (raw x g w (y 0) (3584 + (0 + (y 1).val)) _ + _)
    exact congrArg (fun v => Ideal.logistic (v + _)) (raw_congr x g w _ (by omega))

end

end Cert.Lin.InSample

end
-- ==== Proof.Lin.InSampleRun.lean ====
/-
  The projections of the sampled rows, as whole arrays: the kernel's and the reference's.
-/
module

public import proofs.«01_k».proof.Proof.Lin.InSample

@[expose] public section

noncomputable section

namespace Cert.Lin.InSample

open Idealize.ShloMosaic Idealize.ShloMosaic.TcCoe
open Idealize.ShloMosaic.Pipeline (Dat)

section

open Cert.Kernel4Ideal Cert.Kernel4Ideal.Gen Cert.Kernel4Ideal.Value

variable (m : (ℓ : Loc nD τ sig) → Buf (Elt Ideal) ℓ)

/-- The arrays the kernel is started on. -/
def xIn (c : Dev nD) : S1024x1024.Idx → EReal := m ((c.tc : Thread nD τ).loc main_arg0)
def gIn (c : Dev nD) : S1x1024.Idx → EReal := m ((c.tc : Thread nD τ).loc main_arg1)
def wIn (c : Dev nD) : S1024x6656.Idx → EReal := m ((c.tc : Thread nD τ).loc main_arg2)
def bIn (c : Dev nD) : S1x3072.Idx → EReal := m ((c.tc : Thread nD τ).loc main_arg3)

/-- A row of a point's block, as a row of the array. -/
theorem row_lt (t : Fin grid0.N) (r : Fin 512) : 512 * t.val + r.val < 1024 := by
  have h : t.val < 2 := t.isLt.trans_eq N_0
  have := r.isLt
  omega

def rowOf (t : Fin grid0.N) (r : Fin 512) : Fin 1024 := ⟨512 * t.val + r.val, row_lt t r⟩

theorem whole1 (t : Fin cfg0.N) (j : S1x1024.Idx) : ((cfg0.win 1).blk t).view.emb j = j := by
  funext a
  match a with
  | ⟨0, _⟩ => exact Fin.ext (by show 0 * 1 + 1 * (j 0).val = (j 0).val; omega)
  | ⟨1, _⟩ => exact Fin.ext (by show 0 * 1024 + 1 * (j 1).val = (j 1).val; omega)

theorem whole2 (t : Fin cfg0.N) (j : S1024x6656.Idx) : ((cfg0.win 2).blk t).view.emb j = j := by
  funext a
  match a with
  | ⟨0, _⟩ => exact Fin.ext (by show 0 * 1024 + 1 * (j 0).val = (j 0).val; omega)
  | ⟨1, _⟩ => exact Fin.ext (by show 0 * 6656 + 1 * (j 1).val = (j 1).val; omega)

theorem whole3 (t : Fin cfg0.N) (j : S1x3072.Idx) : ((cfg0.win 3).blk t).view.emb j = j := by
  funext a
  match a with
  | ⟨0, _⟩ => exact Fin.ext (by show 0 * 1 + 1 * (j 0).val = (j 0).val; omega)
  | ⟨1, _⟩ => exact Fin.ext (by show 0 * 3072 + 1 * (j 1).val = (j 1).val; omega)

theorem place0 : ∀ t : Fin grid0.N, win0_0.index t 0 = t.val ∧ win0_0.index t 1 = 0 := by decide +kernel

theorem emb0 (t : Fin grid0.N) (j : S512x1024.Idx) : (win0_0.rect t).emb j = ix2 (rowOf t (j 0)) (j 1) := by
  funext a
  match a with
  | ⟨0, _⟩ =>
    refine Fin.ext ((win0_0.rect_emb_val t j 0).trans ?_)
    rw [(place0 t).1]
    show t.val * 512 + (j 0).val = 512 * t.val + (j 0).val
    omega
  | ⟨1, _⟩ =>
    refine Fin.ext ((win0_0.rect_emb_val t j 1).trans ?_)
    rw [(place0 t).2]
    show 0 * 1024 + (j 1).val = (j 1).val
    omega

theorem place4 : ∀ t : Fin grid0.N, win0_4.index t 0 = t.val ∧ win0_4.index t 1 = 0 := by decide +kernel

theorem emb4 (t : Fin grid0.N) (j : S512x3584.Idx) : (win0_4.rect t).emb j = ix2 (rowOf t (j 0)) (j 1) := by
  funext a
  match a with
  | ⟨0, _⟩ =>
    refine Fin.ext ((win0_4.rect_emb_val t j 0).trans ?_)
    rw [(place4 t).1]
    show t.val * 512 + (j 0).val = 512 * t.val + (j 0).val
    omega
  | ⟨1, _⟩ =>
    refine Fin.ext ((win0_4.rect_emb_val t j 1).trans ?_)
    rw [(place4 t).2]
    show 0 * 3584 + (j 1).val = (j 1).val
    omega

theorem place5 : ∀ t : Fin grid0.N, win0_5.index t 0 = t.val ∧ win0_5.index t 1 = 0 := by decide +kernel

theorem emb5 (t : Fin grid0.N) (j : S512x512.Idx) : (win0_5.rect t).emb j = ix2 (rowOf t (j 0)) (j 1) := by
  funext a
  match a with
  | ⟨0, _⟩ =>
    refine Fin.ext ((win0_5.rect_emb_val t j 0).trans ?_)
    rw [(place5 t).1]
    show t.val * 512 + (j 0).val = 512 * t.val + (j 0).val
    omega
  | ⟨1, _⟩ =>
    refine Fin.ext ((win0_5.rect_emb_val t j 1).trans ?_)
    rw [(place5 t).2]
    show 0 * 512 + (j 1).val = (j 1).val
    omega

theorem place6 : ∀ t : Fin grid0.N, win0_6.index t 0 = t.val ∧ win0_6.index t 1 = 0 := by decide +kernel

theorem emb6 (t : Fin grid0.N) (j : S512x512.Idx) : (win0_6.rect t).emb j = ix2 (rowOf t (j 0)) (j 1) := by
  funext a
  match a with
  | ⟨0, _⟩ =>
    refine Fin.ext ((win0_6.rect_emb_val t j 0).trans ?_)
    rw [(place6 t).1]
    show t.val * 512 + (j 0).val = 512 * t.val + (j 0).val
    omega
  | ⟨1, _⟩ =>
    refine Fin.ext ((win0_6.rect_emb_val t j 1).trans ?_)
    rw [(place6 t).2]
    show 0 * 512 + (j 1).val = (j 1).val
    omega

theorem place7 : ∀ t : Fin grid0.N, win0_7.index t 0 = t.val ∧ win0_7.index t 1 = 0 := by decide +kernel

theorem emb7 (t : Fin grid0.N) (j : S512x512.Idx) : (win0_7.rect t).emb j = ix2 (rowOf t (j 0)) (j 1) := by
  funext a
  match a with
  | ⟨0, _⟩ =>
    refine Fin.ext ((win0_7.rect_emb_val t j 0).trans ?_)
    rw [(place7 t).1]
    show t.val * 512 + (j 0).val = 512 * t.val + (j 0).val
    omega
  | ⟨1, _⟩ =>
    refine Fin.ext ((win0_7.rect_emb_val t j 1).trans ?_)
    rw [(place7 t).2]
    show 0 * 512 + (j 1).val = (j 1).val
    omega

theorem place8 : ∀ t : Fin grid0.N, win0_8.index t 0 = t.val ∧ win0_8.index t 1 = 0 := by decide +kernel

theorem emb8 (t : Fin grid0.N) (j : S512x512.Idx) : (win0_8.rect t).emb j = ix2 (rowOf t (j 0)) (j 1) := by
  funext a
  match a with
  | ⟨0, _⟩ =>
    refine Fin.ext ((win0_8.rect_emb_val t j 0).trans ?_)
    rw [(place8 t).1]
    show t.val * 512 + (j 0).val = 512 * t.val + (j 0).val
    omega
  | ⟨1, _⟩ =>
    refine Fin.ext ((win0_8.rect_emb_val t j 1).trans ?_)
    rw [(place8 t).2]
    show 0 * 512 + (j 1).val = (j 1).val
    omega

theorem place9 : ∀ t : Fin grid0.N, win0_9.index t 0 = t.val ∧ win0_9.index t 1 = 0 := by decide +kernel

theorem emb9 (t : Fin grid0.N) (j : S512x3072.Idx) : (win0_9.rect t).emb j = ix2 (rowOf t (j 0)) (j 1) := by
  funext a
  match a with
  | ⟨0, _⟩ =>
    refine Fin.ext ((win0_9.rect_emb_val t j 0).trans ?_)
    rw [(place9 t).1]
    show t.val * 512 + (j 0).val = 512 * t.val + (j 0).val
    omega
  | ⟨1, _⟩ =>
    refine Fin.ext ((win0_9.rect_emb_val t j 1).trans ?_)
    rw [(place9 t).2]
    show 0 * 3072 + (j 1).val = (j 1).val
    omega

theorem in0 (c : Dev nD) (t : Fin cfg0.N) (r : Fin 512) (k : Fin 1024) : iblk m c 0 t (ix2 r k) = xIn m c (ix2 (rowOf t r) k) := by
  unfold iblk
  rw [show V m c (Pipeline.arrRef spec0 0) = _ from V_main_arg0 m c]
  exact congrArg (xIn m c) (emb0 t (ix2 r k))

theorem in1 (c : Dev nD) (t : Fin cfg0.N) : iblk m c 1 t = gIn m c := by
  unfold iblk
  rw [show V m c (Pipeline.arrRef spec0 1) = _ from V_main_arg1 m c]
  exact funext fun j => congrArg (gIn m c) (whole1 t j)

theorem in2 (c : Dev nD) (t : Fin cfg0.N) : iblk m c 2 t = wIn m c := by
  unfold iblk
  have e : V m c (Pipeline.arrRef spec0 2) = wIn m c := by
    show StableHlo.after hostOps0 _ _ = _
    after_results
    rfl
  rw [e]
  exact funext fun j => congrArg (wIn m c) (whole2 t j)

theorem in3 (c : Dev nD) (t : Fin cfg0.N) : iblk m c 3 t = bIn m c := by
  unfold iblk
  rw [show V m c (Pipeline.arrRef spec0 3) = _ from V_main_arg3 m c]
  exact funext fun j => congrArg (bIn m c) (whole3 t j)

theorem raw_in (c : Dev nD) (t : Fin cfg0.N) (r : Fin 512) (d : ℕ) (hd : d < 6656) :
    raw (iblk m c 0 t) (iblk m c 1 t) (iblk m c 2 t) r d hd = raw (xIn m c) (gIn m c) (wIn m c) (rowOf t r) d hd := by
  rw [in1, in2]
  unfold raw
  congr 1
  exact funext fun k => in0 m c t r k

theorem row_mod (i : Fin 1024) (h : i.val / 512 < grid0.N) : rowOf ⟨i.val / 512, h⟩ ⟨i.val % 512, Nat.mod_lt _ (by decide)⟩ = i :=
  Fin.ext (by show 512 * (i.val / 512) + i.val % 512 = i.val; omega)

theorem flush4 (c : Dev nD) (t : Fin cfg0.N) (j : S512x3584.Idx) :
    (dats m 0 c).flushed 4 t j = (qkv (xIn m c) (gIn m c) (wIn m c)) ((win0_4.rect t).emb j) := by
  refine (congrFun (flushed4_A m c t) j).trans ?_
  refine (block4 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb4]
  unfold qkv
  exact congrArg (· * _) (raw_in m c t _ _ _)

theorem final4 (c : Dev nD) : (dats m 0 c).arrAt 4 cfg0.N = qkv (xIn m c) (gIn m c) (wIn m c) := by
  refine (dats m 0 c).arrAt_eq_of_cover 4 (qkv (xIn m c) (gIn m c) (wIn m c)) (fun t _ => funext fun j => flush4 m c t j) (fun i => ?_)
  have h0 : (i 0).val < 1024 := (i 0).isLt
  have hN : grid0.N = 2 := N_0
  have ht : (i 0).val / 512 < grid0.N := by omega
  refine ⟨⟨(i 0).val / 512, ht⟩, flush0_4 _, Finset.mem_map.mpr ⟨ix2 ⟨(i 0).val % 512, Nat.mod_lt _ (by decide)⟩ (i 1), Finset.mem_univ _, ?_⟩⟩
  exact (emb4 _ _).trans ((congrArg (fun r => ix2 r (i 1)) (row_mod (i 0) ht)).trans (eq_ix2 i).symm)

theorem flush5 (c : Dev nD) (t : Fin cfg0.N) (j : S512x512.Idx) :
    (dats m 0 c).flushed 5 t j = (part 1 (xIn m c) (gIn m c) (wIn m c)) ((win0_5.rect t).emb j) := by
  refine (congrFun (flushed5_A m c t) j).trans ?_
  refine (block5 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb5]
  unfold part
  exact raw_in m c t _ _ _

theorem final5 (c : Dev nD) : (dats m 0 c).arrAt 5 cfg0.N = part 1 (xIn m c) (gIn m c) (wIn m c) := by
  refine (dats m 0 c).arrAt_eq_of_cover 5 (part 1 (xIn m c) (gIn m c) (wIn m c)) (fun t _ => funext fun j => flush5 m c t j) (fun i => ?_)
  have h0 : (i 0).val < 1024 := (i 0).isLt
  have hN : grid0.N = 2 := N_0
  have ht : (i 0).val / 512 < grid0.N := by omega
  refine ⟨⟨(i 0).val / 512, ht⟩, flush0_5 _, Finset.mem_map.mpr ⟨ix2 ⟨(i 0).val % 512, Nat.mod_lt _ (by decide)⟩ (i 1), Finset.mem_univ _, ?_⟩⟩
  exact (emb5 _ _).trans ((congrArg (fun r => ix2 r (i 1)) (row_mod (i 0) ht)).trans (eq_ix2 i).symm)

theorem flush6 (c : Dev nD) (t : Fin cfg0.N) (j : S512x512.Idx) :
    (dats m 0 c).flushed 6 t j = (part 2 (xIn m c) (gIn m c) (wIn m c)) ((win0_6.rect t).emb j) := by
  refine (congrFun (flushed6_A m c t) j).trans ?_
  refine (block6 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb6]
  unfold part
  exact raw_in m c t _ _ _

theorem final6 (c : Dev nD) : (dats m 0 c).arrAt 6 cfg0.N = part 2 (xIn m c) (gIn m c) (wIn m c) := by
  refine (dats m 0 c).arrAt_eq_of_cover 6 (part 2 (xIn m c) (gIn m c) (wIn m c)) (fun t _ => funext fun j => flush6 m c t j) (fun i => ?_)
  have h0 : (i 0).val < 1024 := (i 0).isLt
  have hN : grid0.N = 2 := N_0
  have ht : (i 0).val / 512 < grid0.N := by omega
  refine ⟨⟨(i 0).val / 512, ht⟩, flush0_6 _, Finset.mem_map.mpr ⟨ix2 ⟨(i 0).val % 512, Nat.mod_lt _ (by decide)⟩ (i 1), Finset.mem_univ _, ?_⟩⟩
  exact (emb6 _ _).trans ((congrArg (fun r => ix2 r (i 1)) (row_mod (i 0) ht)).trans (eq_ix2 i).symm)

theorem flush7 (c : Dev nD) (t : Fin cfg0.N) (j : S512x512.Idx) :
    (dats m 0 c).flushed 7 t j = (part 4 (xIn m c) (gIn m c) (wIn m c)) ((win0_7.rect t).emb j) := by
  refine (congrFun (flushed7_A m c t) j).trans ?_
  refine (block7 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb7]
  unfold part
  exact raw_in m c t _ _ _

theorem final7 (c : Dev nD) : (dats m 0 c).arrAt 7 cfg0.N = part 4 (xIn m c) (gIn m c) (wIn m c) := by
  refine (dats m 0 c).arrAt_eq_of_cover 7 (part 4 (xIn m c) (gIn m c) (wIn m c)) (fun t _ => funext fun j => flush7 m c t j) (fun i => ?_)
  have h0 : (i 0).val < 1024 := (i 0).isLt
  have hN : grid0.N = 2 := N_0
  have ht : (i 0).val / 512 < grid0.N := by omega
  refine ⟨⟨(i 0).val / 512, ht⟩, flush0_7 _, Finset.mem_map.mpr ⟨ix2 ⟨(i 0).val % 512, Nat.mod_lt _ (by decide)⟩ (i 1), Finset.mem_univ _, ?_⟩⟩
  exact (emb7 _ _).trans ((congrArg (fun r => ix2 r (i 1)) (row_mod (i 0) ht)).trans (eq_ix2 i).symm)

theorem flush8 (c : Dev nD) (t : Fin cfg0.N) (j : S512x512.Idx) :
    (dats m 0 c).flushed 8 t j = (part 5 (xIn m c) (gIn m c) (wIn m c)) ((win0_8.rect t).emb j) := by
  refine (congrFun (flushed8_A m c t) j).trans ?_
  refine (block8 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb8]
  unfold part
  exact raw_in m c t _ _ _

theorem final8 (c : Dev nD) : (dats m 0 c).arrAt 8 cfg0.N = part 5 (xIn m c) (gIn m c) (wIn m c) := by
  refine (dats m 0 c).arrAt_eq_of_cover 8 (part 5 (xIn m c) (gIn m c) (wIn m c)) (fun t _ => funext fun j => flush8 m c t j) (fun i => ?_)
  have h0 : (i 0).val < 1024 := (i 0).isLt
  have hN : grid0.N = 2 := N_0
  have ht : (i 0).val / 512 < grid0.N := by omega
  refine ⟨⟨(i 0).val / 512, ht⟩, flush0_8 _, Finset.mem_map.mpr ⟨ix2 ⟨(i 0).val % 512, Nat.mod_lt _ (by decide)⟩ (i 1), Finset.mem_univ _, ?_⟩⟩
  exact (emb8 _ _).trans ((congrArg (fun r => ix2 r (i 1)) (row_mod (i 0) ht)).trans (eq_ix2 i).symm)

theorem flush9 (c : Dev nD) (t : Fin cfg0.N) (j : S512x3072.Idx) :
    (dats m 0 c).flushed 9 t j = (gate (xIn m c) (gIn m c) (wIn m c) (bIn m c)) ((win0_9.rect t).emb j) := by
  refine (congrFun (flushed9_A m c t) j).trans ?_
  refine (block9 c (ms0_0 t) (hs0_0 t) (ms0_1 t) (hs0_1 t) (ms0_2 t) (hs0_2 t) (ms0_3 t) (hs0_3 t) scM0_0 (iblk m c 0 t) (iblk m c 1 t) (iblk m c 2 t) (iblk m c 3 t)
    (grid0.coords t) (ms0_4 t) (hs0_4 t) (ms0_5 t) (hs0_5 t) (ms0_6 t) (hs0_6 t) (ms0_7 t) (hs0_7 t) (ms0_8 t) (hs0_8 t) (ms0_9 t) (hs0_9 t) (Memref.isWhole_whole _) j).trans ?_
  rw [emb9, in3]
  unfold gate
  exact congrArg (fun v => Ideal.logistic (v + _)) (raw_in m c t _ _ _)

theorem final9 (c : Dev nD) : (dats m 0 c).arrAt 9 cfg0.N = gate (xIn m c) (gIn m c) (wIn m c) (bIn m c) := by
  refine (dats m 0 c).arrAt_eq_of_cover 9 (gate (xIn m c) (gIn m c) (wIn m c) (bIn m c)) (fun t _ => funext fun j => flush9 m c t j) (fun i => ?_)
  have h0 : (i 0).val < 1024 := (i 0).isLt
  have hN : grid0.N = 2 := N_0
  have ht : (i 0).val / 512 < grid0.N := by omega
  refine ⟨⟨(i 0).val / 512, ht⟩, flush0_9 _, Finset.mem_map.mpr ⟨ix2 ⟨(i 0).val % 512, Nat.mod_lt _ (by decide)⟩ (i 1), Finset.mem_univ _, ?_⟩⟩
  exact (emb9 _ _).trans ((congrArg (fun r => ix2 r (i 1)) (row_mod (i 0) ht)).trans (eq_ix2 i).symm)

end

section

open Cert.Reference4Ideal Cert.Reference4Ideal.Gen Cert.Reference4Ideal.Value

variable (x : FVec Ideal S1024x1024 .f32) (g : FVec Ideal S1x1024 .f32) (w : FVec Ideal S1024x6656 .f32) (b : FVec Ideal S1x3072 .f32)

/-- The reference's product, before its columns are split. -/
def rProd : FVec Ideal S1024x6656 .f32 :=
  Host.dotGeneral dot_S1024x1024_S1024x6656_S1024x6656_1_0_0_1_n_n none
    (mulf (mulf x (broadcastInDim S1024x1024 ![0, 1] bcast_S1024x1_S1024x1024_0_1 (Host.rsqrt (addf
      (Host.divf (broadcastInDim S1024x1 ![0] bcast_S1024_S1024x1_0 (Host.reduceAdd (mulf x x) (constant S_ .f32 0x00000000#32) reducesTo_S1024x1024_S1024_d1 h_S_))
        (broadcastInDim S1024x1 ![] bcast_S_S1024x1 (constant S_ .f32 0x44800000#32)))
      (broadcastInDim S1024x1 ![] bcast_S_S1024x1 (constant S_ .f32 0x358637BD#32))))))
      (broadcastInDim S1024x1024 ![0, 1] bcast_S1x1024_S1024x1024_0_1 g)) w

theorem rProd_at (r : Fin 1024) (c : Fin 6656) : rProd x g w (ix2 r c) = raw x g w r c.val c.isLt := by
  unfold rProd
  pointwise
  rfl

def rQkv : FVec Ideal S1024x3584 .bf16 :=
  truncf .bf16 (concatenate S1024x3584 1 [
    ⟨S1024x512, mulf (extractStridedSlice S1024x512 ![0, 0] (rProd x g w) slices_S1024x6656_S1024x512_0_0) (broadcastInDim S1024x512 ![] bcast_S_S1024x512 (constant S_ .f32 0x3E000000#32))⟩,
    ⟨S1024x512, extractStridedSlice S1024x512 ![0, 512] (rProd x g w) slices_S1024x6656_S1024x512_0_512⟩,
    ⟨S1024x512, extractStridedSlice S1024x512 ![0, 1024] (rProd x g w) slices_S1024x6656_S1024x512_0_1024⟩,
    ⟨S1024x512, mulf (extractStridedSlice S1024x512 ![0, 1536] (rProd x g w) slices_S1024x6656_S1024x512_0_1536) (broadcastInDim S1024x512 ![] bcast_S_S1024x512 (constant S_ .f32 0x3E000000#32))⟩,
    ⟨S1024x512, extractStridedSlice S1024x512 ![0, 2048] (rProd x g w) slices_S1024x6656_S1024x512_0_2048⟩,
    ⟨S1024x512, extractStridedSlice S1024x512 ![0, 2560] (rProd x g w) slices_S1024x6656_S1024x512_0_2560⟩,
    ⟨S1024x512, extractStridedSlice S1024x512 ![0, 3072] (rProd x g w) slices_S1024x6656_S1024x512_0_3072⟩]
    concatenates_S1024x512_S1024x512_S1024x512_S1024x512_S1024x512_S1024x512_S1024x512_S1024x3584_d1) bitsLt_bf16_f32

theorem ref4 : rQkv x g w = qkv x g w := by
  funext i
  have h1 : (i 1).val < 3584 := (i 1).isLt
  rw [eq_ix2 i]
  unfold rQkv
  pointwise [rProd_at]
  show _ = raw x g w (i 0) (i 1).val _ * fac (i 1).val
  unfold fac
  repeat' split
  all_goals first
    | omega
    | exact congrArg (· * _) (raw_congr x g w _ (by omega))
    | exact (raw_congr x g w _ (by omega)).trans (mul_one _).symm

theorem ref5 : extractStridedSlice S1024x512 ![0, 512] (rProd x g w) slices_S1024x6656_S1024x512_0_512 = part 1 x g w := by
  funext i
  rw [eq_ix2 i]
  pointwise [rProd_at]
  unfold part
  exact raw_congr x g w _ (by show 512 + (i 1).val = 512 * 1 + (i 1).val; omega)

theorem ref6 : extractStridedSlice S1024x512 ![0, 1024] (rProd x g w) slices_S1024x6656_S1024x512_0_1024 = part 2 x g w := by
  funext i
  rw [eq_ix2 i]
  pointwise [rProd_at]
  unfold part
  exact raw_congr x g w _ (by show 1024 + (i 1).val = 512 * 2 + (i 1).val; omega)

theorem ref7 : extractStridedSlice S1024x512 ![0, 2048] (rProd x g w) slices_S1024x6656_S1024x512_0_2048 = part 4 x g w := by
  funext i
  rw [eq_ix2 i]
  pointwise [rProd_at]
  unfold part
  exact raw_congr x g w _ (by show 2048 + (i 1).val = 512 * 4 + (i 1).val; omega)

theorem ref8 : extractStridedSlice S1024x512 ![0, 2560] (rProd x g w) slices_S1024x6656_S1024x512_0_2560 = part 5 x g w := by
  funext i
  rw [eq_ix2 i]
  pointwise [rProd_at]
  unfold part
  exact raw_congr x g w _ (by show 2560 + (i 1).val = 512 * 5 + (i 1).val; omega)

theorem ref9 : (truncf .bf16 (Host.divf (broadcastInDim S1024x3072 ![] bcast_S_S1024x3072 (constant S_ .f32 0x3F800000#32))
      (addf (broadcastInDim S1024x3072 ![] bcast_S_S1024x3072 (constant S_ .f32 0x3F800000#32)) (Host.exp (Host.negf
        (addf (extractStridedSlice S1024x3072 ![0, 3584] (rProd x g w) slices_S1024x6656_S1024x3072_0_3584)
          (broadcastInDim S1024x3072 ![0, 1] bcast_S1x3072_S1024x3072_0_1 b)))))) bitsLt_bf16_f32 : FVec Ideal S1024x3072 .bf16) = gate x g w b := by
  funext i
  rw [eq_ix2 i]
  pointwise [rProd_at]
  rfl

end

theorem algebraic : Cert.algebraic_Kernel4Ideal_Reference4Ideal := by
  intro m g m' g' _ hagree
  refine ⟨fun c => qkv (xIn m c) (gIn m c) (wIn m c), fun c => part 1 (xIn m c) (gIn m c) (wIn m c), fun c => part 2 (xIn m c) (gIn m c) (wIn m c),
    fun c => part 4 (xIn m c) (gIn m c) (wIn m c), fun c => part 5 (xIn m c) (gIn m c) (wIn m c), fun c => gate (xIn m c) (gIn m c) (wIn m c) (bIn m c), ?_, ?_⟩
  · exact (θ_run Cert.Kernel4Ideal.defs _ _).mono (fun _ h c => ⟨(h c).1.trans (final4 m c), (h c).2.1.trans (final5 m c), (h c).2.2.1.trans (final6 m c),
      (h c).2.2.2.1.trans (final7 m c), (h c).2.2.2.2.1.trans (final8 m c), (h c).2.2.2.2.2.1.trans (final9 m c), (h c).2.2.2.2.2.2⟩)
      (Cert.Kernel4Ideal.Value.run_blocks (F := Ideal) m g)
  · refine (θ_run Cert.Reference4Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference4Ideal.Value.run (F := Ideal) m' g')
    · unfold Cert.Reference4Ideal.Value.res_main_v26
      rw [(hagree c).1, (hagree c).2.1, (hagree c).2.2.1]
      exact ref4 (xIn m c) (gIn m c) (wIn m c)
    · rw [(hagree c).1, (hagree c).2.1, (hagree c).2.2.1]
      exact ref5 (xIn m c) (gIn m c) (wIn m c)
    · rw [(hagree c).1, (hagree c).2.1, (hagree c).2.2.1]
      exact ref6 (xIn m c) (gIn m c) (wIn m c)
    · rw [(hagree c).1, (hagree c).2.1, (hagree c).2.2.1]
      exact ref7 (xIn m c) (gIn m c) (wIn m c)
    · rw [(hagree c).1, (hagree c).2.1, (hagree c).2.2.1]
      exact ref8 (xIn m c) (gIn m c) (wIn m c)
    · rw [(hagree c).1, (hagree c).2.1, (hagree c).2.2.1, (hagree c).2.2.2]
      exact ref9 (xIn m c) (gIn m c) (wIn m c) (bIn m c)

end Cert.Lin.InSample

end
-- ==== Proof.Lin.Merge.lean ====
/-
  The gated sum of the three attentions, the output projection and the norm after it: what one block of rows holds.
-/
module

public import proofs.«01_k».proof.Defs
public import proofs.«01_k».proof.Proof.Gen.Kernel5Ideal.Frame
public import proofs.«01_k».proof.Proof.Lin.Proj

@[expose] public section

noncomputable section

namespace Cert.Merge

open Idealize.ShloMosaic Idealize.ShloMosaic.TcCoe
open Cert.Lin

/-- The three attentions' rows, each through its own projection and times its own gate, summed: at a row and a column. -/
def mixed {n : ℕ} (a b d : (⟨2, ![n, 512]⟩ : Shape).Idx → EReal) (p : (⟨2, ![n, 3072]⟩ : Shape).Idx → EReal)
    (wa wb wd : (⟨2, ![512, 1024]⟩ : Shape).Idx → EReal) (r : Fin n) (k : Fin 1024) : EReal :=
  p (ix2 r ⟨0 + k.val, by omega⟩) * (∑ i, a (ix2 r i) * wa (ix2 i k)) + p (ix2 r ⟨1024 + k.val, by omega⟩) * (∑ i, b (ix2 r i) * wb (ix2 i k))
    + p (ix2 r ⟨2048 + k.val, by omega⟩) * (∑ i, d (ix2 r i) * wd (ix2 i k))

/-- The rows with the projected sum added. -/
def added {n : ℕ} (x : (⟨2, ![n, 1024]⟩ : Shape).Idx → EReal) (a b d : (⟨2, ![n, 512]⟩ : Shape).Idx → EReal) (p : (⟨2, ![n, 3072]⟩ : Shape).Idx → EReal)
    (wa wb wd : (⟨2, ![512, 1024]⟩ : Shape).Idx → EReal) (wo : (⟨2, ![1024, 1024]⟩ : Shape).Idx → EReal) : (⟨2, ![n, 1024]⟩ : Shape).Idx → EReal :=
  fun i => x (ix2 (i 0) (i 1)) + ∑ k, mixed a b d p wa wb wd (i 0) k * wo (ix2 k (i 1))

/-- Rows divided by the root of their mean square, times a scale, each row as eight pieces of 128. -/
def tiles {n : ℕ} (y : (⟨2, ![n, 1024]⟩ : Shape).Idx → EReal) (g : (⟨2, ![1, 1024]⟩ : Shape).Idx → EReal) : (⟨3, ![n, 8, 128]⟩ : Shape).Idx → EReal :=
  fun i => normed (fun k => y (ix2 (i 0) k)) (fun k => g (ix2 0 k))
    ⟨(i 1).val * 128 + (i 2).val, by have h : (i 1).val < 8 := (i 1).isLt; have h' : (i 2).val < 128 := (i 2).isLt; omega⟩

section

open Cert.Kernel5Ideal Cert.Kernel5Ideal.Gen

theorem pay2_at (v3 : Vec Ideal S512x1024 .bf16) (v5 : Vec Ideal S512x512 .bf16) (v6 : Vec Ideal S512x1024 .bf16) (v10 : Vec Ideal S512x1024 .bf16) (v12 : Vec Ideal S512x512 .bf16)
    (v13 : Vec Ideal S512x1024 .bf16) (v18 : Vec Ideal S512x1024 .bf16) (v20 : Vec Ideal S512x512 .bf16) (v21 : Vec Ideal S512x1024 .bf16) (s : Fin 512) (k : Fin 1024) :
    k0_pay2 (F := Ideal) v3 v5 v6 v10 v12 v13 v18 v20 v21 (ix2 s k)
      = v3 (ix2 s k) * (∑ i, v5 (ix2 s i) * v6 (ix2 i k)) + v10 (ix2 s k) * (∑ i, v12 (ix2 s i) * v13 (ix2 i k)) + v18 (ix2 s k) * (∑ i, v20 (ix2 s i) * v21 (ix2 i k)) := by
  unfold k0_pay2
  pointwise
  done

theorem pay3_eq (v : Vec Ideal S1024x1024 .bf16) : k0_pay3 (F := Ideal) v = v := by
  funext i
  rw [eq_ix2 i]
  unfold k0_pay3
  pointwise
  done

theorem pay4_at (x : Vec Ideal S512x1024 .f32) (u : FVec Ideal S512x1024 .bf16) (w : FVec Ideal S1024x1024 .bf16) (s : Fin 512) (k : Fin 1024) :
    k0_pay4 (F := Ideal) x u w (constant S512x1024 .f32 0x00000000#32) (ix2 s k) = x (ix2 s k) + ∑ i, u (ix2 s i) * w (ix2 i k) := by
  unfold k0_pay4
  pointwise
  done

theorem pay5_at (x : Vec Ideal S512x1024 .f32) (u : FVec Ideal S512x1024 .bf16) (w : FVec Ideal S1024x1024 .bf16) (z : FVec Ideal S512x1024 .f32) (g : Vec Ideal S1x1024 .f32) (s : Fin 512) (k : Fin 1024) :
    k0_pay5 (F := Ideal) x u w z g (ix2 s k) = normed (fun k => k0_pay4 (F := Ideal) x u w z (ix2 s k)) (fun k => g (ix2 0 k)) k := by
  unfold k0_pay5
  pointwise
  rfl

/-- One piece of each row, as it is stored. -/
theorem piece_at (v : FVec Ideal S512x1024 .f32) (o : ℕ) (hs : S512x1024.Slices ![0, o] S512x128) (s : Fin 512) (u : Fin 1) (l : Fin 128) (ho : o + l.val < 1024) :
    (shapeCast S512x1x128 (extractStridedSlice S512x128 ![0, o] v hs) shapeCasts_S512x128_S512x1x128 : FVec Ideal S512x1x128 .f32) (ix3 s u l) = v (ix2 s ⟨o + l.val, ho⟩) := by
  pointwise
  done

/-- A piece of the normed rows lands where the piece belongs. -/
theorem tile_at (v : FVec Ideal S512x1024 .f32) (Y : S512x1024.Idx → EReal) (g : S1x1024.Idx → EReal) (hv : ∀ s k, v (ix2 s k) = normed (fun k => Y (ix2 s k)) (fun k => g (ix2 0 k)) k)
    (j o : ℕ) (hj : j < 8) (ho : o = j * 128) (hs : S512x1024.Slices ![0, o] S512x128) (inb) (y : S512x1x128.Idx) :
    (shapeCast S512x1x128 (extractStridedSlice S512x128 ![0, o] v hs) shapeCasts_S512x128_S512x1x128 : FVec Ideal S512x1x128 .f32) y
      = tiles Y g ((Rect.unit (s := S512x8x128) ![0, j, 0] S512x1x128.size inb).emb y) := by
  have h1 : (y 1).val < 1 := (y 1).isLt
  have h2 : (y 2).val < 128 := (y 2).isLt
  refine (congrArg _ (eq_ix3 y)).trans ((piece_at v o hs (y 0) (y 1) (y 2) (by omega)).trans ((hv _ _).trans ?_))
  have e : (Rect.unit (s := S512x8x128) ![0, j, 0] S512x1x128.size inb).emb y = ix3 (y 0) ⟨j, hj⟩ (y 2) := by
    funext a
    match a with
    | ⟨0, _⟩ => exact Fin.ext (by show 0 + 1 * (y 0).val = (y 0).val; omega)
    | ⟨1, _⟩ => exact Fin.ext (by show j + 1 * (y 1).val = j; omega)
    | ⟨2, _⟩ => exact Fin.ext (by show 0 + 1 * (y 2).val = (y 2).val; omega)
  rw [e]
  subst ho
  rfl

section

variable (a1 : Memref sig .tc .vmem S512x1024 .f32) (h1 : a1.IsWhole) (a2 : Memref sig .tc .vmem S512x512 .bf16) (h2 : a2.IsWhole) (a3 : Memref sig .tc .vmem S512x512 .bf16) (h3 : a3.IsWhole)
  (a4 : Memref sig .tc .vmem S512x512 .bf16) (h4 : a4.IsWhole) (a5 : Memref sig .tc .vmem S512x3072 .bf16) (h5 : a5.IsWhole) (a6 : Memref sig .tc .vmem S512x1024 .bf16) (h6 : a6.IsWhole)
  (a7 : Memref sig .tc .vmem S512x1024 .bf16) (h7 : a7.IsWhole) (a8 : Memref sig .tc .vmem S512x1024 .bf16) (h8 : a8.IsWhole) (a9 : Memref sig .tc .vmem S1024x1024 .bf16) (h9 : a9.IsWhole)
  (a10 : Memref sig .tc .vmem S1x1024 .f32) (h10 : a10.IsWhole)
  (x0 : Vec Ideal S512x1024 .f32) (x1 x2 x3 : Vec Ideal S512x512 .bf16) (x4 : Vec Ideal S512x3072 .bf16) (x5 x6 x7 : Vec Ideal S512x1024 .bf16) (x8 : Vec Ideal S1024x1024 .bf16) (x9 : Vec Ideal S1x1024 .f32)

theorem gate_at (o : ℕ) (inb) (s : Fin 512) (k : Fin 1024) (ho : o + k.val < 3072) :
    View.readAt (Elt Ideal) a5.view (Rect.unit (s := S512x3072) ![0, o] S512x1024.size inb).toLoadRect (h5.unread x4) (ix2 s k) = x4 (ix2 s ⟨o + k.val, ho⟩) := by
  rw [View.readAt_apply, h5.read_unread]
  refine congrArg x4 (funext fun a => Fin.ext ?_)
  match a with
  | ⟨0, _⟩ => show 0 + 1 * s.val = s.val; omega
  | ⟨1, _⟩ => show o + 1 * k.val = o + k.val; omega

/-- An array read whole is the array. -/
theorem read_whole {S : Shape} {e : EltTy} (a : Memref sig .tc .vmem S e) (h : a.IsWhole) (x : Vec Ideal S e) (off : Fin S.rank → ℕ) (h0 : off = fun _ => 0) (inb) :
    View.readAt (Elt Ideal) a.view (Rect.unit (s := S) off S.size inb).toLoadRect (h.unread x) = x := by
  rw [View.readAt_eq_ld, h.read_unread, View.ld_unit_zero h0]

/-- The rows with the projected sum added, as the body computes them. -/
theorem rows_at (i1 i2 i3) (s : Fin 512) (k : Fin 1024) :
    k0_pay4 (F := Ideal) x0 (k0_pay2 (View.readAt (Elt Ideal) a5.view (Rect.unit (s := S512x3072) ![0, 0] S512x1024.size i1).toLoadRect (h5.unread x4)) x1 x5
      (View.readAt (Elt Ideal) a5.view (Rect.unit (s := S512x3072) ![0, 1024] S512x1024.size i2).toLoadRect (h5.unread x4)) x2 x6
      (View.readAt (Elt Ideal) a5.view (Rect.unit (s := S512x3072) ![0, 2048] S512x1024.size i3).toLoadRect (h5.unread x4)) x3 x7) x8
      (constant S512x1024 .f32 0x00000000#32) (ix2 s k) = added x0 x1 x2 x3 x4 x5 x6 x7 x8 (ix2 s k) := by
  refine (pay4_at _ _ _ _ _).trans ?_
  show _ = x0 (ix2 s k) + ∑ i, mixed x1 x2 x3 x4 x5 x6 x7 s i * x8 (ix2 i k)
  refine congrArg (_ + ·) (Finset.sum_congr rfl fun i _ => congrArg (· * _) ?_)
  rw [pay2_at, gate_at a5 h5 x4 0 i1 s i (by omega), gate_at a5 h5 x4 1024 i2 s i (by omega), gate_at a5 h5 x4 2048 i3 s i (by omega)]
  rfl

/-- The normed rows, as the body computes them. -/
theorem normed_at (i1 i2 i3) (s : Fin 512) (k : Fin 1024) :
    k0_pay5 (F := Ideal) x0 (k0_pay2 (View.readAt (Elt Ideal) a5.view (Rect.unit (s := S512x3072) ![0, 0] S512x1024.size i1).toLoadRect (h5.unread x4)) x1 x5
      (View.readAt (Elt Ideal) a5.view (Rect.unit (s := S512x3072) ![0, 1024] S512x1024.size i2).toLoadRect (h5.unread x4)) x2 x6
      (View.readAt (Elt Ideal) a5.view (Rect.unit (s := S512x3072) ![0, 2048] S512x1024.size i3).toLoadRect (h5.unread x4)) x3 x7) x8
      (constant S512x1024 .f32 0x00000000#32) x9 (ix2 s k)
      = normed (fun k => added x0 x1 x2 x3 x4 x5 x6 x7 x8 (ix2 s k)) (fun k => x9 (ix2 0 k)) k := by
  refine (pay5_at _ _ _ _ _ _ _).trans (congrArg (fun f => normed f _ k) (funext fun l => ?_))
  exact rows_at a5 h5 x0 x1 x2 x3 x4 x5 x6 x7 x8 i1 i2 i3 s l

end

theorem emb_whole (y : S512x1024.Idx) : (Rect.unit (s := S512x1024) ![0, 0] S512x1024.size inb_S512x1024_S512x1024_0_0).emb y = ix2 (y 0) (y 1) := by
  funext a
  match a with
  | ⟨0, _⟩ => exact Fin.ext (by show 0 + 1 * (y 0).val = (y 0).val; omega)
  | ⟨1, _⟩ => exact Fin.ext (by show 0 + 1 * (y 1).val = (y 1).val; omega)

theorem block13A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18 a19 h19 a20 h20) (hc) (x0 x1 x2 x3 x4 x5 x6 x7 x8 x9 x10 x11 x12) (y) :
    out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 y = added x0 x1 x2 x3 x4 x5 x6 x7 x8 y := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12)]
  refine View.canon_apply_of_pieces (Val := Elt Ideal) (added x0 x1 x2 x3 x4 x5 x6 x7 x8) _ ?_ y (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 y)
  unfold kernelRun0_A
  dsimp only
  simp only [kernelRun0_A.sl.r, kernelRun0_A.sl.r_1, kernelRun0_A.sl.r_2, kernelRun0_A.sl.r_3, kernelRun0_A.sl.r_4, kernelRun0_A.sl.cst_22, pay3_eq, read_whole a1 h1 x0 ![0, 0] (by decide), read_whole a2 h2 x1 ![0, 0] (by decide), read_whole a3 h3 x2 ![0, 0] (by decide), read_whole a4 h4 x3 ![0, 0] (by decide), read_whole a6 h6 x5 ![0, 0] (by decide), read_whole a7 h7 x6 ![0, 0] (by decide), read_whole a8 h8 x7 ![0, 0] (by decide), read_whole a9 h9 x8 ![0, 0] (by decide), read_whole a10 h10 x9 ![0, 0] (by decide)]
  intro p hp
  simp only [List.mem_cons, List.mem_nil_iff, or_false] at hp
  subst hp
  intro y
  refine Eq.trans ?_ (congrArg _ (emb_whole y).symm)
  exact (congrArg _ (eq_ix2 y)).trans (rows_at a5 h5 x0 x1 x2 x3 x4 x5 x6 x7 x8 _ _ _ (y 0) (y 1))

theorem block14A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18 a19 h19 a20 h20) (hc) (x0 x1 x2 x3 x4 x5 x6 x7 x8 x9 x10 x11 x12) (y) :
    out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 y = tiles (added x0 x1 x2 x3 x4 x5 x6 x7 x8) x9 y := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12)]
  refine View.canon_apply_of_pieces (Val := Elt Ideal) (tiles (added x0 x1 x2 x3 x4 x5 x6 x7 x8) x9) _ ?_ y (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 y)
  unfold kernelRun0_A
  dsimp only
  simp only [kernelRun0_A.sl.r, kernelRun0_A.sl.r_1, kernelRun0_A.sl.r_2, kernelRun0_A.sl.r_3, kernelRun0_A.sl.r_4, kernelRun0_A.sl.cst_22, pay3_eq, read_whole a1 h1 x0 ![0, 0] (by decide), read_whole a2 h2 x1 ![0, 0] (by decide), read_whole a3 h3 x2 ![0, 0] (by decide), read_whole a4 h4 x3 ![0, 0] (by decide), read_whole a6 h6 x5 ![0, 0] (by decide), read_whole a7 h7 x6 ![0, 0] (by decide), read_whole a8 h8 x7 ![0, 0] (by decide), read_whole a9 h9 x8 ![0, 0] (by decide), read_whole a10 h10 x9 ![0, 0] (by decide)]
  intro p hp
  simp only [List.mem_cons, List.mem_nil_iff, or_false] at hp
  rcases hp with rfl | rfl | rfl | rfl | rfl | rfl | rfl | rfl
  · exact tile_at _ _ _ (normed_at a5 h5 x0 x1 x2 x3 x4 x5 x6 x7 x8 x9 _ _ _) 7 896 (by decide) rfl slices_S512x1024_o0_896_S512x128 inb_S512x8x128_S512x1x128_0_7_0
  · exact tile_at _ _ _ (normed_at a5 h5 x0 x1 x2 x3 x4 x5 x6 x7 x8 x9 _ _ _) 6 768 (by decide) rfl slices_S512x1024_o0_768_S512x128 inb_S512x8x128_S512x1x128_0_6_0
  · exact tile_at _ _ _ (normed_at a5 h5 x0 x1 x2 x3 x4 x5 x6 x7 x8 x9 _ _ _) 5 640 (by decide) rfl slices_S512x1024_o0_640_S512x128 inb_S512x8x128_S512x1x128_0_5_0
  · exact tile_at _ _ _ (normed_at a5 h5 x0 x1 x2 x3 x4 x5 x6 x7 x8 x9 _ _ _) 4 512 (by decide) rfl slices_S512x1024_o0_512_S512x128 inb_S512x8x128_S512x1x128_0_4_0
  · exact tile_at _ _ _ (normed_at a5 h5 x0 x1 x2 x3 x4 x5 x6 x7 x8 x9 _ _ _) 3 384 (by decide) rfl slices_S512x1024_o0_384_S512x128 inb_S512x8x128_S512x1x128_0_3_0
  · exact tile_at _ _ _ (normed_at a5 h5 x0 x1 x2 x3 x4 x5 x6 x7 x8 x9 _ _ _) 2 256 (by decide) rfl slices_S512x1024_o0_256_S512x128 inb_S512x8x128_S512x1x128_0_2_0
  · exact tile_at _ _ _ (normed_at a5 h5 x0 x1 x2 x3 x4 x5 x6 x7 x8 x9 _ _ _) 1 128 (by decide) rfl slices_S512x1024_o0_128_S512x128 inb_S512x8x128_S512x1x128_0_1_0
  · exact tile_at _ _ _ (normed_at a5 h5 x0 x1 x2 x3 x4 x5 x6 x7 x8 x9 _ _ _) 0 0 (by decide) rfl slices_S512x1024_o0_0_S512x128 inb_S512x8x128_S512x1x128_0_0_0

theorem block13B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18 a19 h19 a20 h20) (hc) (x0 x1 x2 x3 x4 x5 x6 x7 x8 x9 x10 x11 x12 z) (y) :
    out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z y = added x0 x1 x2 x3 x4 x5 x6 x7 x8 y := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z)]
  refine View.canon_apply_of_pieces (Val := Elt Ideal) (added x0 x1 x2 x3 x4 x5 x6 x7 x8) _ ?_ y (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z y)
  unfold kernelRun0_B
  dsimp only
  simp only [kernelRun0_B.sl.r, kernelRun0_B.sl.r_1, kernelRun0_B.sl.r_2, kernelRun0_B.sl.r_3, kernelRun0_B.sl.r_4, kernelRun0_B.sl.cst_22, pay3_eq, read_whole a1 h1 x0 ![0, 0] (by decide), read_whole a2 h2 x1 ![0, 0] (by decide), read_whole a3 h3 x2 ![0, 0] (by decide), read_whole a4 h4 x3 ![0, 0] (by decide), read_whole a6 h6 x5 ![0, 0] (by decide), read_whole a7 h7 x6 ![0, 0] (by decide), read_whole a8 h8 x7 ![0, 0] (by decide), read_whole a9 h9 x8 ![0, 0] (by decide), read_whole a10 h10 x9 ![0, 0] (by decide)]
  intro p hp
  simp only [List.mem_cons, List.mem_nil_iff, or_false] at hp
  subst hp
  intro y
  refine Eq.trans ?_ (congrArg _ (emb_whole y).symm)
  exact (congrArg _ (eq_ix2 y)).trans (rows_at a5 h5 x0 x1 x2 x3 x4 x5 x6 x7 x8 _ _ _ (y 0) (y 1))

theorem block14B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18 a19 h19 a20 h20) (hc) (x0 x1 x2 x3 x4 x5 x6 x7 x8 x9 x10 x11 x12 z) (y) :
    out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z y = tiles (added x0 x1 x2 x3 x4 x5 x6 x7 x8) x9 y := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z)]
  refine View.canon_apply_of_pieces (Val := Elt Ideal) (tiles (added x0 x1 x2 x3 x4 x5 x6 x7 x8) x9) _ ?_ y (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 x12 z y)
  unfold kernelRun0_B
  dsimp only
  simp only [kernelRun0_B.sl.r, kernelRun0_B.sl.r_1, kernelRun0_B.sl.r_2, kernelRun0_B.sl.r_3, kernelRun0_B.sl.r_4, kernelRun0_B.sl.cst_22, pay3_eq, read_whole a1 h1 x0 ![0, 0] (by decide), read_whole a2 h2 x1 ![0, 0] (by decide), read_whole a3 h3 x2 ![0, 0] (by decide), read_whole a4 h4 x3 ![0, 0] (by decide), read_whole a6 h6 x5 ![0, 0] (by decide), read_whole a7 h7 x6 ![0, 0] (by decide), read_whole a8 h8 x7 ![0, 0] (by decide), read_whole a9 h9 x8 ![0, 0] (by decide), read_whole a10 h10 x9 ![0, 0] (by decide)]
  intro p hp
  simp only [List.mem_cons, List.mem_nil_iff, or_false] at hp
  rcases hp with rfl | rfl | rfl | rfl | rfl | rfl | rfl | rfl
  · exact tile_at _ _ _ (normed_at a5 h5 x0 x1 x2 x3 x4 x5 x6 x7 x8 x9 _ _ _) 7 896 (by decide) rfl slices_S512x1024_o0_896_S512x128 inb_S512x8x128_S512x1x128_0_7_0
  · exact tile_at _ _ _ (normed_at a5 h5 x0 x1 x2 x3 x4 x5 x6 x7 x8 x9 _ _ _) 6 768 (by decide) rfl slices_S512x1024_o0_768_S512x128 inb_S512x8x128_S512x1x128_0_6_0
  · exact tile_at _ _ _ (normed_at a5 h5 x0 x1 x2 x3 x4 x5 x6 x7 x8 x9 _ _ _) 5 640 (by decide) rfl slices_S512x1024_o0_640_S512x128 inb_S512x8x128_S512x1x128_0_5_0
  · exact tile_at _ _ _ (normed_at a5 h5 x0 x1 x2 x3 x4 x5 x6 x7 x8 x9 _ _ _) 4 512 (by decide) rfl slices_S512x1024_o0_512_S512x128 inb_S512x8x128_S512x1x128_0_4_0
  · exact tile_at _ _ _ (normed_at a5 h5 x0 x1 x2 x3 x4 x5 x6 x7 x8 x9 _ _ _) 3 384 (by decide) rfl slices_S512x1024_o0_384_S512x128 inb_S512x8x128_S512x1x128_0_3_0
  · exact tile_at _ _ _ (normed_at a5 h5 x0 x1 x2 x3 x4 x5 x6 x7 x8 x9 _ _ _) 2 256 (by decide) rfl slices_S512x1024_o0_256_S512x128 inb_S512x8x128_S512x1x128_0_2_0
  · exact tile_at _ _ _ (normed_at a5 h5 x0 x1 x2 x3 x4 x5 x6 x7 x8 x9 _ _ _) 1 128 (by decide) rfl slices_S512x1024_o0_128_S512x128 inb_S512x8x128_S512x1x128_0_1_0
  · exact tile_at _ _ _ (normed_at a5 h5 x0 x1 x2 x3 x4 x5 x6 x7 x8 x9 _ _ _) 0 0 (by decide) rfl slices_S512x1024_o0_0_S512x128 inb_S512x8x128_S512x1x128_0_0_0

end

end Cert.Merge

end
-- ==== Proof.Lin.MergeRun.lean ====
/-
  The gated sum of the three attentions, the output projection and the norm after it, as whole arrays: the kernel's and the reference's.
-/
module

public import proofs.«01_k».proof.Proof.Gen.Kernel5Ideal.Value
public import proofs.«01_k».proof.Proof.Gen.Reference5Ideal.Run
public import proofs.«01_k».proof.Proof.Lin.Merge

@[expose] public section

noncomputable section

namespace Cert.Merge

open Idealize.ShloMosaic Idealize.ShloMosaic.TcCoe
open Idealize.ShloMosaic.Pipeline (Dat)
open Cert.Lin

/-- A row of the sum depends on that row of the arrays. -/
theorem added_row {n l : ℕ} {x : (⟨2, ![n, 1024]⟩ : Shape).Idx → EReal} {a b d : (⟨2, ![n, 512]⟩ : Shape).Idx → EReal} {p : (⟨2, ![n, 3072]⟩ : Shape).Idx → EReal}
    {x' : (⟨2, ![l, 1024]⟩ : Shape).Idx → EReal} {a' b' d' : (⟨2, ![l, 512]⟩ : Shape).Idx → EReal} {p' : (⟨2, ![l, 3072]⟩ : Shape).Idx → EReal}
    (wa wb wd : (⟨2, ![512, 1024]⟩ : Shape).Idx → EReal) (wo : (⟨2, ![1024, 1024]⟩ : Shape).Idx → EReal) {s : Fin l} {r : Fin n}
    (hx : ∀ k, x' (ix2 s k) = x (ix2 r k)) (ha : ∀ k, a' (ix2 s k) = a (ix2 r k)) (hb : ∀ k, b' (ix2 s k) = b (ix2 r k)) (hd : ∀ k, d' (ix2 s k) = d (ix2 r k))
    (hp : ∀ k, p' (ix2 s k) = p (ix2 r k)) (k : Fin 1024) : added x' a' b' d' p' wa wb wd wo (ix2 s k) = added x a b d p wa wb wd wo (ix2 r k) := by
  show x' (ix2 s k) + ∑ i, mixed a' b' d' p' wa wb wd s i * wo (ix2 i k) = x (ix2 r k) + ∑ i, mixed a b d p wa wb wd r i * wo (ix2 i k)
  unfold mixed
  simp only [hx, ha, hb, hd, hp]

section

open Cert.Kernel5Ideal Cert.Kernel5Ideal.Gen Cert.Kernel5Ideal.Value

variable (m : (ℓ : Loc nD τ sig) → Buf (Elt Ideal) ℓ)

/-- The arrays the kernel is started on. -/
def xIn (c : Dev nD) : S16384x1024.Idx → EReal := m ((c.tc : Thread nD τ).loc main_arg0)
def aIn (c : Dev nD) : S16384x512.Idx → EReal := m ((c.tc : Thread nD τ).loc main_arg1)
def bIn (c : Dev nD) : S16384x512.Idx → EReal := m ((c.tc : Thread nD τ).loc main_arg2)
def dIn (c : Dev nD) : S16384x512.Idx → EReal := m ((c.tc : Thread nD τ).loc main_arg3)
def pIn (c : Dev nD) : S16384x3072.Idx → EReal := m ((c.tc : Thread nD τ).loc main_arg4)
def waIn (c : Dev nD) : S512x1024.Idx → EReal := m ((c.tc : Thread nD τ).loc main_arg5)
def wbIn (c : Dev nD) : S512x1024.Idx → EReal := m ((c.tc : Thread nD τ).loc main_arg6)
def wdIn (c : Dev nD) : S512x1024.Idx → EReal := m ((c.tc : Thread nD τ).loc main_arg7)
def woIn (c : Dev nD) : S1024x1024.Idx → EReal := m ((c.tc : Thread nD τ).loc main_arg8)
def gIn (c : Dev nD) : S1x1024.Idx → EReal := m ((c.tc : Thread nD τ).loc main_arg9)

/-- A row of a point's block, as a row of the array. -/
theorem row_lt (t : Fin grid0.N) (r : Fin 512) : 512 * t.val + r.val < 16384 := by
  have h : t.val < 32 := t.isLt.trans_eq N_0
  have := r.isLt
  omega

def rowOf (t : Fin grid0.N) (r : Fin 512) : Fin 16384 := ⟨512 * t.val + r.val, row_lt t r⟩

theorem whole5 (t : Fin cfg0.N) (j : S512x1024.Idx) : ((cfg0.win 5).blk t).view.emb j = j := by
  funext a
  match a with
  | ⟨0, _⟩ => exact Fin.ext (by show 0 * 512 + 1 * (j 0).val = (j 0).val; omega)
  | ⟨1, _⟩ => exact Fin.ext (by show 0 * 1024 + 1 * (j 1).val = (j 1).val; omega)

theorem whole6 (t : Fin cfg0.N) (j : S512x1024.Idx) : ((cfg0.win 6).blk t).view.emb j = j := by
  funext a
  match a with
  | ⟨0, _⟩ => exact Fin.ext (by show 0 * 512 + 1 * (j 0).val = (j 0).val; omega)
  | ⟨1, _⟩ => exact Fin.ext (by show 0 * 1024 + 1 * (j 1).val = (j 1).val; omega)

theorem whole7 (t : Fin cfg0.N) (j : S512x1024.Idx) : ((cfg0.win 7).blk t).view.emb j = j := by
  funext a
  match a with
  | ⟨0, _⟩ => exact Fin.ext (by show 0 * 512 + 1 * (j 0).val = (j 0).val; omega)
  | ⟨1, _⟩ => exact Fin.ext (by show 0 * 1024 + 1 * (j 1).val = (j 1).val; omega)

theorem whole8 (t : Fin cfg0.N) (j : S1024x1024.Idx) : ((cfg0.win 8).blk t).view.emb j = j := by
  funext a
  match a with
  | ⟨0, _⟩ => exact Fin.ext (by show 0 * 1024 + 1 * (j 0).val = (j 0).val; omega)
  | ⟨1, _⟩ => exact Fin.ext (by show 0 * 1024 + 1 * (j 1).val = (j 1).val; omega)

theorem whole9 (t : Fin cfg0.N) (j : S1x1024.Idx) : ((cfg0.win 9).blk t).view.emb j = j := by
  funext a
  match a with
  | ⟨0, _⟩ => exact Fin.ext (by show 0 * 1 + 1 * (j 0).val = (j 0).val; omega)
  | ⟨1, _⟩ => exact Fin.ext (by show 0 * 1024 + 1 * (j 1).val = (j 1).val; omega)

theorem place0 : ∀ t : Fin grid0.N, win0_0.index t 0 = t.val ∧ win0_0.index t 1 = 0 := by decide +kernel

theorem emb0 (t : Fin grid0.N) (j : S512x1024.Idx) : (win0_0.rect t).emb j = ix2 (rowOf t (j 0)) (j 1) := by
  funext a
  match a with
  | ⟨0, _⟩ => exact Fin.ext ((win0_0.rect_emb_val t j 0).trans (by rw [(place0 t).1]; show t.val * 512 + (j 0).val = 512 * t.val + (j 0).val; omega))
  | ⟨1, _⟩ => exact Fin.ext ((win0_0.rect_emb_val t j 1).trans (by rw [(place0 t).2]; show 0 * 1024 + (j 1).val = (j 1).val; omega))

theorem place1 : ∀ t : Fin grid0.N, win0_1.index t 0 = t.val ∧ win0_1.index t 1 = 0 := by decide +kernel

theorem emb1 (t : Fin grid0.N) (j : S512x512.Idx) : (win0_1.rect t).emb j = ix2 (rowOf t (j 0)) (j 1) := by
  funext a
  match a with
  | ⟨0, _⟩ => exact Fin.ext ((win0_1.rect_emb_val t j 0).trans (by rw [(place1 t).1]; show t.val * 512 + (j 0).val = 512 * t.val + (j 0).val; omega))
  | ⟨1, _⟩ => exact Fin.ext ((win0_1.rect_emb_val t j 1).trans (by rw [(place1 t).2]; show 0 * 512 + (j 1).val = (j 1).val; omega))

theorem place2 : ∀ t : Fin grid0.N, win0_2.index t 0 = t.val ∧ win0_2.index t 1 = 0 := by decide +kernel

theorem emb2 (t : Fin grid0.N) (j : S512x512.Idx) : (win0_2.rect t).emb j = ix2 (rowOf t (j 0)) (j 1) := by
  funext a
  match a with
  | ⟨0, _⟩ => exact Fin.ext ((win0_2.rect_emb_val t j 0).trans (by rw [(place2 t).1]; show t.val * 512 + (j 0).val = 512 * t.val + (j 0).val; omega))
  | ⟨1, _⟩ => exact Fin.ext ((win0_2.rect_emb_val t j 1).trans (by rw [(place2 t).2]; show 0 * 512 + (j 1).val = (j 1).val; omega))

theorem place3 : ∀ t : Fin grid0.N, win0_3.index t 0 = t.val ∧ win0_3.index t 1 = 0 := by decide +kernel

theorem emb3 (t : Fin grid0.N) (j : S512x512.Idx) : (win0_3.rect t).emb j = ix2 (rowOf t (j 0)) (j 1) := by
  funext a
  match a with
  | ⟨0, _⟩ => exact Fin.ext ((win0_3.rect_emb_val t j 0).trans (by rw [(place3 t).1]; show t.val * 512 + (j 0).val = 512 * t.val + (j 0).val; omega))
  | ⟨1, _⟩ => exact Fin.ext ((win0_3.rect_emb_val t j 1).trans (by rw [(place3 t).2]; show 0 * 512 + (j 1).val = (j 1).val; omega))

theorem place4 : ∀ t : Fin grid0.N, win0_4.index t 0 = t.val ∧ win0_4.index t 1 = 0 := by decide +kernel

theorem emb4 (t : Fin grid0.N) (j : S512x3072.Idx) : (win0_4.rect t).emb j = ix2 (rowOf t (j 0)) (j 1) := by
  funext a
  match a with
  | ⟨0, _⟩ => exact Fin.ext ((win0_4.rect_emb_val t j 0).trans (by rw [(place4 t).1]; show t.val * 512 + (j 0).val = 512 * t.val + (j 0).val; omega))
  | ⟨1, _⟩ => exact Fin.ext ((win0_4.rect_emb_val t j 1).trans (by rw [(place4 t).2]; show 0 * 3072 + (j 1).val = (j 1).val; omega))

theorem place13 : ∀ t : Fin grid0.N, win0_13.index t 0 = t.val ∧ win0_13.index t 1 = 0 := by decide +kernel

theorem emb13 (t : Fin grid0.N) (j : S512x1024.Idx) : (win0_13.rect t).emb j = ix2 (rowOf t (j 0)) (j 1) := by
  funext a
  match a with
  | ⟨0, _⟩ => exact Fin.ext ((win0_13.rect_emb_val t j 0).trans (by rw [(place13 t).1]; show t.val * 512 + (j 0).val = 512 * t.val + (j 0).val; omega))
  | ⟨1, _⟩ => exact Fin.ext ((win0_13.rect_emb_val t j 1).trans (by rw [(place13 t).2]; show 0 * 1024 + (j 1).val = (j 1).val; omega))

theorem place14 : ∀ t : Fin grid0.N, win0_14.index t 0 = t.val ∧ win0_14.index t 1 = 0 ∧ win0_14.index t 2 = 0 := by decide +kernel

theorem emb14 (t : Fin grid0.N) (j : S512x8x128.Idx) : (win0_14.rect t).emb j = ix3 (rowOf t (j 0)) (j 1) (j 2) := by
  funext a
  match a with
  | ⟨0, _⟩ => exact Fin.ext ((win0_14.rect_emb_val t j 0).trans (by rw [(place14 t).1]; show t.val * 512 + (j 0).val = 512 * t.val + (j 0).val; omega))
  | ⟨1, _⟩ => exact Fin.ext ((win0_14.rect_emb_val t j 1).trans (by rw [(place14 t).2.1]; show 0 * 8 + (j 1).val = (j 1).val; omega))
  | ⟨2, _⟩ => exact Fin.ext ((win0_14.rect_emb_val t j 2).trans (by rw [(place14 t).2.2]; show 0 * 128 + (j 2).val = (j 2).val; omega))

theorem in0 (c : Dev nD) (t : Fin cfg0.N) (r : Fin 512) (k : Fin 1024) : iblk m c 0 t (ix2 r k) = xIn m c (ix2 (rowOf t r) k) := by
  unfold iblk
  rw [show V m c (Pipeline.arrRef spec0 0) = _ from V_main_arg0 m c]
  exact congrArg (xIn m c) (emb0 t (ix2 r k))

theorem in1 (c : Dev nD) (t : Fin cfg0.N) (r : Fin 512) (k : Fin 512) : iblk m c 1 t (ix2 r k) = aIn m c (ix2 (rowOf t r) k) := by
  unfold iblk
  rw [show V m c (Pipeline.arrRef spec0 1) = _ from V_main_arg1 m c]
  exact congrArg (aIn m c) (emb1 t (ix2 r k))

theorem in2 (c : Dev nD) (t : Fin cfg0.N) (r : Fin 512) (k : Fin 512) : iblk m c 2 t (ix2 r k) = bIn m c (ix2 (rowOf t r) k) := by
  unfold iblk
  rw [show V m c (Pipeline.arrRef spec0 2) = _ from V_main_arg2 m c]
  exact congrArg (bIn m c) (emb2 t (ix2 r k))

theorem in3 (c : Dev nD) (t : Fin cfg0.N) (r : Fin 512) (k : Fin 512) : iblk m c 3 t (ix2 r k) = dIn m c (ix2 (rowOf t r) k) := by
  unfold iblk
  rw [show V m c (Pipeline.arrRef spec0 3) = _ from V_main_arg3 m c]
  exact congrArg (dIn m c) (emb3 t (ix2 r k))

theorem in4 (c : Dev nD) (t : Fin cfg0.N) (r : Fin 512) (k : Fin 3072) : iblk m c 4 t (ix2 r k) = pIn m c (ix2 (rowOf t r) k) := by
  unfold iblk
  rw [show V m c (Pipeline.arrRef spec0 4) = _ from V_main_arg4 m c]
  exact congrArg (pIn m c) (emb4 t (ix2 r k))

theorem in5 (c : Dev nD) (t : Fin cfg0.N) : iblk m c 5 t = waIn m c := by
  unfold iblk
  have e : V m c (Pipeline.arrRef spec0 5) = waIn m c := by
    show StableHlo.after hostOps0 _ _ = _
    after_results
    rfl
  rw [e]
  exact funext fun j => congrArg (waIn m c) (whole5 t j)

theorem in6 (c : Dev nD) (t : Fin cfg0.N) : iblk m c 6 t = wbIn m c := by
  unfold iblk
  have e : V m c (Pipeline.arrRef spec0 6) = wbIn m c := by
    show StableHlo.after hostOps0 _ _ = _
    after_results
    rfl
  rw [e]
  exact funext fun j => congrArg (wbIn m c) (whole6 t j)

theorem in7 (c : Dev nD) (t : Fin cfg0.N) : iblk m c 7 t = wdIn m c := by
  unfold iblk
  have e : V m c (Pipeline.arrRef spec0 7) = wdIn m c := by
    show StableHlo.after hostOps0 _ _ = _
    after_results
    rfl
  rw [e]
  exact funext fun j => congrArg (wdIn m c) (whole7 t j)

theorem in8 (c : Dev nD) (t : Fin cfg0.N) : iblk m c 8 t = woIn m c := by
  unfold iblk
  have e : V m c (Pipeline.arrRef spec0 8) = woIn m c := by
    show StableHlo.after hostOps0 _ _ = _
    after_results
    rfl
  rw [e]
  exact funext fun j => congrArg (woIn m c) (whole8 t j)

theorem in9 (c : Dev nD) (t : Fin cfg0.N) : iblk m c 9 t = gIn m c := by
  unfold iblk
  rw [show V m c (Pipeline.arrRef spec0 9) = _ from V_main_arg9 m c]
  exact funext fun j => congrArg (gIn m c) (whole9 t j)

/-- The results. -/
def yOut (c : Dev nD) : S16384x1024.Idx → EReal := added (xIn m c) (aIn m c) (bIn m c) (dIn m c) (pIn m c) (waIn m c) (wbIn m c) (wdIn m c) (woIn m c)
def hOut (c : Dev nD) : S16384x8x128.Idx → EReal := tiles (yOut m c) (gIn m c)

theorem added_in (c : Dev nD) (t : Fin cfg0.N) (s : Fin 512) (k : Fin 1024) :
    added (iblk m c 0 t) (iblk m c 1 t) (iblk m c 2 t) (iblk m c 3 t) (iblk m c 4 t) (iblk m c 5 t) (iblk m c 6 t) (iblk m c 7 t) (iblk m c 8 t) (ix2 s k)
      = yOut m c (ix2 (rowOf t s) k) := by
  rw [in5, in6, in7, in8]
  exact added_row _ _ _ _ (in0 m c t s) (in1 m c t s) (in2 m c t s) (in3 m c t s) (in4 m c t s) k

theorem row_mod (i : Fin 16384) (h : i.val / 512 < grid0.N) : rowOf ⟨i.val / 512, h⟩ ⟨i.val % 512, Nat.mod_lt _ (by decide)⟩ = i :=
  Fin.ext (by show 512 * (i.val / 512) + i.val % 512 = i.val; omega)

theorem held13 (c : Dev nD) (t : Fin cfg0.N) (j : S512x1024.Idx) : (dats m 0 c).flushed 13 t j = added (iblk m c 0 t) (iblk m c 1 t) (iblk m c 2 t) (iblk m c 3 t) (iblk m c 4 t) (iblk m c 5 t) (iblk m c 6 t) (iblk m c 7 t) (iblk m c 8 t) j := by
  by_cases h0 : t.val % 32 = 0
  · exact (congrFun (flushed13_A m c t h0) j).trans (block13A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j)
  · exact (congrFun (flushed13_B m c t h0) j).trans (block13B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.2.2) j)

theorem held14 (c : Dev nD) (t : Fin cfg0.N) (j : S512x8x128.Idx) : (dats m 0 c).flushed 14 t j = tiles (added (iblk m c 0 t) (iblk m c 1 t) (iblk m c 2 t) (iblk m c 3 t) (iblk m c 4 t) (iblk m c 5 t) (iblk m c 6 t) (iblk m c 7 t) (iblk m c 8 t)) (iblk m c 9 t) j := by
  by_cases h0 : t.val % 32 = 0
  · exact (congrFun (flushed14_A m c t h0) j).trans (block14A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j)
  · exact (congrFun (flushed14_B m c t h0) j).trans (block14B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.2.2) j)

theorem flush13 (c : Dev nD) (t : Fin cfg0.N) (j : S512x1024.Idx) : (dats m 0 c).flushed 13 t j = yOut m c ((win0_13.rect t).emb j) := by
  refine (held13 m c t j).trans ?_
  rw [emb13]
  exact (congrArg _ (eq_ix2 j)).trans (added_in m c t (j 0) (j 1))

theorem flush14 (c : Dev nD) (t : Fin cfg0.N) (j : S512x8x128.Idx) : (dats m 0 c).flushed 14 t j = hOut m c ((win0_14.rect t).emb j) := by
  refine (held14 m c t j).trans ?_
  rw [emb14, in9]
  exact congrArg (fun f => normed f _ _) (funext fun k => added_in m c t (j 0) k)

theorem final13 (c : Dev nD) : (dats m 0 c).arrAt 13 cfg0.N = yOut m c := by
  refine (dats m 0 c).arrAt_eq_of_cover 13 (yOut m c) (fun t _ => funext fun j => flush13 m c t j) (fun i => ?_)
  have h0 : (i 0).val < 16384 := (i 0).isLt
  have hN : grid0.N = 32 := N_0
  have ht : (i 0).val / 512 < grid0.N := by omega
  refine ⟨⟨(i 0).val / 512, ht⟩, flush0_13 _, Finset.mem_map.mpr ⟨ix2 ⟨(i 0).val % 512, Nat.mod_lt _ (by decide)⟩ (i 1), Finset.mem_univ _, ?_⟩⟩
  exact (emb13 _ _).trans ((congrArg (fun r => ix2 r (i 1)) (row_mod (i 0) ht)).trans (eq_ix2 i).symm)

theorem final14 (c : Dev nD) : (dats m 0 c).arrAt 14 cfg0.N = hOut m c := by
  refine (dats m 0 c).arrAt_eq_of_cover 14 (hOut m c) (fun t _ => funext fun j => flush14 m c t j) (fun i => ?_)
  have h0 : (i 0).val < 16384 := (i 0).isLt
  have hN : grid0.N = 32 := N_0
  have ht : (i 0).val / 512 < grid0.N := by omega
  refine ⟨⟨(i 0).val / 512, ht⟩, flush0_14 _, Finset.mem_map.mpr ⟨ix3 ⟨(i 0).val % 512, Nat.mod_lt _ (by decide)⟩ (i 1) (i 2), Finset.mem_univ _, ?_⟩⟩
  exact (emb14 _ _).trans ((congrArg (fun r => ix3 r (i 1) (i 2)) (row_mod (i 0) ht)).trans (eq_ix3 i).symm)

end

section

open Cert.Reference5Ideal Cert.Reference5Ideal.Gen Cert.Reference5Ideal.Value

variable (x : FVec Ideal S16384x1024 .f32) (a b d : FVec Ideal S16384x512 .bf16) (p : FVec Ideal S16384x3072 .bf16) (wa wb wd : FVec Ideal S512x1024 .f32)
  (wo : FVec Ideal S1024x1024 .f32) (g : FVec Ideal S1x1024 .f32)

/-- The reference's rows with the projected sum added. -/
def rAdded : FVec Ideal S16384x1024 .f32 :=
  addf x (Host.dotGeneral dot_S16384x1024_S1024x1024_S16384x1024_1_0_0_1_n_n none (addf (addf
    (mulf (extractStridedSlice S16384x1024 ![0, 0] (extf .f32 p bitsLt_bf16_f32) slices_S16384x3072_S16384x1024_0_0) (Host.dotGeneral dot_S16384x512_S512x1024_S16384x1024_1_0_0_1_n_n none (extf .f32 a bitsLt_bf16_f32) wa))
    (mulf (extractStridedSlice S16384x1024 ![0, 1024] (extf .f32 p bitsLt_bf16_f32) slices_S16384x3072_S16384x1024_0_1024) (Host.dotGeneral dot_S16384x512_S512x1024_S16384x1024_1_0_0_1_n_n none (extf .f32 b bitsLt_bf16_f32) wb)))
    (mulf (extractStridedSlice S16384x1024 ![0, 2048] (extf .f32 p bitsLt_bf16_f32) slices_S16384x3072_S16384x1024_0_2048) (Host.dotGeneral dot_S16384x512_S512x1024_S16384x1024_1_0_0_1_n_n none (extf .f32 d bitsLt_bf16_f32) wd))) wo)

theorem rAdded_at (r : Fin 16384) (k : Fin 1024) : rAdded x a b d p wa wb wd wo (ix2 r k) = added x a b d p wa wb wd wo (ix2 r k) := by
  unfold rAdded
  pointwise
  unfold added mixed
  rfl

theorem rTiles (y : FVec Ideal S16384x1024 .f32) :
    (shapeCast S16384x8x128 (mulf (mulf y (broadcastInDim S16384x1024 ![0, 1] bcast_S16384x1_S16384x1024_0_1 (Host.rsqrt (addf
      (Host.divf (broadcastInDim S16384x1 ![0] bcast_S16384_S16384x1_0 (Host.reduceAdd (mulf y y) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 g)) shapeCasts_S16384x1024_S16384x8x128 : FVec Ideal S16384x8x128 .f32) = tiles y g := by
  funext i
  have h1 : (i 1).val < 8 := (i 1).isLt
  have h2 : (i 2).val < 128 := (i 2).isLt
  rw [eq_ix3 i]
  pointwise
  rfl

end

theorem algebraic : Cert.algebraic_Kernel5Ideal_Reference5Ideal := by
  intro m g m' g' _ hagree
  have eA : ∀ c : Dev Cert.Kernel5Ideal.nD, rAdded (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = yOut m c := by
    intro c
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact funext fun i => (congrArg _ (eq_ix2 i)).trans ((rAdded_at _ _ _ _ _ _ _ _ _ (i 0) (i 1)).trans (congrArg _ (eq_ix2 i).symm))
  refine ⟨fun c => yOut m c, fun c => hOut m c, ?_, ?_⟩
  · exact (θ_run Cert.Kernel5Ideal.defs _ _).mono (fun _ h c => ⟨(h c).1.trans (final13 m c), (h c).2.1.trans (final14 m c), (h c).2.2.2.2.2.2⟩)
      (Cert.Kernel5Ideal.Value.run_blocks (F := Ideal) m g)
  · refine (θ_run Cert.Reference5Ideal.defs _ _).mono (fun _ h c => ⟨(h c).1.trans (eA c), (h c).2.1.trans ?_, (h c).2.2⟩) (Cert.Reference5Ideal.Value.run (F := Ideal) m' g')
    unfold Cert.Reference5Ideal.Value.res_main_v29
    refine (rTiles _ _).trans ?_
    refine (congrArg (fun y => tiles y _) (eA c)).trans ?_
    exact congrArg (tiles (yOut m c)) (hagree c).2.2.2.2.2.2.2.2.2.1

end Cert.Merge

end
-- ==== Proof.Att.Soft.lean ====
/-
  The softmax average of finitely many values over the extended reals, in the two orders in which it is computed: weights first,
  or the sum first and one division after it.
-/
module

public import Mathlib.Analysis.SpecialFunctions.Exp
public import Mathlib.Data.EReal.Operations
public import Idealize.ShloMosaic.PureOps.Ideal

@[expose] public section

noncomputable section

namespace Cert.Att

open Idealize.ShloMosaic

variable {ι : Type} [Fintype ι]

/-- The weight of a score before it is divided by the weights' sum; a score at minus infinity weighs nothing. -/
def wt (s : EReal) : ℝ := if s = ⊥ then 0 else Real.exp s.toReal

theorem wt_nonneg (s : EReal) : 0 ≤ wt s := by
  unfold wt
  split
  · exact le_rfl
  · exact (Real.exp_pos _).le

theorem wt_pos (s : EReal) (h : s ≠ ⊥) : 0 < wt s := by
  unfold wt
  rw [if_neg h]
  exact Real.exp_pos _

/-- The average of the values, weighted by the exponentials of the scores. -/
def soft (s v : ι → EReal) : EReal := (((∑ m, wt (s m) * (v m).toReal) / ∑ m, wt (s m) : ℝ) : EReal)

theorem exp_shift (s : EReal) (M : ℝ) (h : s ≠ ⊤) : Ideal.exp (s - (M : EReal)) = ((wt s * Real.exp (-M) : ℝ) : EReal) := by
  unfold wt
  induction s with
  | bot => rw [EReal.bot_sub, if_pos rfl, zero_mul]; rfl
  | top => exact absurd rfl h
  | coe x =>
    rw [if_neg (EReal.coe_ne_bot x), EReal.toReal_coe, ← EReal.coe_sub, ← Real.exp_add, ← sub_eq_add_neg]
    rfl

theorem sum_coe (f : ι → ℝ) : ∑ m, ((f m : ℝ) : EReal) = ((∑ m, f m : ℝ) : EReal) := by
  classical
  refine Finset.induction_on (Finset.univ : Finset ι) (by simp) fun a t ha ih => ?_
  rw [Finset.sum_insert ha, Finset.sum_insert ha, ih, EReal.coe_add]

theorem div_coe (x y : ℝ) (h : 0 < y) : Ideal.div (x : EReal) (y : EReal) = ((x / y : ℝ) : EReal) := by
  have h' : ((y : ℝ) : EReal) ≠ 0 := by
    rw [← EReal.coe_zero]; exact fun e => h.ne' (EReal.coe_eq_coe_iff.1 e)
  unfold Ideal.div
  rw [if_neg h', ← EReal.coe_inv, ← EReal.coe_mul, div_eq_mul_inv]

variable (s v : ι → EReal) (M : ℝ) (hs : ∀ m, s m ≠ ⊤) (hv : ∀ m, v m ≠ ⊤ ∧ v m ≠ ⊥)

include hs in
theorem den_eq : ∑ m, Ideal.exp (s m - (M : EReal)) = (((∑ m, wt (s m)) * Real.exp (-M) : ℝ) : EReal) := by
  rw [Finset.sum_mul, ← sum_coe]
  exact Finset.sum_congr rfl fun m _ => exp_shift (s m) M (hs m)

theorem sum_wt_pos (h : ∃ m, s m ≠ ⊥) : 0 < ∑ m, wt (s m) := by
  obtain ⟨m, hm⟩ := h
  exact Finset.sum_pos' (fun m _ => wt_nonneg _) ⟨m, Finset.mem_univ _, wt_pos _ hm⟩

include hs hv in
/-- The sum first. -/
theorem soft_of_sum (h : ∃ m, s m ≠ ⊥) :
    Ideal.div (∑ m, Ideal.exp (s m - (M : EReal)) * v m) (∑ m, Ideal.exp (s m - (M : EReal))) = soft s v := by
  have hd := sum_wt_pos s h
  have e := Real.exp_pos (-M)
  rw [den_eq s M hs, show ∑ m, Ideal.exp (s m - (M : EReal)) * v m = (((∑ m, wt (s m) * (v m).toReal) * Real.exp (-M) : ℝ) : EReal) from ?_,
    div_coe _ _ (mul_pos hd e), mul_div_mul_right _ _ e.ne']
  · rfl
  · rw [Finset.sum_mul, ← sum_coe]
    refine Finset.sum_congr rfl fun m _ => ?_
    rw [exp_shift (s m) M (hs m)]
    conv_lhs => rw [← EReal.coe_toReal (hv m).1 (hv m).2]
    rw [← EReal.coe_mul]
    congr 1
    ring

include hs hv in
/-- The weights first. -/
theorem soft_of_weights (h : ∃ m, s m ≠ ⊥) :
    ∑ m, v m * Ideal.div (Ideal.exp (s m - (M : EReal))) (∑ m, Ideal.exp (s m - (M : EReal))) = soft s v := by
  have hd := sum_wt_pos s h
  have e := Real.exp_pos (-M)
  unfold soft
  rw [den_eq s M hs, Finset.sum_div, ← sum_coe]
  refine Finset.sum_congr rfl fun m _ => ?_
  rw [exp_shift (s m) M (hs m), div_coe _ _ (mul_pos hd e), mul_div_mul_right _ _ e.ne']
  conv_lhs => rw [← EReal.coe_toReal (hv m).1 (hv m).2]
  rw [← EReal.coe_mul]
  congr 1
  ring

end Cert.Att

end
-- ==== Proof.Att.Cross.lean ====
/-
  The attention to the memory: what one block of rows holds.
-/
module

public import proofs.«01_k».proof.Defs
public import proofs.«01_k».proof.Proof.Gen.Kernel6Ideal.Value
public import proofs.«01_k».proof.Proof.Gen.Reference6Ideal.Run
public import proofs.«01_k».proof.Proof.Lin.Proj
public import proofs.«01_k».proof.Proof.Att.Soft

@[expose] public section

noncomputable section

namespace Cert.Cross

open Idealize.ShloMosaic Idealize.ShloMosaic.TcCoe
open Cert.Att

/-- The scale of the scores. -/
def scl : ℝ := (Real.sqrt 128)⁻¹

/-- The score of a row against a row of the memory, on the 128 columns from `o` on. -/
def score {n : ℕ} {w : ℕ} (q : (⟨2, ![n, w]⟩ : Shape).Idx → EReal) (k : (⟨2, ![256, 128]⟩ : Shape).Idx → EReal) (o : ℕ) (ho : o + 128 ≤ w) (r : Fin n) (x : Fin 256) : EReal :=
  (∑ d : Fin 128, q (ix2 r ⟨o + d.val, by omega⟩) * k (ix2 x d)) * (scl : EReal)

/-- One head's rows, in the order the kernel computes them. -/
def head (q : (⟨2, ![512, 512]⟩ : Shape).Idx → EReal) (k v : (⟨2, ![256, 128]⟩ : Shape).Idx → EReal) (o : ℕ) (ho : o + 128 ≤ 512) (r : Fin 512) (c : Fin 128) : EReal :=
  Ideal.div
    (∑ x, Ideal.exp (score q k o ho r x - Finset.fold max (Ideal.ofBits FTy.f32 0xFF800000#32) (score q k o ho r) Finset.univ) * v (ix2 x c))
    (∑ x, Ideal.exp (score q k o ho r x - Finset.fold max (Ideal.ofBits FTy.f32 0xFF800000#32) (score q k o ho r) Finset.univ))

section

open Cert.Kernel6Ideal Cert.Kernel6Ideal.Gen

theorem named_s : (Named.named κ "s" 0x3DB504F3#32 : Ideal .f32) = (scl : EReal) := rfl

variable (q : Vec Ideal S512x512 .bf16) (k v : Vec Ideal S256x128 .f32)

theorem pay2_at (r : Fin 512) (c : Fin 128) : k0_pay2 (F := Ideal) q k v (ix2 r c) = head q k v 0 (by decide) r c := by
  unfold k0_pay2
  pointwise [named_s]
  rfl

theorem pay7_at (r : Fin 512) (c : Fin 128) : k0_pay7 (F := Ideal) q k v (ix2 r c) = head q k v 256 (by decide) r c := by
  unfold k0_pay7
  pointwise [named_s]
  rfl

theorem pay4_at (r : Fin 512) (x : Fin 256) : k0_pay4 (F := Ideal) q k (ix2 r x)
    = Ideal.exp (score q k 128 (by decide) r x - Finset.fold max (Ideal.ofBits FTy.f32 0xFF800000#32) (score q k 128 (by decide) r) Finset.univ) := by
  unfold k0_pay4
  pointwise [named_s]
  rfl

theorem pay6_at (r : Fin 512) (c : Fin 128) : k0_pay6 (F := Ideal) (k0_pay3 v) (k0_pay4 q k) (k0_pay5 q k) (ix2 r c) = head q k v 128 (by decide) r c := by
  unfold k0_pay6 k0_pay3 k0_pay5
  pointwise [pay4_at]
  rfl

theorem pay9_at (r : Fin 512) (x : Fin 256) : k0_pay9 (F := Ideal) q k (ix2 r x) = score q k 384 (by decide) r x := by
  unfold k0_pay9
  pointwise [named_s]
  rfl

theorem pay1_at (r : Fin 512) (c : Fin 128) : k0_pay1 (F := Ideal) (k0_pay8 v) (k0_pay9 q k) (k0_pay10 q k) (ix2 r c) = head q k v 384 (by decide) r c := by
  unfold k0_pay1 k0_pay8 k0_pay10
  pointwise [pay9_at]
  rfl

end

section

open Cert.Reference6Ideal Cert.Reference6Ideal.Gen

variable (q : FVec Ideal S16384x3584 .bf16) (k v : FVec Ideal S256x512 .f32)

/-- The reference's scores. -/
def rScore : FVec Ideal S4x16384x256 .f32 :=
  Host.divf (Host.dotGeneral dot_S16384x4x128_S256x4x128_S4x16384x256_2_2_0_0_1_1 none (shapeCast _ (extf .f32 (extractStridedSlice S16384x512 ![0, 3072] q slices_S16384x3584_S16384x512_0_3072) bitsLt_bf16_f32) shapeCasts_S16384x512_S16384x4x128) (shapeCast _ k shapeCasts_S256x512_S256x4x128)) (broadcastInDim S4x16384x256 ![] bcast_S_S4x16384x256 (Host.sqrt (constant S_ .f32 0x43000000#32)))

/-- The largest scores, and the exponentials of the scores less them. -/
def rMax (s : FVec Ideal S4x16384x256 .f32) : FVec Ideal S4x16384 .f32 :=
  maximumf (broadcastInDim S4x16384 ![] bcast_S_S4x16384 (constant S_ .f32 0xFF800000#32)) (Host.reduce FloatOps.maximumf s (constant S_ .f32 0xFF800000#32) reducesTo_S4x16384x256_S4x16384_d2 h_S_)

def rExp (s : FVec Ideal S4x16384x256 .f32) (M : FVec Ideal S4x16384 .f32) : FVec Ideal S4x16384x256 .f32 :=
  Host.exp (subf s (broadcastInDim S4x16384x256 ![0, 1, 2] bcast_S4x16384x1_S4x16384x256_0_1_2 (broadcastInDim S4x16384x1 ![0, 1] bcast_S4x16384_S4x16384x1_0_1 M)))

/-- The reference's result, from the exponentials. -/
def rOut (e : FVec Ideal S4x16384x256 .f32) : FVec Ideal S16384x512 .bf16 :=
  truncf .bf16 (shapeCast _ (transpose S16384x4x128 [2, 0, 1] (Host.dotGeneral dot_S256x4x128_S4x16384x256_S4x128x16384_0_2_2_1_1_0 none (shapeCast _ v shapeCasts_S256x512_S256x4x128) (Host.divf e (broadcastInDim S4x16384x256 ![0, 1, 2] bcast_S4x16384x1_S4x16384x256_0_1_2 (broadcastInDim S4x16384x1 ![0, 1] bcast_S4x16384_S4x16384x1_0_1 (Host.reduceAdd e (constant S_ .f32 0x00000000#32) reducesTo_S4x16384x256_S4x16384_d2 h_S_))))) transposes_S4x128x16384_S16384x4x128_2_0_1) shapeCasts_S16384x4x128_S16384x512) bitsLt_bf16_f32

theorem max_at {a b n : ℕ} (s : FVec Ideal (⟨3, ![a, b, n]⟩ : Shape) .f32) (w : BitVec 32) (hr : (⟨3, ![a, b, n]⟩ : Shape).ReducesTo [2] ⟨2, ![a, b]⟩) (hu) (i : Fin a) (j : Fin b) :
    Host.reduce FloatOps.maximumf s (constant (F := Ideal) ⟨0, ![]⟩ .f32 w) hr hu (ix2 i j) = Finset.fold max (Ideal.ofBits FTy.f32 w) (fun x => s (ix3 i j x)) Finset.univ := by
  pointwise
  done

theorem maximumf_at {s : Shape} (x y : FVec Ideal s .f32) (i : s.Idx) : maximumf x y i = max (x i) (y i) := rfl

theorem splat_at {t : Shape} (hb) (w : BitVec 32) (i : t.Idx) : broadcastInDim t ![] hb (constant (F := Ideal) ⟨0, ![]⟩ .f32 w) i = Ideal.ofBits FTy.f32 w := rfl

theorem rMax_at (s : FVec Ideal S4x16384x256 .f32) (h : Fin 4) (r : Fin 16384) :
    rMax s (ix2 h r) = max (Ideal.ofBits FTy.f32 0xFF800000#32) (Finset.fold max (Ideal.ofBits FTy.f32 0xFF800000#32) (fun x => s (ix3 h r x)) Finset.univ) := by
  unfold rMax
  exact (maximumf_at _ _ _).trans (congrArg₂ max (splat_at _ _ _) (max_at s _ reducesTo_S4x16384x256_S4x16384_d2 h_S_ h r))

theorem ofBits_128 : Ideal.ofBits .f32 0x43000000#32 = ((128 : ℝ) : EReal) := by
  simp [Ideal.ofBits, Ideal.ieee, -EReal.coe_mul]; norm_num

theorem ofBits_bot : Ideal.ofBits .f32 0xFF800000#32 = ⊥ := by
  simp [Ideal.ofBits, Ideal.ieee]

theorem div_root (x : EReal) : Ideal.div x (Ideal.sqrt (Ideal.ofBits FTy.f32 0x43000000#32)) = x * (scl : EReal) := by
  have h : Real.sqrt 128 ≠ 0 := (Real.sqrt_pos.mpr (by norm_num)).ne'
  rw [ofBits_128, Ideal.sqrt_coe, if_neg (by norm_num), Ideal.div_coe h, one_div]
  rfl

/-- The columns of one head. -/
def cols {n : ℕ} (k : (⟨2, ![n, 512]⟩ : Shape).Idx → EReal) (h : Fin 4) : (⟨2, ![n, 128]⟩ : Shape).Idx → EReal :=
  fun i => k (ix2 (i 0) ⟨h.val * 128 + (i 1).val, by have : (i 1).val < 128 := (i 1).isLt; omega⟩)

theorem rScore_at (h : Fin 4) (r : Fin 16384) (x : Fin 256) : rScore q k (ix3 h r x) = score q (cols k h) (3072 + h.val * 128) (by omega) r x := by
  unfold rScore
  pointwise
  rw [div_root]
  unfold score cols
  refine congrArg (· * _) (Finset.sum_congr rfl fun d _ => congrArg (· * _) ?_)
  congr 2
  exact Fin.ext (Nat.add_assoc _ _ _).symm

theorem rExp_at (s : FVec Ideal S4x16384x256 .f32) (M : FVec Ideal S4x16384 .f32) (h : Fin 4) (r : Fin 16384) (x : Fin 256) : rExp s M (ix3 h r x) = Ideal.exp (s (ix3 h r x) - M (ix2 h r)) := by
  unfold rExp
  pointwise
  done

theorem rOut_at (e : FVec Ideal S4x16384x256 .f32) (r : Fin 16384) (c : Fin 512) : rOut v e (ix2 r c)
    = ∑ x, v (ix2 x c) * Ideal.div (e (ix3 ⟨c.val / 128, by omega⟩ r x)) (∑ y, e (ix3 ⟨c.val / 128, by omega⟩ r y)) := by
  unfold rOut
  pointwise
  done

end

end Cert.Cross

end
-- ==== Proof.Att.Fin.lean ====
/-
  Rows of finite scores: their largest is a real number, and a row divided by its sum is the weighted average.
-/
module

public import proofs.«01_k».proof.Proof.Gen.Pre_finite6
public import Idealize.ShloMosaic.Lib.ReduceAll
public import proofs.«01_k».proof.Proof.Att.Cross

@[expose] public section

noncomputable section

namespace Cert.Cross

open Idealize.ShloMosaic Idealize.ShloMosaic.TcCoe
open Cert.Att

/-- Neither infinity. -/
def Real' (x : EReal) : Prop := x ≠ ⊤ ∧ x ≠ ⊥

theorem fold_top {n : ℕ} (s : Fin n → EReal) (h : ∀ x, s x ≠ ⊤) : Finset.fold max (Ideal.ofBits FTy.f32 0xFF800000#32) s Finset.univ ≠ ⊤ := by
  rw [ofBits_bot]
  exact ((Finset.fold_max_lt _).mpr ⟨bot_lt_top, fun x _ => lt_top_iff_ne_top.mpr (h x)⟩).ne

theorem fold_bot {n : ℕ} (s : Fin n → EReal) (h : ∃ x, s x ≠ ⊥) : Finset.fold max (Ideal.ofBits FTy.f32 0xFF800000#32) s Finset.univ ≠ ⊥ := by
  obtain ⟨x, hx⟩ := h
  exact ((Finset.lt_fold_max _).mpr (Or.inr ⟨x, Finset.mem_univ _, bot_lt_iff_ne_bot.mpr hx⟩)).ne'

theorem fold_real {n : ℕ} (s : Fin n → EReal) (h : ∀ x, s x ≠ ⊤) (h' : ∃ x, s x ≠ ⊥) : ∃ M : ℝ, Finset.fold max (Ideal.ofBits FTy.f32 0xFF800000#32) s Finset.univ = (M : EReal) :=
  ⟨_, (EReal.coe_toReal (fold_top s h) (fold_bot s h')).symm⟩

/-- The sum of a row's products with finite entries, scaled, is a real number. -/
theorem score_fin {n w : ℕ} (q : (⟨2, ![n, w]⟩ : Shape).Idx → EReal) (k : (⟨2, ![256, 128]⟩ : Shape).Idx → EReal) (o : ℕ) (ho : o + 128 ≤ w) (r : Fin n) (x : Fin 256)
    (hq : ∀ i, Real' (q i)) (hk : ∀ i, Real' (k i)) : Real' (score q k o ho r x) := by
  have e : score q k o ho r x = (((∑ d : Fin 128, (q (ix2 r ⟨o + d.val, by omega⟩)).toReal * (k (ix2 x d)).toReal) * scl : ℝ) : EReal) := by
    unfold score
    rw [EReal.coe_mul, ← sum_coe]
    refine congrArg (· * (scl : EReal)) (Finset.sum_congr rfl fun d _ => ?_)
    rw [EReal.coe_mul, EReal.coe_toReal (hq _).1 (hq _).2, EReal.coe_toReal (hk _).1 (hk _).2]
  rw [e]
  exact ⟨EReal.coe_ne_top _, EReal.coe_ne_bot _⟩

theorem head_soft (q : (⟨2, ![512, 512]⟩ : Shape).Idx → EReal) (k v : (⟨2, ![256, 128]⟩ : Shape).Idx → EReal) (o : ℕ) (ho : o + 128 ≤ 512) (r : Fin 512) (c : Fin 128)
    (hq : ∀ i, Real' (q i)) (hk : ∀ i, Real' (k i)) (hv : ∀ i, Real' (v i)) : head q k v o ho r c = soft (score q k o ho r) (fun x => v (ix2 x c)) := by
  have hs : ∀ x, Real' (score q k o ho r x) := fun x => score_fin q k o ho r x hq hk
  obtain ⟨M, hM⟩ := fold_real _ (fun x => (hs x).1) ⟨0, (hs 0).2⟩
  unfold head
  rw [hM]
  exact soft_of_sum _ _ M (fun x => (hs x).1) (fun x => hv _) ⟨0, (hs 0).2⟩

/-- The rows' averages of the memory's values, head by head. -/
def attn {n w : ℕ} (q : (⟨2, ![n, w]⟩ : Shape).Idx → EReal) (k v : (⟨2, ![256, 512]⟩ : Shape).Idx → EReal) (o : ℕ) (ho : o + 512 ≤ w) : (⟨2, ![n, 512]⟩ : Shape).Idx → EReal :=
  fun i =>
    have hi : (i 1).val < 512 := (i 1).isLt
    soft (score q (cols k ⟨(i 1).val / 128, by omega⟩) (o + (i 1).val / 128 * 128) (by omega) (i 0)) (fun x => v (ix2 x (i 1)))

section

open Cert.Reference6Ideal Cert.Reference6Ideal.Gen

variable (q : FVec Ideal S16384x3584 .bf16) (k v : FVec Ideal S256x512 .f32)

theorem rOut_eq (hq : ∀ i, Real' (q i)) (hk : ∀ i, Real' (k i)) (hv : ∀ i, Real' (v i)) :
    rOut v (rExp (rScore q k) (rMax (rScore q k))) = attn q k v 3072 (by decide) := by
  funext i
  have hi : (i 1).val < 512 := (i 1).isLt
  have hs : ∀ x, rScore q k (ix3 ⟨(i 1).val / 128, by omega⟩ (i 0) x) = score q (cols k ⟨(i 1).val / 128, by omega⟩) (3072 + (i 1).val / 128 * 128) (by omega) (i 0) x :=
    fun x => rScore_at q k ⟨(i 1).val / 128, by omega⟩ (i 0) x
  have hf : ∀ x, Real' (score q (cols k ⟨(i 1).val / 128, by omega⟩) (3072 + (i 1).val / 128 * 128) (by omega) (i 0) x) := fun x => score_fin q _ _ _ _ x hq (fun _ => hk _)
  obtain ⟨M, hM⟩ := fold_real _ (fun x => (hf x).1) ⟨0, (hf 0).2⟩
  have hm : rMax (rScore q k) (ix2 ⟨(i 1).val / 128, by omega⟩ (i 0)) = (M : EReal) := by
    refine (rMax_at _ _ _).trans ?_
    rw [funext hs, hM, ofBits_bot]
    exact max_eq_right bot_le
  have he : ∀ x, rExp (rScore q k) (rMax (rScore q k)) (ix3 ⟨(i 1).val / 128, by omega⟩ (i 0) x)
      = Ideal.exp (score q (cols k ⟨(i 1).val / 128, by omega⟩) (3072 + (i 1).val / 128 * 128) (by omega) (i 0) x - (M : EReal)) := fun x => by
    refine (rExp_at _ _ _ _ _).trans ?_
    rw [hs, hm]
  refine (congrArg _ (eq_ix2 i)).trans ((rOut_at v _ (i 0) (i 1)).trans ?_)
  simp only [he]
  exact soft_of_weights _ _ M (fun x => (hf x).1) (fun x => hv _) ⟨0, (hf 0).2⟩

end

section

open Cert.Pre_finite6 Cert.Pre_finite6.Gen

theorem fin_of_lt (x : EReal) (h : FloatOps.cmpf (F := Ideal) (φ := .f32) .olt (max x (-x)) (Ideal.ofBits FTy.f32 0x7F800000#32) = 1#1) : Real' x := by
  have e : Ideal.ofBits FTy.f32 0x7F800000#32 = ⊤ := by simp [Ideal.ofBits, Ideal.ieee]
  rw [e] at h
  have h' : max x (-x) < ⊤ := by
    by_contra hn
    simp [Ideal.cmpf_def, Ideal.cmp, hn] at h
  refine ⟨fun e => ?_, fun e => ?_⟩ <;> subst e <;> simp at h'

theorem finite (q : FVec Ideal S16384x3584 .bf16) (k v : FVec Ideal S256x512 .f32) (h : Cert.Pre_finite6.fn (F := Ideal) q k v = fun _ => 1#1) :
    (∀ i, Real' (q i)) ∧ (∀ i, Real' (k i)) ∧ (∀ i, Real' (v i)) := by
  have h0 := congrFun h (fun a => a.elim0)
  dsimp only [Cert.Pre_finite6.fn] at h0
  obtain ⟨h1, h2⟩ := IntOp.andi_eq_one.mp h0
  obtain ⟨h3, h4⟩ := IntOp.andi_eq_one.mp h1
  haveI : Subsingleton S_.Idx := ⟨fun a b => funext fun i => i.elim0⟩
  exact ⟨fun i => fin_of_lt _ (Host.reduce_andi_all _ _ _ _ _ h3 i), fun i => fin_of_lt _ (Host.reduce_andi_all _ _ _ _ _ h4 i), fun i => fin_of_lt _ (Host.reduce_andi_all _ _ _ _ _ h2 i)⟩

end

end Cert.Cross

end
-- ==== Proof.Att.CrossRun.lean ====
/-
  The attention to the memory, as a whole array: the kernel's is the reference's.
-/
module

public import proofs.«01_k».proof.Proof.Att.Fin

@[expose] public section

noncomputable section

namespace Cert.Cross

open Idealize.ShloMosaic Idealize.ShloMosaic.TcCoe
open Idealize.ShloMosaic.Pipeline (Dat)
open Cert.Att

section

open Cert.Kernel6Ideal Cert.Kernel6Ideal.Gen Cert.Kernel6Ideal.Value

/-- 128 columns of a block, from column `128 h` on. -/
theorem ld_cols (k : Vec Ideal S256x512 .f32) (o : ℕ) (h : Fin 4) (ho : o = h.val * 128) (inb) :
    View.ld k (Rect.unit (s := S256x512) ![0, o] S256x128.size inb) = cols k h := by
  subst ho
  funext i
  refine congrArg k (funext fun a => ?_)
  match a with
  | ⟨0, _⟩ => exact Fin.ext (by show 0 + 1 * (i 0).val = (i 0).val; omega)
  | ⟨1, _⟩ => exact Fin.ext (by show h.val * 128 + 1 * (i 1).val = h.val * 128 + (i 1).val; omega)

theorem emb_cols (o : ℕ) (inb) (y : S512x128.Idx) (ho : o + (y 1).val < 512) :
    (Rect.unit (s := S512x512) ![0, o] S512x128.size inb).emb y = ix2 (y 0) ⟨o + (y 1).val, ho⟩ := by
  funext a
  match a with
  | ⟨0, _⟩ => exact Fin.ext (by show 0 + 1 * (y 0).val = (y 0).val; omega)
  | ⟨1, _⟩ => exact Fin.ext (by show o + 1 * (y 1).val = o + (y 1).val; omega)

/-- The score of a row depends on that row alone. -/
theorem score_row {n w l u : ℕ} {q : (⟨2, ![n, w]⟩ : Shape).Idx → EReal} {q' : (⟨2, ![l, u]⟩ : Shape).Idx → EReal} {k k' : (⟨2, ![256, 128]⟩ : Shape).Idx → EReal} (hk : k = k')
    {o o' : ℕ} (ho : o + 128 ≤ w) (ho' : o' + 128 ≤ u) {r : Fin n} {r' : Fin l} (h : ∀ d : Fin 128, q (ix2 r ⟨o + d.val, by omega⟩) = q' (ix2 r' ⟨o' + d.val, by omega⟩)) :
    score q k o ho r = score q' k' o' ho' r' := by
  subst hk
  funext x
  exact congrArg (· * (scl : EReal)) (Finset.sum_congr rfl fun d _ => congrArg (· * _) (h d))

variable (q : Vec Ideal S512x512 .bf16) (k v : Vec Ideal S256x512 .f32)

/-- One head's columns of the block. -/
theorem head_attn (hq : ∀ i, Real' (q i)) (hk : ∀ i, Real' (k i)) (hv : ∀ i, Real' (v i)) (o : ℕ) (h : Fin 4) (e : o = h.val * 128) (ho : o + 128 ≤ 512) (inb)
    (y : S512x128.Idx) (g : EReal) (hg : g = head q (cols k h) (cols v h) o ho (y 0) (y 1)) :
    g = attn q k v 0 (by decide) ((Rect.unit (s := S512x512) ![0, o] S512x128.size inb).emb y) := by
  have hy : (y 1).val < 128 := (y 1).isLt
  have hc : (o + (y 1).val) / 128 = h.val := by omega
  rw [emb_cols o inb y (by omega), hg, head_soft q (cols k h) (cols v h) o ho (y 0) (y 1) hq (fun _ => hk _) (fun _ => hv _)]
  subst e
  refine congrArg₂ soft (score_row (congrArg (cols k) (Fin.ext hc.symm)) _ _ fun d => ?_) rfl
  refine congrArg (fun j => q (ix2 (y 0) j)) (Fin.ext ?_)
  show h.val * 128 + d.val = 0 + (h.val * 128 + (y 1).val) / 128 * 128 + d.val
  rw [hc]
  omega

theorem block (hq : ∀ i, Real' (q i)) (hk : ∀ i, Real' (k i)) (hv : ∀ i, Real' (v i)) : out0_3 q k v = attn q k v 0 (by decide) := by
  funext y
  unfold out0_3
  refine View.canon_apply_of_pieces (Val := Elt Ideal) (attn q k v 0 (by decide)) _ ?_ y (cover0_3 _ _ _ _ y)
  rw [View.ld_unit_zero (by decide), ld_cols k 0 0 rfl, ld_cols v 0 0 rfl, ld_cols k 128 1 rfl, ld_cols v 128 1 rfl, ld_cols k 256 2 rfl, ld_cols v 256 2 rfl, ld_cols k 384 3 rfl, ld_cols v 384 3 rfl]
  intro p hp
  simp only [List.mem_cons, List.mem_nil_iff, or_false] at hp
  rcases hp with rfl | rfl | rfl | rfl
  · exact fun y => head_attn q k v hq hk hv 384 3 rfl (by decide) inb_S512x512_S512x128_0_384 y _ ((congrArg _ (eq_ix2 y)).trans (pay1_at q _ _ (y 0) (y 1)))
  · exact fun y => head_attn q k v hq hk hv 256 2 rfl (by decide) inb_S512x512_S512x128_0_256 y _ ((congrArg _ (eq_ix2 y)).trans (pay7_at q _ _ (y 0) (y 1)))
  · exact fun y => head_attn q k v hq hk hv 128 1 rfl (by decide) inb_S512x512_S512x128_0_128 y _ ((congrArg _ (eq_ix2 y)).trans (pay6_at q _ _ (y 0) (y 1)))
  · exact fun y => head_attn q k v hq hk hv 0 0 rfl (by decide) inb_S512x512_S512x128_0_0 y _ ((congrArg _ (eq_ix2 y)).trans (pay2_at q _ _ (y 0) (y 1)))

end

section

open Cert.Kernel6Ideal Cert.Kernel6Ideal.Gen Cert.Kernel6Ideal.Value

variable (m : (ℓ : Loc nD τ sig) → Buf (Elt Ideal) ℓ)

/-- The arrays the kernel is started on. -/
def qIn (c : Dev nD) : S16384x3584.Idx → EReal := m ((c.tc : Thread nD τ).loc main_arg0)
def kIn (c : Dev nD) : S256x512.Idx → EReal := m ((c.tc : Thread nD τ).loc main_arg1)
def vIn (c : Dev nD) : S256x512.Idx → EReal := m ((c.tc : Thread nD τ).loc main_arg2)

/-- A row of a point's block, as a row of the array. -/
def rowOf (t : Fin grid0.N) (r : Fin 512) : Fin 16384 := ⟨512 * t.val + r.val, by have h : t.val < 32 := t.isLt.trans_eq N_0; have := r.isLt; omega⟩

theorem place0 : ∀ t : Fin grid0.N, win0_0.index t 0 = t.val ∧ win0_0.index t 1 = 6 := by decide +kernel

theorem emb0 (t : Fin grid0.N) (j : S512x512.Idx) : (win0_0.rect t).emb j = ix2 (rowOf t (j 0)) ⟨3072 + (j 1).val, by have h : (j 1).val < 512 := (j 1).isLt; omega⟩ := by
  funext a
  match a with
  | ⟨0, _⟩ => exact Fin.ext ((win0_0.rect_emb_val t j 0).trans (by rw [(place0 t).1]; show t.val * 512 + (j 0).val = 512 * t.val + (j 0).val; omega))
  | ⟨1, _⟩ => exact Fin.ext ((win0_0.rect_emb_val t j 1).trans (by rw [(place0 t).2]; show 6 * 512 + (j 1).val = 3072 + (j 1).val; omega))

theorem whole1 (t : Fin cfg0.N) (j : S256x512.Idx) : ((cfg0.win 1).blk t).view.emb j = j := by
  funext a
  match a with
  | ⟨0, _⟩ => exact Fin.ext (by show 0 * 256 + 1 * (j 0).val = (j 0).val; omega)
  | ⟨1, _⟩ => exact Fin.ext (by show 0 * 512 + 1 * (j 1).val = (j 1).val; omega)

theorem whole2 (t : Fin cfg0.N) (j : S256x512.Idx) : ((cfg0.win 2).blk t).view.emb j = j := by
  funext a
  match a with
  | ⟨0, _⟩ => exact Fin.ext (by show 0 * 256 + 1 * (j 0).val = (j 0).val; omega)
  | ⟨1, _⟩ => exact Fin.ext (by show 0 * 512 + 1 * (j 1).val = (j 1).val; omega)

theorem place3 : ∀ t : Fin grid0.N, win0_3.index t 0 = t.val ∧ win0_3.index t 1 = 0 := by decide +kernel

theorem emb3 (t : Fin grid0.N) (j : S512x512.Idx) : (win0_3.rect t).emb j = ix2 (rowOf t (j 0)) (j 1) := by
  funext a
  match a with
  | ⟨0, _⟩ => exact Fin.ext ((win0_3.rect_emb_val t j 0).trans (by rw [(place3 t).1]; show t.val * 512 + (j 0).val = 512 * t.val + (j 0).val; omega))
  | ⟨1, _⟩ => exact Fin.ext ((win0_3.rect_emb_val t j 1).trans (by rw [(place3 t).2]; show 0 * 512 + (j 1).val = (j 1).val; omega))

theorem in0 (c : Dev nD) (t : Fin cfg0.N) (j : S512x512.Idx) : iblk m c 0 t j = qIn m c (ix2 (rowOf t (j 0)) ⟨3072 + (j 1).val, by have h : (j 1).val < 512 := (j 1).isLt; omega⟩) := by
  unfold iblk
  rw [show V m c (Pipeline.arrRef spec0 0) = _ from V_main_arg0 m c]
  exact congrArg (qIn m c) (emb0 t j)

theorem in1 (c : Dev nD) (t : Fin cfg0.N) : iblk m c 1 t = kIn m c := by
  unfold iblk
  rw [show V m c (Pipeline.arrRef spec0 1) = _ from V_main_arg1 m c]
  exact funext fun j => congrArg (kIn m c) (whole1 t j)

theorem in2 (c : Dev nD) (t : Fin cfg0.N) : iblk m c 2 t = vIn m c := by
  unfold iblk
  rw [show V m c (Pipeline.arrRef spec0 2) = _ from V_main_arg2 m c]
  exact funext fun j => congrArg (vIn m c) (whole2 t j)

/-- The result. -/
def yOut (c : Dev nD) : S16384x512.Idx → EReal := attn (qIn m c) (kIn m c) (vIn m c) 3072 (by decide)

variable (c : Dev nD) (hq : ∀ i, Real' (qIn m c i)) (hk : ∀ i, Real' (kIn m c i)) (hv : ∀ i, Real' (vIn m c i))

include hq hk hv in
theorem flush (t : Fin cfg0.N) (j : S512x512.Idx) : (dats m 0 c).flushed 3 t j = yOut m c ((win0_3.rect t).emb j) := by
  have hj : (j 1).val < 512 := (j 1).isLt
  rw [flushed3, in1, in2, block _ _ _ (fun i => by rw [in0]; exact hq _) hk hv, emb3]
  refine congrArg₂ soft (score_row rfl _ _ fun d => ?_) rfl
  refine (in0 m c t _).trans (congrArg (fun u => qIn m c (ix2 _ u)) (Fin.ext ?_))
  show 3072 + (0 + (j 1).val / 128 * 128 + d.val) = 3072 + (j 1).val / 128 * 128 + d.val
  omega

include hq hk hv in
theorem final : (dats m 0 c).arrAt 3 cfg0.N = yOut m c := by
  refine (dats m 0 c).arrAt_eq_of_cover 3 (yOut m c) (fun t _ => funext fun j => flush m c hq hk hv t j) (fun i => ?_)
  have h0 : (i 0).val < 16384 := (i 0).isLt
  have hN : grid0.N = 32 := N_0
  have ht : (i 0).val / 512 < grid0.N := by omega
  refine ⟨⟨(i 0).val / 512, ht⟩, flush0_3 _, Finset.mem_map.mpr ⟨ix2 ⟨(i 0).val % 512, Nat.mod_lt _ (by decide)⟩ (i 1), Finset.mem_univ _, ?_⟩⟩
  refine (emb3 _ _).trans ((congrArg (fun r => ix2 r (i 1)) (Fin.ext ?_)).trans (eq_ix2 i).symm)
  show 512 * ((i 0).val / 512) + (i 0).val % 512 = (i 0).val
  omega

end

/-- The scale's printed word is the named number's own rounding. -/
theorem named_scale : Cert.preserves_Kernel6_Kernel6Ideal :=
  IdealRules.named_const.statement Cert.Kernel6Ideal.κ "s" .f32 0x3DB504F3#32 (((Real.sqrt 128)⁻¹ : ℝ) : EReal) rfl

theorem algebraic : Cert.algebraic_Kernel6Ideal_Reference6Ideal_pre_finite6 := by
  intro m g m' g' hpre hagree
  have hf := fun c => finite (qIn m c) (kIn m c) (vIn m c) (hpre c)
  refine ⟨fun c => yOut m c, ?_, ?_⟩
  · exact (θ_run Cert.Kernel6Ideal.defs _ _).mono (fun _ h c => ⟨(h c).1.trans (final m c (hf c).1 (hf c).2.1 (hf c).2.2), (h c).2⟩)
      (Cert.Kernel6Ideal.Value.run_blocks (F := Ideal) m g)
  · refine (θ_run Cert.Reference6Ideal.defs _ _).mono (fun _ h c => ⟨(h c).1.trans ?_, (h c).2⟩) (Cert.Reference6Ideal.Value.run (F := Ideal) m' g')
    rw [(hagree c).1, (hagree c).2.1, (hagree c).2.2]
    exact rOut_eq (qIn m c) (kIn m c) (vIn m c) (hf c).1 (hf c).2.1 (hf c).2.2

end Cert.Cross

end
-- ==== Proof.Att.BandSpec.lean ====
/-
  The attention of a row to the keys of its own chunk and of the eight chunks before it: what is computed.
-/
module

public import proofs.«01_k».proof.Proof.Att.Fin

@[expose] public section

noncomputable section

namespace Cert.Band

open Idealize.ShloMosaic Idealize.ShloMosaic.TcCoe
open Cert.Att

/-- Key `b` is in the band of row `a`. -/
def near (a b : ℕ) : Prop := a / 64 ≤ b / 64 + 8 ∧ b / 64 ≤ a / 64

instance (a b : ℕ) : Decidable (near a b) := inferInstanceAs (Decidable (_ ∧ _))

/-- The column of the table for row `a` and key `b`. -/
def off (a b : ℕ) : Fin 257 := ⟨min (a + 128 - b) 256, by omega⟩

variable (Q : (⟨2, ![16384, 3584]⟩ : Shape).Idx → EReal) (T : (⟨2, ![8, 257]⟩ : Shape).Idx → EReal)

/-- The product of row `a` and key `b` over one head's columns. -/
def prod (h : Fin 8) (a b : Fin 16384) : EReal := ∑ d : Fin 64, Q (ix2 a ⟨1536 + (h.val * 64 + d.val), by omega⟩) * Q (ix2 b ⟨2048 + (h.val * 64 + d.val), by omega⟩)

/-- The score of row `a` against key `b`. -/
def sc (h : Fin 8) (a b : Fin 16384) : EReal := if near a.val b.val then prod Q h a b + T (ix2 h (off a.val b.val)) else ⊥

/-- The averages of the values. -/
def band : (⟨2, ![16384, 512]⟩ : Shape).Idx → EReal := fun i =>
  have hi : (i 1).val < 512 := (i 1).isLt
  soft (sc Q T ⟨(i 1).val / 64, by omega⟩ (i 0)) (fun b => Q (ix2 b ⟨2560 + (i 1).val, by omega⟩))

section

variable {ι κ : Type} [Fintype ι] [Fintype κ] (s : ι → EReal) (s' : κ → EReal) (f : ι → κ)

theorem wt_ne {x : EReal} (h : wt x ≠ 0) : x ≠ ⊥ := fun e => h (by rw [e]; exact if_pos rfl)

variable (hs : ∀ i, s i ≠ ⊥ → s' (f i) = s i) (hi : ∀ i j, s i ≠ ⊥ → s j ≠ ⊥ → f i = f j → i = j) (hf : ∀ k, s' k ≠ ⊥ → ∃ i, s i ≠ ⊥ ∧ f i = k)

include hs hi hf in
/-- A weighted sum, over other names for the keys that count. -/
theorem sum_move (u : ι → ℝ) (u' : κ → ℝ) (hu : ∀ i, s i ≠ ⊥ → u' (f i) = u i) : ∑ i, wt (s i) * u i = ∑ k, wt (s' k) * u' k := by
  refine Finset.sum_bij_ne_zero (fun i _ _ => f i) (fun _ _ _ => Finset.mem_univ _)
    (fun i _ h j _ h' => hi i j (wt_ne (left_ne_zero_of_mul h)) (wt_ne (left_ne_zero_of_mul h'))) (fun k _ h => ?_)
    (fun i _ h => by rw [hs i (wt_ne (left_ne_zero_of_mul h)), hu i (wt_ne (left_ne_zero_of_mul h))])
  obtain ⟨i, h1, h2⟩ := hf k (wt_ne (left_ne_zero_of_mul h))
  refine ⟨i, Finset.mem_univ _, ?_, h2⟩
  subst h2
  rw [← hu i h1, ← hs i h1]
  exact h

include hs hi hf in
theorem soft_move (v : ι → EReal) (v' : κ → EReal) (hv : ∀ i, s i ≠ ⊥ → v' (f i) = v i) : soft s v = soft s' v' := by
  unfold soft
  have h1 := sum_move s s' f hs hi hf (fun i => (v i).toReal) (fun k => (v' k).toReal) (fun i h => by rw [hv i h])
  have h2 := sum_move s s' f hs hi hf (fun _ => 1) (fun _ => 1) (fun _ _ => rfl)
  simp only [mul_one] at h2
  rw [h1, h2]

end

end Cert.Band

end
-- ==== Proof.Att.BandWord.lean ====
/-
  The column of an offset, in words.
-/
module

public import proofs.«01_k».proof.Proof.Att.BandSpec

@[expose] public section

noncomputable section

namespace Cert.Band

open Idealize.ShloMosaic Idealize.ShloMosaic.TcCoe

/-- An offset kept within 128, counted from the table's first column. -/
def keptWord (z : BitVec 32) : BitVec 32 := IntOp.addi (IntOp.minsi 128#32 (IntOp.maxsi 4294967168#32 z)) 128#32
def columnWord (z : BitVec 32) : BitVec 32 := Scalar.select (IntOp.cmpi .slt (keptWord z) 0#32) (IntOp.addi (keptWord z) 257#32) (keptWord z)

theorem column_word : ∀ z : Fin 32768, columnWord (IntOp.subi (BitVec.ofNat 32 z.val) 16384#32) = BitVec.ofNat 32 (min (z.val + 128 - 16384) 256) := by decide +kernel

theorem chunk_words : ∀ a b : Fin 256, IntOp.andi (IntOp.cmpi .sge (BitVec.ofNat 32 b.val) (IntOp.subi (BitVec.ofNat 32 a.val) 8#32)) (IntOp.cmpi .sle (BitVec.ofNat 32 b.val) (BitVec.ofNat 32 a.val))
    = if a.val ≤ b.val + 8 ∧ b.val ≤ a.val then 1#1 else 0#1 := by decide +kernel

theorem chunk_near (a b : ℕ) (ha : a < 256) (hb : b < 256) : IntOp.andi (IntOp.cmpi .sge (BitVec.ofNat 32 b) (IntOp.subi (BitVec.ofNat 32 a) 8#32)) (IntOp.cmpi .sle (BitVec.ofNat 32 b) (BitVec.ofNat 32 a))
    = if a ≤ b + 8 ∧ b ≤ a then 1#1 else 0#1 := chunk_words ⟨a, ha⟩ ⟨b, hb⟩

end Cert.Band

end
-- ==== Proof.Att.BandGather.lean ====
/-
  A table read at a column chosen by a word.
-/
module

public import proofs.«01_k».proof.Proof.Att.BandWord

@[expose] public section

noncomputable section

namespace Cert.Band

open Idealize.ShloMosaic Idealize.ShloMosaic.TcCoe

variable {α : Type} {N W R C : ℕ}

/-- The columns that a vector of words chooses. -/
abbrev takeCols (wf : GatherDims.WF ⟨2, ![N, W]⟩ ⟨2, ![C, 1]⟩ ⟨2, ![N, C]⟩ [0] [1] [] [1] [] 1 ![N, 1]) : GatherDims ⟨2, ![N, W]⟩ ⟨2, ![C, 1]⟩ ⟨2, ![N, C]⟩ where
  offsetDims := [0]
  collapsedSliceDims := [1]
  operandBatchingDims := []
  startIndicesBatchingDims := []
  startIndexMap := [1]
  indexVectorDim := 1
  sliceSizes := ![N, 1]
  wf := wf

/-- The columns that a rectangle of words chooses. -/
abbrev takeRect (wf : GatherDims.WF ⟨2, ![N, W]⟩ ⟨3, ![R, C, 1]⟩ ⟨3, ![N, R, C]⟩ [0] [1] [] [1] [] 2 ![N, 1]) : GatherDims ⟨2, ![N, W]⟩ ⟨3, ![R, C, 1]⟩ ⟨3, ![N, R, C]⟩ where
  offsetDims := [0]
  collapsedSliceDims := [1]
  operandBatchingDims := []
  startIndicesBatchingDims := []
  startIndexMap := [1]
  indexVectorDim := 2
  sliceSizes := ![N, 1]
  wf := wf

theorem toInt_word (k : Fin W) (hW : W < 2 ^ 31) : min (BitVec.ofNat 32 k.val).toInt.toNat (W - 1) = k.val := by
  have hk := k.isLt
  rw [BitVec.toInt_eq_toNat_of_lt (by rw [BitVec.toNat_ofNat]; omega), BitVec.toNat_ofNat]
  omega

theorem takeCols_at (wf) (x : (⟨2, ![N, W]⟩ : Shape).Idx → α) (idx : IVec ⟨2, ![C, 1]⟩ 32) (h : Fin N) (c : Fin C) (k : Fin W) (hk : idx (ix2 c 0) = BitVec.ofNat 32 k.val) (hW : W < 2 ^ 31) :
    Host.gather (takeCols (N := N) (W := W) (C := C) wf) x idx (ix2 h c) = x (ix2 h k) := by
  unfold Host.gather
  refine congrArg x (funext fun a => Fin.ext ?_)
  show (takeCols wf).start (ix2 h c) idx a + (takeCols wf).batchCoord (ix2 h c) a + (takeCols wf).offCoord (ix2 h c) a = _
  have hn : a ∉ (takeCols wf).operandBatchingDims := List.not_mem_nil
  rw [GatherDims.batchCoord_eq_zero _ _ _ hn]
  have h01 : a = 0 ∨ a = 1 := by
    match a with
    | ⟨0, _⟩ => exact Or.inl rfl
    | ⟨1, _⟩ => exact Or.inr rfl
  rcases h01 with rfl | rfl
  · have h1 : (0 : Fin 2) ∉ [(1 : Fin 2)] := by decide
    have hk' : (0 : Fin 2) ∈ (takeCols wf).sKept := (GatherDims.mem_sKept _ _).2 ⟨h1, hn⟩
    unfold GatherDims.start GatherDims.offCoord
    rw [dif_neg (show (0 : Fin 2) ∉ (takeCols wf).startIndexMap from h1), dif_pos hk', Nat.zero_add]
    rfl
  · rw [GatherDims.offCoord_eq_zero _ _ _ (fun e => ((GatherDims.mem_sKept _ _).mp e).1 (List.mem_singleton.mpr rfl))]
    unfold GatherDims.start
    rw [dif_pos (show (1 : Fin 2) ∈ (takeCols wf).startIndexMap from List.mem_singleton.mpr rfl)]
    have hs : (takeCols (N := N) (W := W) (C := C) wf).siIdx (ix2 h c) ⟨List.idxOf (1 : Fin 2) (takeCols (N := N) (W := W) (C := C) wf).startIndexMap, List.idxOf_lt_length_iff.2 (List.mem_singleton.mpr rfl)⟩ = ix2 c 0 := by
      funext b
      match b with
      | ⟨0, _⟩ => rfl
      | ⟨1, _⟩ => rfl
    rw [hs, hk]
    exact toInt_word k hW

theorem takeRect_at (wf) (x : (⟨2, ![N, W]⟩ : Shape).Idx → α) (idx : IVec ⟨3, ![R, C, 1]⟩ 32) (h : Fin N) (r : Fin R) (c : Fin C) (k : Fin W) (hk : idx (ix3 r c 0) = BitVec.ofNat 32 k.val) (hW : W < 2 ^ 31) :
    Host.gather (takeRect (N := N) (W := W) (R := R) (C := C) wf) x idx (ix3 h r c) = x (ix2 h k) := by
  unfold Host.gather
  refine congrArg x (funext fun a => Fin.ext ?_)
  show (takeRect wf).start (ix3 h r c) idx a + (takeRect wf).batchCoord (ix3 h r c) a + (takeRect wf).offCoord (ix3 h r c) a = _
  have hn : a ∉ (takeRect wf).operandBatchingDims := List.not_mem_nil
  rw [GatherDims.batchCoord_eq_zero _ _ _ hn]
  have h01 : a = 0 ∨ a = 1 := by
    match a with
    | ⟨0, _⟩ => exact Or.inl rfl
    | ⟨1, _⟩ => exact Or.inr rfl
  rcases h01 with rfl | rfl
  · have h1 : (0 : Fin 2) ∉ [(1 : Fin 2)] := by decide
    have hk' : (0 : Fin 2) ∈ (takeRect wf).sKept := (GatherDims.mem_sKept _ _).2 ⟨h1, hn⟩
    unfold GatherDims.start GatherDims.offCoord
    rw [dif_neg (show (0 : Fin 2) ∉ (takeRect wf).startIndexMap from h1), dif_pos hk', Nat.zero_add]
    rfl
  · rw [GatherDims.offCoord_eq_zero _ _ _ (fun e => ((GatherDims.mem_sKept _ _).mp e).1 (List.mem_singleton.mpr rfl))]
    unfold GatherDims.start
    rw [dif_pos (show (1 : Fin 2) ∈ (takeRect wf).startIndexMap from List.mem_singleton.mpr rfl)]
    have hs : (takeRect (N := N) (W := W) (R := R) (C := C) wf).siIdx (ix3 h r c) ⟨List.idxOf (1 : Fin 2) (takeRect (N := N) (W := W) (R := R) (C := C) wf).startIndexMap, List.idxOf_lt_length_iff.2 (List.mem_singleton.mpr rfl)⟩ = ix3 r c 0 := by
      funext b
      match b with
      | ⟨0, _⟩ => rfl
      | ⟨1, _⟩ => rfl
      | ⟨2, _⟩ => rfl
    rw [hs, hk]
    exact toInt_word k hW

/-- The column for row `a` and key `b`. -/
theorem column_off (a b : ℕ) (ha : a < 16384) (hb : b < 16384) : columnWord (IntOp.subi (BitVec.ofNat 32 a) (BitVec.ofNat 32 b)) = BitVec.ofNat 32 (off a b).val := by
  have e : IntOp.subi (BitVec.ofNat 32 a) (BitVec.ofNat 32 b) = IntOp.subi (BitVec.ofNat 32 (a + 16384 - b)) 16384#32 := by
    show BitVec.ofNat 32 a - BitVec.ofNat 32 b = BitVec.ofNat 32 (a + 16384 - b) - BitVec.ofNat 32 16384
    apply BitVec.eq_of_toNat_eq
    simp only [BitVec.toNat_sub, BitVec.toNat_ofNat]
    omega
  rw [e, column_word ⟨a + 16384 - b, by omega⟩]
  refine congrArg (BitVec.ofNat 32) ?_
  show min (a + 16384 - b + 128 - 16384) 256 = min (a + 128 - b) 256
  omega

end Cert.Band

end
-- ==== Proof.Att.BandPair.lean ====
/-
  The attention to the band: one pair of heads of one block of rows, in the order in which the kernel computes it.
-/
module

public import proofs.«01_k».proof.Defs
public import proofs.«01_k».proof.Proof.Gen.Kernel7Ideal.Value
public import proofs.«01_k».proof.Proof.Gen.Reference7Ideal.Run
public import proofs.«01_k».proof.Proof.Att.Fin

@[expose] public section

noncomputable section

namespace Cert.Band

open Idealize.ShloMosaic Idealize.ShloMosaic.TcCoe
open Cert.Att

section

open Cert.Kernel7Ideal Cert.Kernel7Ideal.Gen

/-- The columns of one head, the others at zero. -/
def pick (b : IVec S256x128 1) (q : FVec Ideal S256x128 .bf16) : FVec Ideal S256x128 .bf16 := select b q (broadcast S256x128 (Scalar.ofBits (F := Ideal) .bf16 0x0000#16))

/-- The scores of a block of keys. -/
def raw (q k : FVec Ideal S256x128 .bf16) (b : FVec Ideal S1x256x256 .f32) : FVec Ideal S256x256 .f32 :=
  addf (matmul dot_S256x128_S256x128_S256x256_1_1_0_0_n_n none q k (constant S256x256 .f32 0x00000000#32)) (shapeCast S256x256 b shapeCasts_S1x256x256_S256x256)

/-- The scores of a block that may lie before the first key. -/
def msk (x : BitVec 1) (s : FVec Ideal S256x256 .f32) : FVec Ideal S256x256 .f32 := Scalar.select x s (broadcast S256x256 (Named.named (F := Ideal) κ "mask" 0xF149F2CA#32))

/-- The largest score of each row. -/
def top (s0 s1 s2 : FVec Ideal S256x256 .f32) : FVec Ideal S256x1 .f32 :=
  shapeCast S256x1 (multiReduction .maximumf [1] S256 (maximumf (maximumf s0 s1) s2) 0xFF800000#32 reduces_S256x256_S256 (.inl rfl) rfl) shapeCasts_S256_S256x1

/-- The exponentials of the scores less their row's largest. -/
def ex (s : FVec Ideal S256x256 .f32) (M : FVec Ideal S256x1 .f32) : FVec Ideal S256x256 .f32 := exp (subf s (broadcastTo S256x256 M broadcasts_S256x1_S256x256))

/-- The values' average. -/
def avg (e0 e1 e2 : FVec Ideal S256x256 .f32) (v0 v1 v2 : FVec Ideal S256x128 .bf16) : FVec Ideal S256x128 .f32 :=
  divf (addf (addf (matmul dot_S256x256_S256x128_S256x128_1_0_0_1_n_n none (truncf .bf16 e0 bitsLt_bf16_f32) v0 (constant S256x128 .f32 0x00000000#32))
      (matmul dot_S256x256_S256x128_S256x128_1_0_0_1_n_n none (truncf .bf16 e1 bitsLt_bf16_f32) v1 (constant S256x128 .f32 0x00000000#32)))
      (matmul dot_S256x256_S256x128_S256x128_1_0_0_1_n_n none (truncf .bf16 e2 bitsLt_bf16_f32) v2 (constant S256x128 .f32 0x00000000#32)))
    (broadcastTo S256x128 (shapeCast S256x1 (multiReduction .add [1] S256 (addf (addf e0 e1) e2) 0x00000000#32 reduces_S256x256_S256 (.inl rfl) rfl) shapeCasts_S256_S256x1) broadcasts_S256x1_S256x128)

def over (s0 s1 s2 : FVec Ideal S256x256 .f32) (v0 v1 v2 : FVec Ideal S256x128 .bf16) : FVec Ideal S256x128 .f32 :=
  avg (ex s0 (top s0 s1 s2)) (ex s1 (top s0 s1 s2)) (ex s2 (top s0 s1 s2)) v0 v1 v2

/-- One head. -/
def half (a : BitVec 32) (side : IVec S256x128 1) (q k0 k1 k2 v0 v1 v2 : FVec Ideal S256x128 .bf16) (b0 b1 b2 : FVec Ideal S1x256x256 .f32) : FVec Ideal S256x128 .f32 :=
  over (msk (Scalar.cmpi .sge a 2#32) (raw (pick side q) k0 b0)) (msk (Scalar.cmpi .sge a 1#32) (raw (pick side q) k1 b1)) (raw (pick side q) k2 b2) v0 v1 v2

/-- The pair. -/
def pair (a : BitVec 32) (q k0 k1 k2 v0 v1 v2 : FVec Ideal S256x128 .bf16) (b0 b1 b2 c0 c1 c2 : FVec Ideal S1x256x256 .f32) : FVec Ideal S256x128 .bf16 :=
  truncf .bf16 (select k0_pay2 (half a k0_pay2 q k0 k1 k2 v0 v1 v2 b0 b1 b2) (half a (xori k0_pay2 (constantI S256x128 1 1#1)) q k0 k1 k2 v0 v1 v2 c0 c1 c2)) bitsLt_bf16_f32

variable (i : grid0.Coords) (x0 x1 x2 x3 x4 x5 x6 : Vec Ideal S256x512 .bf16) (x7 : Vec Ideal S8x256x768 .f32)

theorem out_pairs : out0_8 i x0 x1 x2 x3 x4 x5 x6 x7 = View.canon
    [⟨r0_21, pair (BitVec.ofNat 32 (i 0).val) (View.ld x0 r0_21) (View.ld x1 r0_21) (View.ld x2 r0_21) (View.ld x3 r0_21) (View.ld x4 r0_21) (View.ld x5 r0_21) (View.ld x6 r0_21)
        (View.ld x7 r0_22) (View.ld x7 r0_23) (View.ld x7 r0_24) (View.ld x7 r0_25) (View.ld x7 r0_26) (View.ld x7 r0_27)⟩,
      ⟨r0_14, pair (BitVec.ofNat 32 (i 0).val) (View.ld x0 r0_14) (View.ld x1 r0_14) (View.ld x2 r0_14) (View.ld x3 r0_14) (View.ld x4 r0_14) (View.ld x5 r0_14) (View.ld x6 r0_14)
        (View.ld x7 r0_15) (View.ld x7 r0_16) (View.ld x7 r0_17) (View.ld x7 r0_18) (View.ld x7 r0_19) (View.ld x7 r0_20)⟩,
      ⟨r0_7, pair (BitVec.ofNat 32 (i 0).val) (View.ld x0 r0_7) (View.ld x1 r0_7) (View.ld x2 r0_7) (View.ld x3 r0_7) (View.ld x4 r0_7) (View.ld x5 r0_7) (View.ld x6 r0_7)
        (View.ld x7 r0_8) (View.ld x7 r0_9) (View.ld x7 r0_10) (View.ld x7 r0_11) (View.ld x7 r0_12) (View.ld x7 r0_13)⟩,
      ⟨r0_0, pair (BitVec.ofNat 32 (i 0).val) (View.ld x0 r0_0) (View.ld x1 r0_0) (View.ld x2 r0_0) (View.ld x3 r0_0) (View.ld x4 r0_0) (View.ld x5 r0_0) (View.ld x6 r0_0)
        (View.ld x7 r0_1) (View.ld x7 r0_2) (View.ld x7 r0_3) (View.ld x7 r0_4) (View.ld x7 r0_5) (View.ld x7 r0_6)⟩] := by
  unfold_out out0_8
  refine congrArg View.canon (congrArg₂ List.cons ?_ (congrArg₂ List.cons ?_ (congrArg₂ List.cons ?_ (congrArg₂ List.cons ?_ rfl))))
  · rfl
  · rfl
  · rfl
  · rfl

end

end Cert.Band

end
-- ==== Proof.Att.BandHead.lean ====
/-
  The attention to the band: one head of one block of rows is a weighted average.
-/
module

public import proofs.«01_k».proof.Proof.Att.BandPair
public import proofs.«01_k».proof.Proof.Att.BandSpec

@[expose] public section

noncomputable section

namespace Cert.Band

open Idealize.ShloMosaic Idealize.ShloMosaic.TcCoe
open Cert.Att
open Cert.Cross (Real' fold_real)

section

open Cert.Kernel7Ideal Cert.Kernel7Ideal.Gen

theorem named_mask : (Named.named κ "mask" 0xF149F2CA#32 : Ideal .f32) = (⊥ : EReal) := rfl

theorem lane : ∀ c : Fin 128, IntOp.cmpi .slt (BitVec.ofNat 32 c.val) 64#32 = if c.val < 64 then 1#1 else 0#1 := by decide +kernel

theorem lane_at (r : Fin 256) (c : Fin 128) : k0_pay2 (ix2 r c) = if c.val < 64 then 1#1 else 0#1 := by
  rw [← lane c]
  unfold k0_pay2
  pointwise
  done

theorem other_at (r : Fin 256) (c : Fin 128) : xori k0_pay2 (constantI S256x128 1 1#1) (ix2 r c) = if c.val < 64 then 0#1 else 1#1 := by
  show IntOp.xori (k0_pay2 (ix2 r c)) 1#1 = _
  rw [lane_at]
  split <;> rfl

theorem pick_at (b : IVec S256x128 1) (q : FVec Ideal S256x128 .bf16) (r : Fin 256) (c : Fin 128) : pick b q (ix2 r c) = if b (ix2 r c) = 1#1 then q (ix2 r c) else 0 := by
  unfold pick
  pointwise
  rfl

theorem raw_at (q k : FVec Ideal S256x128 .bf16) (b : FVec Ideal S1x256x256 .f32) (r x : Fin 256) : raw q k b (ix2 r x) = (∑ d, q (ix2 r d) * k (ix2 x d)) + b (ix3 0 r x) := by
  unfold raw
  pointwise
  done

theorem msk_at (y : BitVec 1) (s : FVec Ideal S256x256 .f32) (r x : Fin 256) : msk y s (ix2 r x) = if y = 1#1 then s (ix2 r x) else ⊥ := by
  unfold msk
  pointwise [named_mask]
  rfl

/-- The largest of a row's scores. -/
def most (s0 s1 s2 : Fin 256 → EReal) : EReal := Finset.fold max (Ideal.ofBits FTy.f32 0xFF800000#32) (fun x => max (max (s0 x) (s1 x)) (s2 x)) Finset.univ

theorem top_at (s0 s1 s2 : FVec Ideal S256x256 .f32) (r : Fin 256) : top s0 s1 s2 (ix2 r 0) = most (fun x => s0 (ix2 r x)) (fun x => s1 (ix2 r x)) (fun x => s2 (ix2 r x)) := by
  unfold top
  pointwise
  rfl

theorem ex_at (s : FVec Ideal S256x256 .f32) (M : FVec Ideal S256x1 .f32) (r x : Fin 256) : ex s M (ix2 r x) = Ideal.exp (s (ix2 r x) - M (ix2 r 0)) := by
  unfold ex
  pointwise
  done

theorem avg_at (e0 e1 e2 : FVec Ideal S256x256 .f32) (v0 v1 v2 : FVec Ideal S256x128 .bf16) (r : Fin 256) (c : Fin 128) : avg e0 e1 e2 v0 v1 v2 (ix2 r c)
    = Ideal.div ((∑ x, e0 (ix2 r x) * v0 (ix2 x c)) + (∑ x, e1 (ix2 r x) * v1 (ix2 x c)) + ∑ x, e2 (ix2 r x) * v2 (ix2 x c)) (∑ x, (e0 (ix2 r x) + e1 (ix2 r x) + e2 (ix2 r x))) := by
  unfold avg
  pointwise
  done

end

variable (s : Fin 3 → Fin 256 → EReal) (v : Fin 3 → Fin 256 → EReal)

/-- The average over three blocks of keys. -/
theorem blocks_soft (ht : ∀ n x, s n x ≠ ⊤) (hb : ∃ x, s 2 x ≠ ⊥) (hv : ∀ n x, Real' (v n x)) (M : EReal) (hM : M = most (s 0) (s 1) (s 2)) :
    Ideal.div ((∑ x, Ideal.exp (s 0 x - M) * v 0 x) + (∑ x, Ideal.exp (s 1 x - M) * v 1 x) + ∑ x, Ideal.exp (s 2 x - M) * v 2 x)
        (∑ x, (Ideal.exp (s 0 x - M) + Ideal.exp (s 1 x - M) + Ideal.exp (s 2 x - M)))
      = soft (fun n : Fin 3 × Fin 256 => s n.1 n.2) (fun n => v n.1 n.2) := by
  obtain ⟨x, hx⟩ := hb
  obtain ⟨R, hR⟩ := fold_real (fun x => max (max (s 0 x) (s 1 x)) (s 2 x)) (fun x => (max_lt (max_lt (lt_top_iff_ne_top.mpr (ht 0 x)) (lt_top_iff_ne_top.mpr (ht 1 x))) (lt_top_iff_ne_top.mpr (ht 2 x))).ne)
    ⟨x, (lt_max_of_lt_right (bot_lt_iff_ne_bot.mpr hx)).ne'⟩
  have e := hM.trans hR
  subst e
  rw [← soft_of_sum (fun n : Fin 3 × Fin 256 => s n.1 n.2) (fun n => v n.1 n.2) R (fun n => ht _ _) (fun n => hv _ _) ⟨(2, x), hx⟩]
  simp only [Fintype.sum_prod_type, Fin.sum_univ_three, Finset.sum_add_distrib]

section

open Cert.Kernel7Ideal Cert.Kernel7Ideal.Gen

theorem over_soft (s0 s1 s2 : FVec Ideal S256x256 .f32) (v0 v1 v2 : FVec Ideal S256x128 .bf16) (r : Fin 256) (c : Fin 128)
    (h0 : ∀ x, s0 (ix2 r x) = s 0 x) (h1 : ∀ x, s1 (ix2 r x) = s 1 x) (h2 : ∀ x, s2 (ix2 r x) = s 2 x)
    (w0 : ∀ x, v0 (ix2 x c) = v 0 x) (w1 : ∀ x, v1 (ix2 x c) = v 1 x) (w2 : ∀ x, v2 (ix2 x c) = v 2 x)
    (ht : ∀ n x, s n x ≠ ⊤) (hb : ∃ x, s 2 x ≠ ⊥) (hv : ∀ n x, Real' (v n x)) :
    over s0 s1 s2 v0 v1 v2 (ix2 r c) = soft (fun n : Fin 3 × Fin 256 => s n.1 n.2) (fun n => v n.1 n.2) := by
  unfold over
  refine (avg_at _ _ _ _ _ _ r c).trans ?_
  simp only [ex_at, top_at, h0, h1, h2, w0, w1, w2]
  exact blocks_soft s v ht hb hv _ rfl

/-- The score of a row of a block of rows against key `x` of the block of keys `n`, over the 64 columns of one side. -/
def kscore (t : ℕ) (e : Fin 2) (q : (⟨2, ![256, 128]⟩ : Shape).Idx → EReal) (k : Fin 3 → (⟨2, ![256, 128]⟩ : Shape).Idx → EReal)
    (b : Fin 3 → (⟨3, ![1, 256, 256]⟩ : Shape).Idx → EReal) (r : Fin 256) (n : Fin 3) (x : Fin 256) : EReal :=
  if 2 ≤ t + n.val then (∑ d : Fin 64, q (ix2 r ⟨e.val * 64 + d.val, by omega⟩) * k n (ix2 x ⟨e.val * 64 + d.val, by omega⟩)) + b n (ix3 0 r x) else ⊥

/-- The columns of the other side add nothing. -/
theorem side_sum (e : Fin 2) (f g : Fin 128 → EReal) : ∑ d : Fin 128, (if d.val / 64 = e.val then f d else 0) * g d = ∑ d : Fin 64, f ⟨e.val * 64 + d.val, by omega⟩ * g ⟨e.val * 64 + d.val, by omega⟩ := by
  refine (Fin.sum_univ_add (a := 64) (b := 64) (fun d => (if d.val / 64 = e.val then f d else 0) * g d)).trans ?_
  have l : ∀ d : Fin 64, (Fin.castAdd 64 d).val / 64 = 0 := fun d => by show d.val / 64 = 0; omega
  have u : ∀ d : Fin 64, (Fin.natAdd 64 d).val / 64 = 1 := fun d => by show (64 + d.val) / 64 = 1; omega
  simp only [l, u]
  match e with
  | ⟨0, _⟩ =>
    simp only [if_pos, one_ne_zero, if_false, zero_mul, Finset.sum_const_zero, add_zero]
    refine Finset.sum_congr rfl fun d _ => ?_
    have e : Fin.castAdd 64 d = ⟨0 * 64 + d.val, by omega⟩ := Fin.ext (by show d.val = 0 * 64 + d.val; omega)
    exact congrArg (fun i => f i * g i) e
  | ⟨1, _⟩ =>
    simp only [if_pos, zero_ne_one, if_false, zero_mul, Finset.sum_const_zero, zero_add]
    refine Finset.sum_congr rfl fun d _ => ?_
    have e : Fin.natAdd 64 d = ⟨1 * 64 + d.val, by omega⟩ := Fin.ext (by show 64 + d.val = 1 * 64 + d.val; omega)
    exact congrArg (fun i => f i * g i) e

theorem raw_side (side : IVec S256x128 1) (e : Fin 2) (hside : ∀ r c, side (ix2 r c) = 1#1 ↔ c.val / 64 = e.val) (q k : FVec Ideal S256x128 .bf16) (b : FVec Ideal S1x256x256 .f32) (r x : Fin 256) :
    raw (pick side q) k b (ix2 r x) = (∑ d : Fin 64, q (ix2 r ⟨e.val * 64 + d.val, by omega⟩) * k (ix2 x ⟨e.val * 64 + d.val, by omega⟩)) + b (ix3 0 r x) := by
  refine (raw_at _ _ _ r x).trans (congrArg (· + _) ?_)
  simp only [pick_at, hside]
  exact side_sum e (fun d => q (ix2 r d)) (fun d => k (ix2 x d))

theorem from2 : ∀ t : Fin 64, (Scalar.cmpi .sge (BitVec.ofNat 32 t.val) 2#32 = 1#1) ↔ 2 ≤ t.val + 0 := by decide +kernel
theorem from1 : ∀ t : Fin 64, (Scalar.cmpi .sge (BitVec.ofNat 32 t.val) 1#32 = 1#1) ↔ 2 ≤ t.val + 1 := by decide +kernel

variable (t : Fin 64) (q : FVec Ideal S256x128 .bf16) (k w : Fin 3 → FVec Ideal S256x128 .bf16) (b : Fin 3 → FVec Ideal S1x256x256 .f32)

/-- A sum of products of real numbers is one. -/
theorem real_sum {n : ℕ} (f g : Fin n → EReal) (hf : ∀ d, Real' (f d)) (hg : ∀ d, Real' (g d)) : Real' (∑ d, f d * g d) := by
  have e : ∑ d, f d * g d = ((∑ d, (f d).toReal * (g d).toReal : ℝ) : EReal) := by
    rw [← sum_coe]
    refine Finset.sum_congr rfl fun d _ => ?_
    rw [EReal.coe_mul, EReal.coe_toReal (hf d).1 (hf d).2, EReal.coe_toReal (hg d).1 (hg d).2]
  rw [e]
  exact ⟨EReal.coe_ne_top _, EReal.coe_ne_bot _⟩

theorem half_soft (side : IVec S256x128 1) (e : Fin 2) (hside : ∀ r c, side (ix2 r c) = 1#1 ↔ c.val / 64 = e.val) (r : Fin 256) (c : Fin 128)
    (hq : ∀ i, Real' (q i)) (hk : ∀ n i, Real' (k n i)) (hw : ∀ n i, Real' (w n i)) (hb : ∀ n i, b n i ≠ ⊤) (hd : ∃ x, b 2 (ix3 0 r x) ≠ ⊥) :
    half (BitVec.ofNat 32 t.val) side q (k 0) (k 1) (k 2) (w 0) (w 1) (w 2) (b 0) (b 1) (b 2) (ix2 r c)
      = soft (fun n : Fin 3 × Fin 256 => kscore t.val e q k b r n.1 n.2) (fun n => w n.1 (ix2 n.2 c)) := by
  have hs : ∀ n x, Real' (∑ d : Fin 64, q (ix2 r ⟨e.val * 64 + d.val, by omega⟩) * k n (ix2 x ⟨e.val * 64 + d.val, by omega⟩)) := fun n x => real_sum _ _ (fun _ => hq _) (fun _ => hk _ _)
  unfold half
  refine over_soft (fun n x => kscore t.val e q k b r n x) (fun n x => w n (ix2 x c)) _ _ _ _ _ _ r c (fun x => ?_) (fun x => ?_) (fun x => ?_) (fun _ => rfl) (fun _ => rfl) (fun _ => rfl) (fun n x => ?_) ?_ (fun n x => hw _ _)
  · exact (msk_at _ _ r x).trans (if_congr (from2 t) (raw_side side e hside _ _ _ r x) rfl)
  · exact (msk_at _ _ r x).trans (if_congr (from1 t) (raw_side side e hside _ _ _ r x) rfl)
  · exact (raw_side side e hside _ _ _ r x).trans (if_pos (Nat.le_add_left 2 t.val)).symm
  · unfold kscore
    split
    · exact EReal.add_ne_top (hs n x).1 (hb _ _)
    · exact bot_ne_top
  · obtain ⟨x, hx⟩ := hd
    refine ⟨x, ?_⟩
    have e : kscore t.val e q k b r 2 x = _ := if_pos (Nat.le_add_left 2 t.val)
    refine ne_of_eq_of_ne e ?_
    exact EReal.add_ne_bot_iff.mpr ⟨(hs 2 x).2, hx⟩

theorem pair_at (c' : Fin 3 → FVec Ideal S1x256x256 .f32) (r : Fin 256) (c : Fin 128)
    (hq : ∀ i, Real' (q i)) (hk : ∀ n i, Real' (k n i)) (hw : ∀ n i, Real' (w n i)) (hb : ∀ n i, b n i ≠ ⊤) (hd : ∃ x, b 2 (ix3 0 r x) ≠ ⊥) (hb' : ∀ n i, c' n i ≠ ⊤) (hd' : ∃ x, c' 2 (ix3 0 r x) ≠ ⊥) :
    pair (BitVec.ofNat 32 t.val) q (k 0) (k 1) (k 2) (w 0) (w 1) (w 2) (b 0) (b 1) (b 2) (c' 0) (c' 1) (c' 2) (ix2 r c)
      = soft (fun n : Fin 3 × Fin 256 => kscore t.val ⟨c.val / 64, by omega⟩ q k (if c.val / 64 = 0 then b else c') r n.1 n.2) (fun n => w n.1 (ix2 n.2 c)) := by
  show (if k0_pay2 (ix2 r c) = 1#1 then half _ k0_pay2 _ _ _ _ _ _ _ _ _ _ (ix2 r c) else half _ (xori k0_pay2 (constantI S256x128 1 1#1)) _ _ _ _ _ _ _ _ _ _ (ix2 r c)) = _
  rw [lane_at]
  by_cases h : c.val < 64
  · have h' : c.val / 64 = 0 := by omega
    rw [if_pos h, if_pos rfl, half_soft t q k w b k0_pay2 0 (fun r c => by rw [lane_at]; split <;> simp <;> omega) r c hq hk hw hb hd, if_pos h']
    have e : (⟨c.val / 64, by omega⟩ : Fin 2) = 0 := Fin.ext h'
    rw [e]
  · have h' : c.val / 64 = 1 := by omega
    rw [if_neg h, if_neg (by decide), half_soft t q k w c' _ 1 (fun r c => by rw [other_at]; split <;> simp <;> omega) r c hq hk hw hb' hd', if_neg (by omega)]
    have e : (⟨c.val / 64, by omega⟩ : Fin 2) = 1 := Fin.ext h'
    rw [e]

end

end Cert.Band

end
-- ==== Proof.Att.BandRef.lean ====
/-
  The attention to the band: the reference computes it.
-/
module

public import proofs.«01_k».proof.Proof.Gen.Reference7Ideal.Run
public import proofs.«01_k».proof.Proof.Att.BandGather
public import proofs.«01_k».proof.Proof.Att.BandHead
public import proofs.«01_k».proof.Proof.Att.Cross
public import proofs.«01_k».proof.Proof.Att.BandWord

@[expose] public section

noncomputable section

namespace Cert.Band

open Idealize.ShloMosaic Idealize.ShloMosaic.TcCoe
open Cert.Att
open Cert.Cross (Real' fold_real max_at maximumf_at splat_at ofBits_bot)

section

open Cert.Reference7Ideal Cert.Reference7Ideal.Gen

variable (Q : FVec Ideal S16384x3584 .bf16) (T : FVec Ideal S8x257 .f32)

/-- The chunk of every position. -/
def rChunk : IVec S16384 32 := shapeCast _ (iotaInDim S256x64 32 0) shapeCasts_S256x64_S16384

/-- The band. -/
def rBand : IVec S16384x16384 1 :=
  andi (cmpi .sge (broadcastInDim S16384x16384 ![0, 1] bcast_S1x16384_S16384x16384_0_1 (broadcastInDim S1x16384 ![1] bcast_S16384_S1x16384_1 rChunk))
      (broadcastInDim S16384x16384 ![0, 1] bcast_S16384x1_S16384x16384_0_1 (subi (broadcastInDim S16384x1 ![0] bcast_S16384_S16384x1_0 rChunk) (broadcastInDim S16384x1 ![] bcast_S_S16384x1 (constantI S_ 32 8#32)))))
    (cmpi .sle (broadcastInDim S16384x16384 ![0, 1] bcast_S1x16384_S16384x16384_0_1 (broadcastInDim S1x16384 ![1] bcast_S16384_S1x16384_1 rChunk))
      (broadcastInDim S16384x16384 ![0, 1] bcast_S16384x1_S16384x16384_0_1 (broadcastInDim S16384x1 ![0] bcast_S16384_S16384x1_0 rChunk)))

/-- The offsets of the keys from the rows, kept within 128 and counted from the table's first column. -/
def rKept : IVec S16384x16384 32 :=
  addi (minsi (broadcastInDim S16384x16384 ![] bcast_S_S16384x16384 (id (constantI S_ 32 128#32))) (maxsi (broadcastInDim S16384x16384 ![] bcast_S_S16384x16384 (id (constantI S_ 32 4294967168#32)))
    (subi (broadcastInDim S16384x16384 ![0, 1] bcast_S16384x1_S16384x16384_0_1 (broadcastInDim S16384x1 ![0] bcast_S16384_S16384x1_0 (iotaInDim S16384 32 0)))
      (broadcastInDim S16384x16384 ![0, 1] bcast_S1x16384_S16384x16384_0_1 (broadcastInDim S1x16384 ![1] bcast_S16384_S1x16384_1 (iotaInDim S16384 32 0)))))) (broadcastInDim S16384x16384 ![] bcast_S_S16384x16384 (constantI S_ 32 128#32))
def rColumn : IVec S16384x16384 32 := select (cmpi .slt rKept (broadcastInDim S16384x16384 ![] bcast_S_S16384x16384 (constantI S_ 32 0#32))) (addi rKept (broadcastInDim S16384x16384 ![] bcast_S_S16384x16384 (constantI S_ 32 257#32))) rKept

/-- The biases. -/
def rBias : FVec Ideal S8x16384x16384 .f32 := Host.gather gather_S8x257_S16384x16384x1_S8x16384x16384_0_1_n_n_1_2_81 T (broadcastInDim S16384x16384x1 ![0, 1] bcast_S16384x16384_S16384x16384x1_0_1 rColumn)

/-- The products, and the scores. -/
def rProd : FVec Ideal S8x16384x16384 .f32 :=
  Host.dotGeneral dot_S16384x8x64_S16384x8x64_S8x16384x16384_2_2_0_0_1_1 none (shapeCast _ (extf .f32 (extractStridedSlice S16384x512 ![0, 1536] Q slices_S16384x3584_S16384x512_0_1536) bitsLt_bf16_f32) shapeCasts_S16384x512_S16384x8x64) (shapeCast _ (extf .f32 (extractStridedSlice S16384x512 ![0, 2048] Q slices_S16384x3584_S16384x512_0_2048) bitsLt_bf16_f32) shapeCasts_S16384x512_S16384x8x64)
def rScore (p b : FVec Ideal S8x16384x16384 .f32) (n : IVec S16384x16384 1) : FVec Ideal S8x16384x16384 .f32 :=
  select (broadcastInDim S8x16384x16384 ![0, 1, 2] bcast_S1x16384x16384_S8x16384x16384_0_1_2 (broadcastInDim S1x16384x16384 ![1, 2] bcast_S16384x16384_S1x16384x16384_1_2 n)) (addf p b) (broadcastInDim S8x16384x16384 ![] bcast_S_S8x16384x16384 (id (constant S_ .f32 0xFF800000#32)))

/-- The largest scores, and the exponentials of the scores less them. -/
def rMax (s : FVec Ideal S8x16384x16384 .f32) : FVec Ideal S8x16384 .f32 :=
  maximumf (broadcastInDim S8x16384 ![] bcast_S_S8x16384 (constant S_ .f32 0xFF800000#32)) (Host.reduce FloatOps.maximumf s (constant S_ .f32 0xFF800000#32) reducesTo_S8x16384x16384_S8x16384_d2 h_S_)
def rExp (s : FVec Ideal S8x16384x16384 .f32) (M : FVec Ideal S8x16384 .f32) : FVec Ideal S8x16384x16384 .f32 :=
  Host.exp (subf s (broadcastInDim S8x16384x16384 ![0, 1, 2] bcast_S8x16384x1_S8x16384x16384_0_1_2 (broadcastInDim S8x16384x1 ![0, 1] bcast_S8x16384_S8x16384x1_0_1 M)))

/-- The result, from the exponentials. -/
def rOut (e : FVec Ideal S8x16384x16384 .f32) : FVec Ideal S16384x512 .bf16 :=
  truncf .bf16 (shapeCast _ (transpose S16384x8x64 [2, 0, 1] (Host.dotGeneral dot_S16384x8x64_S8x16384x16384_S8x64x16384_0_2_2_1_1_0 none (shapeCast _ (extf .f32 (extractStridedSlice S16384x512 ![0, 2560] Q slices_S16384x3584_S16384x512_0_2560) bitsLt_bf16_f32) shapeCasts_S16384x512_S16384x8x64) (Host.divf e (broadcastInDim S8x16384x16384 ![0, 1, 2] bcast_S8x16384x1_S8x16384x16384_0_1_2 (broadcastInDim S8x16384x1 ![0, 1] bcast_S8x16384_S8x16384x1_0_1 (Host.reduceAdd e (constant S_ .f32 0x00000000#32) reducesTo_S8x16384x16384_S8x16384_d2 h_S_))))) transposes_S8x64x16384_S16384x8x64_2_0_1) shapeCasts_S16384x8x64_S16384x512) bitsLt_bf16_f32

theorem rChunk_at (a : Fin 16384) : rChunk (ix1 a) = BitVec.ofNat 32 (a.val / 64) := by
  unfold rChunk
  pointwise
  done

theorem rBand_at (a b : Fin 16384) : rBand (ix2 a b) = IntOp.andi (IntOp.cmpi .sge (rChunk (ix1 b)) (IntOp.subi (rChunk (ix1 a)) 8#32)) (IntOp.cmpi .sle (rChunk (ix1 b)) (rChunk (ix1 a))) := by
  unfold rBand
  pointwise
  done

theorem rKept_at (a b : Fin 16384) : rKept (ix2 a b) = keptWord (IntOp.subi (BitVec.ofNat 32 a.val) (BitVec.ofNat 32 b.val)) := by
  unfold rKept
  pointwise
  rfl

theorem rColumn_at (a b : Fin 16384) : rColumn (ix2 a b) = BitVec.ofNat 32 (off a.val b.val).val := by
  refine Eq.trans ?_ (column_off a.val b.val a.isLt b.isLt)
  unfold rColumn
  pointwise
  rw [rKept_at]
  rfl

theorem rBand_near (a b : Fin 16384) : rBand (ix2 a b) = if near a.val b.val then 1#1 else 0#1 := by
  rw [rBand_at, rChunk_at, rChunk_at]
  exact chunk_near (a.val / 64) (b.val / 64) (by omega) (by omega)

theorem rBias_at (h : Fin 8) (a b : Fin 16384) : rBias T (ix3 h a b) = T (ix2 h (off a.val b.val)) := by
  unfold rBias
  refine takeRect_at _ T _ h a b (off a.val b.val) ?_ (by decide)
  refine Eq.trans ?_ (rColumn_at a b)
  pointwise
  done

theorem rProd_at (h : Fin 8) (a b : Fin 16384) : rProd Q (ix3 h a b) = prod Q h a b := by
  unfold rProd
  pointwise
  rfl

theorem rScore_at (p b : FVec Ideal S8x16384x16384 .f32) (n : IVec S16384x16384 1) (h : Fin 8) (i j : Fin 16384) : rScore p b n (ix3 h i j) = if n (ix2 i j) = 1#1 then p (ix3 h i j) + b (ix3 h i j) else ⊥ := by
  unfold rScore
  pointwise
  show Scalar.select _ _ (Ideal.ofBits FTy.f32 0xFF800000#32) = _
  rw [ofBits_bot]
  rfl

theorem rScore_sc (h : Fin 8) (a b : Fin 16384) : rScore (rProd Q) (rBias T) rBand (ix3 h a b) = sc Q T h a b := by
  rw [rScore_at, rBand_near, rProd_at, rBias_at]
  unfold sc
  by_cases e : near a.val b.val
  · rw [if_pos e, if_pos e, if_pos rfl]
  · rw [if_neg e, if_neg e, if_neg (by decide)]

theorem rMax_at (s : FVec Ideal S8x16384x16384 .f32) (h : Fin 8) (r : Fin 16384) :
    rMax s (ix2 h r) = max (Ideal.ofBits FTy.f32 0xFF800000#32) (Finset.fold max (Ideal.ofBits FTy.f32 0xFF800000#32) (fun x => s (ix3 h r x)) Finset.univ) := by
  unfold rMax
  exact (maximumf_at _ _ _).trans (congrArg₂ max (splat_at _ _ _) (max_at s _ reducesTo_S8x16384x16384_S8x16384_d2 h_S_ h r))

theorem rExp_at (s : FVec Ideal S8x16384x16384 .f32) (M : FVec Ideal S8x16384 .f32) (h : Fin 8) (r x : Fin 16384) : rExp s M (ix3 h r x) = Ideal.exp (s (ix3 h r x) - M (ix2 h r)) := by
  unfold rExp
  pointwise
  done

theorem rOut_at (e : FVec Ideal S8x16384x16384 .f32) (r : Fin 16384) (c : Fin 512) : rOut Q e (ix2 r c)
    = ∑ x : Fin 16384, Q (ix2 x ⟨2560 + c.val, by omega⟩) * Ideal.div (e (ix3 ⟨c.val / 64, by omega⟩ r x)) (∑ y, e (ix3 ⟨c.val / 64, by omega⟩ r y)) := by
  unfold rOut
  pointwise
  done

theorem real_add {x y : EReal} (hx : Real' x) (hy : Real' y) : Real' (x + y) :=
  ⟨EReal.add_ne_top hx.1 hy.1, EReal.add_ne_bot_iff.mpr ⟨hx.2, hy.2⟩⟩

variable (hQ : ∀ i, Real' (Q i)) (hT : ∀ i, Real' (T i))

include hQ hT in
theorem sc_real (h : Fin 8) (a b : Fin 16384) : Real' (prod Q h a b + T (ix2 h (off a.val b.val))) :=
  real_add (real_sum _ _ (fun _ => hQ _) (fun _ => hQ _)) (hT _)

include hQ hT in
theorem sc_top (h : Fin 8) (a b : Fin 16384) : sc Q T h a b ≠ ⊤ := by
  unfold sc
  split
  · exact (sc_real Q T hQ hT h a b).1
  · exact bot_ne_top

include hQ hT in
theorem sc_self (h : Fin 8) (a : Fin 16384) : sc Q T h a a ≠ ⊥ := by
  have e : sc Q T h a a = _ := if_pos (show near a.val a.val from ⟨by omega, le_rfl⟩)
  rw [e]
  exact (sc_real Q T hQ hT h a a).2

include hQ hT in
theorem rOut_eq : rOut Q (rExp (rScore (rProd Q) (rBias T) rBand) (rMax (rScore (rProd Q) (rBias T) rBand))) = band Q T := by
  funext i
  have hi : (i 1).val < 512 := (i 1).isLt
  have hs : ∀ x, rScore (rProd Q) (rBias T) rBand (ix3 ⟨(i 1).val / 64, by omega⟩ (i 0) x) = sc Q T ⟨(i 1).val / 64, by omega⟩ (i 0) x := fun x => rScore_sc Q T _ (i 0) x
  obtain ⟨M, hM⟩ := fold_real _ (fun x => sc_top Q T hQ hT ⟨(i 1).val / 64, by omega⟩ (i 0) x) ⟨i 0, sc_self Q T hQ hT _ (i 0)⟩
  have hm : rMax (rScore (rProd Q) (rBias T) rBand) (ix2 ⟨(i 1).val / 64, by omega⟩ (i 0)) = (M : EReal) := by
    refine (rMax_at _ _ _).trans ?_
    rw [funext hs, hM, ofBits_bot]
    exact max_eq_right bot_le
  have he : ∀ x, rExp (rScore (rProd Q) (rBias T) rBand) (rMax (rScore (rProd Q) (rBias T) rBand)) (ix3 ⟨(i 1).val / 64, by omega⟩ (i 0) x)
      = Ideal.exp (sc Q T ⟨(i 1).val / 64, by omega⟩ (i 0) x - (M : EReal)) := fun x => by
    refine (rExp_at _ _ _ _ _).trans ?_
    rw [hs, hm]
  refine (congrArg _ (eq_ix2 i)).trans ((rOut_at Q _ (i 0) (i 1)).trans ?_)
  simp only [he]
  exact soft_of_weights _ _ M (fun x => sc_top Q T hQ hT _ _ x) (fun x => hQ _) ⟨i 0, sc_self Q T hQ hT _ (i 0)⟩

end

end Cert.Band

end
-- ==== Proof.Att.BandTab.lean ====
/-
  The attention to the band: the table of biases the program prepares.
-/
module

public import proofs.«01_k».proof.Proof.Att.BandPair
public import proofs.«01_k».proof.Proof.Att.BandSpec
public import proofs.«01_k».proof.Proof.Att.BandGather
public import proofs.«01_k».proof.Proof.Att.BandWord
public import proofs.«01_k».proof.Proof.Att.Cross
public import Idealize.ShloMosaic.Lib.StableHlo.RunRead

@[expose] public section

noncomputable section

namespace Cert.Band

open Idealize.ShloMosaic Idealize.ShloMosaic.TcCoe
open Cert.Att

section

open Cert.Kernel7Ideal Cert.Kernel7Ideal.Gen

/-- The quotient by 64, rounded down, of every entry. -/
def fdiv {s : Shape} (hb : S_.BroadcastsInDim s (![] : Fin 0 → Fin s.rank)) (x : IVec s 32) : IVec s 32 :=
  select (andi (cmpi .ne (signi x) (broadcastInDim s ![] hb (signi (id (constantI S_ 32 64#32))))) (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32))) (Host.divsi x (broadcastInDim s ![] hb (id (constantI S_ 32 64#32))))

/-- The chunks of the rows and of the keys of a block, counted from the first key's. -/
def rowChunk : IVec S256 32 := fdiv bcast_S_S256 (addi (broadcastInDim S256 ![] bcast_S_S256 (constantI S_ 32 512#32)) (iotaInDim S256 32 0))
def keyChunk : IVec S768 32 := fdiv bcast_S_S768 (iotaInDim S768 32 0)

/-- The band of a block. -/
def blockBand : IVec S256x768 1 :=
  andi (cmpi .sge (broadcastInDim S256x768 ![0, 1] bcast_S1x768_S256x768_0_1 (broadcastInDim S1x768 ![1] bcast_S768_S1x768_1 keyChunk))
      (broadcastInDim S256x768 ![0, 1] bcast_S256x1_S256x768_0_1 (subi (broadcastInDim S256x1 ![0] bcast_S256_S256x1_0 rowChunk) (broadcastInDim S256x1 ![] bcast_S_S256x1 (constantI S_ 32 8#32)))))
    (cmpi .sle (broadcastInDim S256x768 ![0, 1] bcast_S1x768_S256x768_0_1 (broadcastInDim S1x768 ![1] bcast_S768_S1x768_1 keyChunk))
      (broadcastInDim S256x768 ![0, 1] bcast_S256x1_S256x768_0_1 (broadcastInDim S256x1 ![0] bcast_S256_S256x1_0 rowChunk)))

/-- The offsets, wrapped around 1024, kept within 128, and counted from the table's first column. -/
def wrapped : IVec S1024 32 := select (cmpi .slt (iotaInDim S1024 32 0) (broadcastInDim S1024 ![] bcast_S_S1024 (constantI S_ 32 768#32))) (iotaInDim S1024 32 0)
  (subi (iotaInDim S1024 32 0) (broadcastInDim S1024 ![] bcast_S_S1024 (constantI S_ 32 1024#32)))
def kept : IVec S1024 32 := addi (minsi (broadcastInDim S1024 ![] bcast_S_S1024 (id (constantI S_ 32 128#32))) (maxsi (broadcastInDim S1024 ![] bcast_S_S1024 (id (constantI S_ 32 4294967168#32)))
  (subi (broadcastInDim S1024 ![] bcast_S_S1024 (constantI S_ 32 512#32)) wrapped))) (broadcastInDim S1024 ![] bcast_S_S1024 (constantI S_ 32 128#32))
def column : IVec S1024 32 := select (cmpi .slt kept (broadcastInDim S1024 ![] bcast_S_S1024 (constantI S_ 32 0#32))) (addi kept (broadcastInDim S1024 ![] bcast_S_S1024 (constantI S_ 32 257#32))) kept

theorem rowChunk_at : ∀ r : Fin 256, rowChunk (ix1 r) = BitVec.ofNat 32 ((512 + r.val) / 64) := by decide +kernel

theorem keyChunk_at : ∀ j : Fin 768, keyChunk (ix1 j) = BitVec.ofNat 32 (j.val / 64) := by decide +kernel

theorem blockBand_at (r : Fin 256) (j : Fin 768) : blockBand (ix2 r j) = IntOp.andi (IntOp.cmpi .sge (keyChunk (ix1 j)) (IntOp.subi (rowChunk (ix1 r)) 8#32)) (IntOp.cmpi .sle (keyChunk (ix1 j)) (rowChunk (ix1 r))) := by
  unfold blockBand
  pointwise
  done

/-- The column at place `u` of the one row. -/
def place (u : ℕ) : Fin 257 := ⟨if u < 768 then min (640 - u) 256 else 256, by split <;> omega⟩

theorem column_at : ∀ u : Fin 1024, column (ix1 u) = BitVec.ofNat 32 (place u.val).val := by decide +kernel

theorem place_off (r j : ℕ) (hr : r < 256) (hj : j < 768) : place ((r * 1023 + j) % 1024) = off (512 + r) j := by
  refine Fin.ext ?_
  show (if (r * 1023 + j) % 1024 < 768 then min (640 - (r * 1023 + j) % 1024) 256 else 256) = min (512 + r + 128 - j) 256
  by_cases h : r ≤ j
  · have e : (r * 1023 + j) % 1024 = j - r := by omega
    rw [e, if_pos (by omega)]
    omega
  · have e : (r * 1023 + j) % 1024 = 1024 + j - r := by omega
    rw [e, if_neg (by omega)]
    omega

variable (T : FVec Ideal S8x257 .f32)

/-- The biases of one row, and of every row, each row one place further on. -/
def line : FVec Ideal S8x1024 .f32 := Host.gather gather_S8x257_S1024x1_S8x1024_0_1_n_n_1_1_81 T (broadcastInDim S1024x1 ![0] bcast_S1024_S1024x1_0 column)
def rows (l : FVec Ideal S8x1024 .f32) : FVec Ideal S8x256x768 .f32 :=
  extractStridedSlice S8x256x768 ![0, 0, 0] (shapeCast _ (extractStridedSlice S8x261888 ![0, 0] (shapeCast _ (broadcastInDim S8x256x1024 ![0, 1, 2] bcast_S8x1x1024_S8x256x1024_0_1_2
    (broadcastInDim S8x1x1024 ![0, 2] bcast_S8x1024_S8x1x1024_0_2 l)) shapeCasts_S8x256x1024_S8x262144) slices_S8x262144_S8x261888_0_0) shapeCasts_S8x261888_S8x256x1023) slices_S8x256x1023_S8x256x768_0_0_0

/-- The table of biases. -/
def tab : FVec Ideal S8x256x768 .f32 :=
  select (broadcastInDim S8x256x768 ![0, 1, 2] bcast_S1x256x768_S8x256x768_0_1_2 (broadcastInDim S1x256x768 ![1, 2] bcast_S256x768_S1x256x768_1_2 blockBand)) (rows (line T))
    (broadcastInDim S8x256x768 ![] bcast_S_S8x256x768 (id (constant S_ .f32 0xFF800000#32)))

theorem line_at (h : Fin 8) (u : Fin 1024) : line T (ix2 h u) = T (ix2 h (place u.val)) := by
  unfold line
  exact takeCols_at _ T _ h u (place u.val) (column_at u) (by decide)

theorem rows_at (l : FVec Ideal S8x1024 .f32) (h : Fin 8) (r : Fin 256) (j : Fin 768) : rows l (ix3 h r j) = l (ix2 h ⟨(r.val * 1023 + j.val) % 1024, Nat.mod_lt _ (by decide)⟩) := by
  unfold rows
  pointwise
  done

theorem tab_at (h : Fin 8) (r : Fin 256) (j : Fin 768) : tab T (ix3 h r j) = if near (512 + r.val) j.val then T (ix2 h (off (512 + r.val) j.val)) else ⊥ := by
  have e : rows (line T) (ix3 h r j) = T (ix2 h (off (512 + r.val) j.val)) := by
    rw [rows_at, line_at, place_off r.val j.val r.isLt j.isLt]
  have eb : blockBand (ix2 r j) = if near (512 + r.val) j.val then 1#1 else 0#1 := by
    rw [blockBand_at, keyChunk_at, rowChunk_at]
    exact chunk_near ((512 + r.val) / 64) (j.val / 64) (by omega) (by omega)
  unfold tab
  pointwise
  rw [e, eb]
  show Scalar.select _ _ (Ideal.ofBits FTy.f32 0xFF800000#32) = _
  rw [Cert.Cross.ofBits_bot]
  split
  · exact if_pos rfl
  · exact if_neg (by decide)

end

section

open Cert.Kernel7Ideal Cert.Kernel7Ideal.Gen

variable (m : (ℓ : Loc nD τ sig) → Buf (Elt Ideal) ℓ)

theorem V_tab (c : Dev nD) : V m c main_v44 = tab (m ((c.tc : Thread nD τ).loc main_arg1)) := by
  unfold_abbrev_sides
  simp only [List.flatten_cons, List.flatten_nil, List.append_nil]
  after_reads_simp
  simp only [StableHlo.TRef.toBuf, StableHlo.TRef.ofBuf, cast_cast, cast_eq]
  unfold tab rows line column kept wrapped blockBand rowChunk keyChunk fdiv
  rfl

end

end Cert.Band

end
-- ==== Proof.Att.BandStrip.lean ====
/-
  The attention to the band: a strip of a block is the band's.
-/
module

public import proofs.«01_k».proof.Proof.Att.BandHead

@[expose] public section

noncomputable section

namespace Cert.Band

open Idealize.ShloMosaic Idealize.ShloMosaic.TcCoe
open Cert.Att
open Cert.Cross (Real')

/-- A row of a point's block, and a key of one of its three blocks of keys, as rows of the array. -/
def row (t : Fin 64) (r : Fin 256) : Fin 16384 := ⟨256 * t.val + r.val, by omega⟩
def key (t : Fin 64) (n : Fin 3) (x : Fin 256) : Fin 16384 := ⟨256 * (t.val + n.val - 2) + x.val, by omega⟩

theorem near_shift (t : Fin 64) (r : Fin 256) (n : Fin 3) (x : Fin 256) (h : 2 ≤ t.val + n.val) : near (512 + r.val) (256 * n.val + x.val) ↔ near (row t r).val (key t n x).val := by
  show (_ / 64 ≤ _ / 64 + 8 ∧ _ / 64 ≤ _ / 64) ↔ ((256 * t.val + r.val) / 64 ≤ (256 * (t.val + n.val - 2) + x.val) / 64 + 8 ∧ (256 * (t.val + n.val - 2) + x.val) / 64 ≤ (256 * t.val + r.val) / 64)
  omega

theorem off_shift (t : Fin 64) (r : Fin 256) (n : Fin 3) (x : Fin 256) (h : 2 ≤ t.val + n.val) : off (512 + r.val) (256 * n.val + x.val) = off (row t r).val (key t n x).val := by
  refine Fin.ext ?_
  show min (512 + r.val + 128 - (256 * n.val + x.val)) 256 = min (256 * t.val + r.val + 128 - (256 * (t.val + n.val - 2) + x.val)) 256
  omega

/-- The bias of row `r` of a block against a key counted from the first of its keys. -/
def bias (T : (⟨2, ![8, 257]⟩ : Shape).Idx → EReal) (h : Fin 8) (r : Fin 256) (j : ℕ) : EReal := if near (512 + r.val) j then T (ix2 h (off (512 + r.val) j)) else ⊥

/-- The columns of a strip of the rows, the keys, the values and the result, and its two heads. -/
def qCol (p : Fin 4) (d : Fin 128) : Fin 3584 := ⟨1536 + (p.val * 128 + d.val), by omega⟩
def kCol (p : Fin 4) (d : Fin 128) : Fin 3584 := ⟨2048 + (p.val * 128 + d.val), by omega⟩
def vCol (p : Fin 4) (d : Fin 128) : Fin 3584 := ⟨2560 + (p.val * 128 + d.val), by omega⟩
def yCol (p : Fin 4) (d : Fin 128) : Fin 512 := ⟨p.val * 128 + d.val, by omega⟩
def headA (p : Fin 4) : Fin 8 := ⟨2 * p.val, by omega⟩
def headB (p : Fin 4) : Fin 8 := ⟨2 * p.val + 1, by omega⟩

section

open Cert.Kernel7Ideal Cert.Kernel7Ideal.Gen

variable (Q : (⟨2, ![16384, 3584]⟩ : Shape).Idx → EReal) (T : (⟨2, ![8, 257]⟩ : Shape).Idx → EReal) (t : Fin 64)
  (q : FVec Ideal S256x128 .bf16) (k w : Fin 3 → FVec Ideal S256x128 .bf16) (b b' : Fin 3 → FVec Ideal S1x256x256 .f32)
  (p : Fin 4)
  (hq : ∀ r d, q (ix2 r d) = Q (ix2 (row t r) (qCol p d)))
  (hk : ∀ n x d, k n (ix2 x d) = Q (ix2 (key t n x) (kCol p d)))
  (hw : ∀ n x d, w n (ix2 x d) = Q (ix2 (key t n x) (vCol p d)))
  (hb : ∀ n r x, b n (ix3 0 r x) = bias T (headA p) r (256 * n.val + x.val))
  (hb' : ∀ n r x, b' n (ix3 0 r x) = bias T (headB p) r (256 * n.val + x.val))

include hq hk hb hb' in
theorem kscore_sc (r : Fin 256) (c : Fin 128) (n : Fin 3) (x : Fin 256) (h : 2 ≤ t.val + n.val) :
    kscore t.val ⟨c.val / 64, by omega⟩ q k (if c.val / 64 = 0 then b else b') r n x = sc Q T ⟨(p.val * 128 + c.val) / 64, by omega⟩ (row t r) (key t n x) := by
  have e : (if c.val / 64 = 0 then b else b') n (ix3 0 r x) = bias T ⟨(p.val * 128 + c.val) / 64, by omega⟩ r (256 * n.val + x.val) := by
    split
    · rw [hb]
      exact congrArg (fun g => bias T g r _) (Fin.ext (by show 2 * p.val = (p.val * 128 + c.val) / 64; omega))
    · rw [hb']
      exact congrArg (fun g => bias T g r _) (Fin.ext (by show 2 * p.val + 1 = (p.val * 128 + c.val) / 64; omega))
  have ep : ∑ d : Fin 64, q (ix2 r ⟨c.val / 64 * 64 + d.val, by omega⟩) * k n (ix2 x ⟨c.val / 64 * 64 + d.val, by omega⟩) = prod Q ⟨(p.val * 128 + c.val) / 64, by omega⟩ (row t r) (key t n x) := by
    refine Finset.sum_congr rfl fun d _ => ?_
    rw [hq, hk]
    refine congrArg₂ (fun u v => Q (ix2 _ u) * Q (ix2 _ v)) (Fin.ext ?_) (Fin.ext ?_)
    · show 1536 + (p.val * 128 + (c.val / 64 * 64 + d.val)) = 1536 + ((p.val * 128 + c.val) / 64 * 64 + d.val)
      omega
    · show 2048 + (p.val * 128 + (c.val / 64 * 64 + d.val)) = 2048 + ((p.val * 128 + c.val) / 64 * 64 + d.val)
      omega
  unfold kscore sc
  rw [if_pos h, e]
  refine (congrArg (· + _) ep).trans ?_
  unfold bias
  rw [off_shift t r n x h]
  by_cases hn : near (row t r).val (key t n x).val
  · rw [if_pos hn, if_pos ((near_shift t r n x h).mpr hn)]
  · rw [if_neg hn, if_neg (fun h' => hn ((near_shift t r n x h).mp h')), EReal.add_bot]

theorem kscore_from (e : Fin 2) (B : Fin 3 → FVec Ideal S1x256x256 .f32) (r : Fin 256) (n : Fin 3) (x : Fin 256) (h : kscore t.val e q k B r n x ≠ ⊥) : 2 ≤ t.val + n.val := by
  by_contra hn
  exact h (if_neg hn)

variable (hQ : ∀ i, Real' (Q i)) (hT : ∀ i, Real' (T i))

include hT in
theorem bias_top (h : Fin 8) (r : Fin 256) (j : ℕ) : bias T h r j ≠ ⊤ := by
  unfold bias
  split
  · exact (hT _).1
  · exact bot_ne_top

include hT in
theorem bias_self (h : Fin 8) (r : Fin 256) : bias T h r (512 + r.val) ≠ ⊥ := by
  unfold bias
  rw [if_pos (show near _ _ from ⟨by omega, le_rfl⟩)]
  exact (hT _).2

include hq hk hw hb hb' hQ hT in
theorem strip (r : Fin 256) (c : Fin 128) :
    pair (BitVec.ofNat 32 t.val) q (k 0) (k 1) (k 2) (w 0) (w 1) (w 2) (b 0) (b 1) (b 2) (b' 0) (b' 1) (b' 2) (ix2 r c) = band Q T (ix2 (row t r) (yCol p c)) := by
  have hz : ∀ i : S1x256x256.Idx, i = ix3 0 (i 1) (i 2) := fun i => (eq_ix3 i).trans (congrArg (fun z => ix3 z (i 1) (i 2)) (Subsingleton.elim (α := Fin 1) _ _))
  refine (pair_at t q k w b b' r c (fun i => ?_) (fun n i => ?_) (fun n i => ?_) (fun n i => ?_) ⟨r, ?_⟩ (fun n i => ?_) ⟨r, ?_⟩).trans ?_
  · exact Eq.mpr (congrArg Real' ((congrArg (q) (eq_ix2 i)).trans (hq (i 0) (i 1)))) (hQ _)
  · exact Eq.mpr (congrArg Real' ((congrArg (k n) (eq_ix2 i)).trans (hk n (i 0) (i 1)))) (hQ _)
  · exact Eq.mpr (congrArg Real' ((congrArg (w n) (eq_ix2 i)).trans (hw n (i 0) (i 1)))) (hQ _)
  · exact ne_of_eq_of_ne ((congrArg (b n) (hz i)).trans (hb n (i 1) (i 2))) (bias_top T hT _ _ _)
  · rw [hb]; exact bias_self T hT _ r
  · exact ne_of_eq_of_ne ((congrArg (b' n) (hz i)).trans (hb' n (i 1) (i 2))) (bias_top T hT _ _ _)
  · rw [hb']; exact bias_self T hT _ r
  have e := kscore_sc Q T t q k b b' p hq hk hb hb' r c
  refine soft_move _ (sc Q T ⟨(p.val * 128 + c.val) / 64, by omega⟩ (row t r)) (fun n => key t n.1 n.2) (fun n h => ?_) (fun n l hn hl h => ?_) (fun a h => ?_) _ _ (fun n h => ?_)
  · exact (e n.1 n.2 (kscore_from t q k _ _ r n.1 n.2 h)).symm
  · have h1 := kscore_from t q k _ _ r n.1 n.2 hn
    have h2 := kscore_from t q k _ _ r l.1 l.2 hl
    have h3 : 256 * (t.val + n.1.val - 2) + n.2.val = 256 * (t.val + l.1.val - 2) + l.2.val := congrArg Fin.val h
    exact Prod.ext (Fin.ext (by omega)) (Fin.ext (by omega))
  · have hn : near (row t r).val a.val := by
      by_contra hn
      exact h (if_neg hn)
    have h1 : (256 * t.val + r.val) / 64 ≤ a.val / 64 + 8 := hn.1
    have h2 : a.val / 64 ≤ (256 * t.val + r.val) / 64 := hn.2
    have h3 : a.val / 256 + 2 - t.val < 3 := by omega
    have h4 : 2 ≤ t.val + (a.val / 256 + 2 - t.val) := by omega
    have hk' : key t ⟨a.val / 256 + 2 - t.val, h3⟩ ⟨a.val % 256, Nat.mod_lt _ (by decide)⟩ = a := Fin.ext (by
      show 256 * (t.val + (a.val / 256 + 2 - t.val) - 2) + a.val % 256 = a.val
      omega)
    refine ⟨(⟨a.val / 256 + 2 - t.val, h3⟩, ⟨a.val % 256, Nat.mod_lt _ (by decide)⟩), ?_, hk'⟩
    refine ne_of_eq_of_ne (e _ _ h4) ?_
    rw [hk']
    exact h
  · exact (hw _ _ _).symm

end

end Cert.Band

end
-- ==== Proof.Att.BandRun.lean ====
/-
  The attention to the band, as a whole array: the kernel's is the reference's.
-/
module

public import proofs.«01_k».proof.Proof.Gen.Pre_finite7
public import proofs.«01_k».proof.Proof.Att.BandRef
public import proofs.«01_k».proof.Proof.Att.BandTab
public import proofs.«01_k».proof.Proof.Att.BandStrip

@[expose] public section

noncomputable section

namespace Cert.Band

open Idealize.ShloMosaic Idealize.ShloMosaic.TcCoe
open Idealize.ShloMosaic.Pipeline (Dat)
open Cert.Att
open Cert.Cross (Real' fin_of_lt)

section

open Cert.Kernel7Ideal Cert.Kernel7Ideal.Gen Cert.Kernel7Ideal.Value

theorem ld_strip (x : Vec Ideal S256x512 .bf16) (o : ℕ) (inb) (r : Fin 256) (d : Fin 128) (ho : o + d.val < 512) :
    View.ld x (Rect.unit (s := S256x512) ![0, o] S256x128.size inb) (ix2 r d) = x (ix2 r ⟨o + d.val, ho⟩) := by
  refine congrArg x (funext fun a => ?_)
  match a with
  | ⟨0, _⟩ => exact Fin.ext (by show 0 + 1 * r.val = r.val; omega)
  | ⟨1, _⟩ => exact Fin.ext (by show o + 1 * d.val = o + d.val; omega)

theorem ld_bias (x : Vec Ideal S8x256x768 .f32) (g : ℕ) (h : Fin 8) (hg : g = h.val) (o : ℕ) (inb) (r x' : Fin 256) (ho : o + x'.val < 768) :
    View.ld x (Rect.unit (s := S8x256x768) ![g, 0, o] S1x256x256.size inb) (ix3 0 r x') = x (ix3 h r ⟨o + x'.val, ho⟩) := by
  subst hg
  refine congrArg x (funext fun a => ?_)
  match a with
  | ⟨0, _⟩ => exact Fin.ext (by show h.val + 1 * 0 = h.val; omega)
  | ⟨1, _⟩ => exact Fin.ext (by show 0 + 1 * r.val = r.val; omega)
  | ⟨2, _⟩ => exact Fin.ext (by show o + 1 * x'.val = o + x'.val; omega)

theorem emb_strip (o : ℕ) (inb) (y : S256x128.Idx) (ho : o + (y 1).val < 512) :
    (Rect.unit (s := S256x512) ![0, o] S256x128.size inb).emb y = ix2 (y 0) ⟨o + (y 1).val, ho⟩ := by
  funext a
  match a with
  | ⟨0, _⟩ => exact Fin.ext (by show 0 + 1 * (y 0).val = (y 0).val; omega)
  | ⟨1, _⟩ => exact Fin.ext (by show o + 1 * (y 1).val = o + (y 1).val; omega)

variable (Q : (⟨2, ![16384, 3584]⟩ : Shape).Idx → EReal) (T : (⟨2, ![8, 257]⟩ : Shape).Idx → EReal) (t : Fin 64)
  (x : Vec Ideal S256x512 .bf16) (k w : Fin 3 → Vec Ideal S256x512 .bf16) (b : Vec Ideal S8x256x768 .f32)
  (hx : ∀ r d, x (ix2 r d) = Q (ix2 (row t r) ⟨1536 + d.val, by omega⟩))
  (hk : ∀ n r d, k n (ix2 r d) = Q (ix2 (key t n r) ⟨2048 + d.val, by omega⟩))
  (hw : ∀ n r d, w n (ix2 r d) = Q (ix2 (key t n r) ⟨2560 + d.val, by omega⟩))
  (hb : ∀ h r (j : Fin 768), b (ix3 h r j) = bias T h r j.val)
  (hQ : ∀ i, Real' (Q i)) (hT : ∀ i, Real' (T i))

/-- The rows' averages, at a point's block. -/
def goal : S256x512.Idx → EReal := fun j => band Q T (ix2 (row t (j 0)) (j 1))

/-- A head's biases, from one key on, lie in the table. -/
abbrev Inb (g o : ℕ) : Prop := ∀ a, (![g, 0, o] : Fin 3 → ℕ) a + S1x256x256.size a ≤ S8x256x768.size a

/-- Three blocks of one head's biases. -/
def three (g : ℕ) (i0 : Inb g 0) (i1 : Inb g 256) (i2 : Inb g 512) : Fin 3 → FVec Ideal S1x256x256 .f32 :=
  ![View.ld b (Rect.unit (s := S8x256x768) ![g, 0, 0] S1x256x256.size i0), View.ld b (Rect.unit (s := S8x256x768) ![g, 0, 256] S1x256x256.size i1), View.ld b (Rect.unit (s := S8x256x768) ![g, 0, 512] S1x256x256.size i2)]

include hb in
theorem three_at (g : ℕ) (h : Fin 8) (hg : g = h.val) (i0 i1 i2) (n : Fin 3) (r x' : Fin 256) : three b g i0 i1 i2 n (ix3 0 r x') = bias T h r (256 * n.val + x'.val) := by
  match n with
  | ⟨0, _⟩ => exact (ld_bias b g h hg 0 i0 r x' (by omega)).trans (hb _ _ _)
  | ⟨1, _⟩ => exact (ld_bias b g h hg 256 i1 r x' (by omega)).trans (hb _ _ _)
  | ⟨2, _⟩ => exact (ld_bias b g h hg 512 i2 r x' (by omega)).trans (hb _ _ _)

include hx hk hw hb hQ hT in
/-- One strip of the block. -/
theorem strip_goal (p : Fin 4) (o g g' : ℕ) (ho : o = p.val * 128) (hg : g = 2 * p.val) (hg' : g' = 2 * p.val + 1) (inb) (i0 i1 i2 j0 j1 j2) (y : S256x128.Idx) :
    pair (BitVec.ofNat 32 t.val) (View.ld x (Rect.unit (s := S256x512) ![0, o] S256x128.size inb))
      (View.ld (k 0) (Rect.unit (s := S256x512) ![0, o] S256x128.size inb)) (View.ld (k 1) (Rect.unit (s := S256x512) ![0, o] S256x128.size inb)) (View.ld (k 2) (Rect.unit (s := S256x512) ![0, o] S256x128.size inb))
      (View.ld (w 0) (Rect.unit (s := S256x512) ![0, o] S256x128.size inb)) (View.ld (w 1) (Rect.unit (s := S256x512) ![0, o] S256x128.size inb)) (View.ld (w 2) (Rect.unit (s := S256x512) ![0, o] S256x128.size inb))
      (three b g i0 i1 i2 0) (three b g i0 i1 i2 1) (three b g i0 i1 i2 2) (three b g' j0 j1 j2 0) (three b g' j0 j1 j2 1) (three b g' j0 j1 j2 2) y
      = goal Q T t ((Rect.unit (s := S256x512) ![0, o] S256x128.size inb).emb y) := by
  subst ho
  have hy : (y 1).val < 128 := (y 1).isLt
  rw [emb_strip _ inb y (by omega)]
  exact (congrArg _ (eq_ix2 y)).trans (strip Q T t _ (fun n => View.ld (k n) (Rect.unit (s := S256x512) ![0, p.val * 128] S256x128.size inb)) (fun n => View.ld (w n) (Rect.unit (s := S256x512) ![0, p.val * 128] S256x128.size inb))
    (three b g i0 i1 i2) (three b g' j0 j1 j2) p
    (fun r d => (ld_strip x _ inb r d (by omega)).trans (hx _ _)) (fun n r d => (ld_strip (k n) _ inb r d (by omega)).trans (hk _ _ _)) (fun n r d => (ld_strip (w n) _ inb r d (by omega)).trans (hw _ _ _))
    (three_at T b hb g ⟨2 * p.val, by omega⟩ hg i0 i1 i2) (three_at T b hb g' ⟨2 * p.val + 1, by omega⟩ hg' j0 j1 j2) hQ hT (y 0) (y 1))

include hx hk hw hb hQ hT in
theorem block (i : grid0.Coords) (hi : (i 0).val = t.val) : out0_8 i x (k 0) (k 1) (k 2) (w 0) (w 1) (w 2) b = goal Q T t := by
  funext y
  rw [out_pairs, hi]
  refine View.canon_apply_of_pieces (Val := Elt Ideal) (goal Q T t) _ ?_ y (cover0_8 _ _ _ _ y)
  intro p hp
  simp only [List.mem_cons, List.mem_nil_iff, or_false] at hp
  rcases hp with rfl | rfl | rfl | rfl
  · exact strip_goal Q T t x k w b hx hk hw hb hQ hT 3 384 6 7 rfl rfl rfl _ _ _ _ _ _ _
  · exact strip_goal Q T t x k w b hx hk hw hb hQ hT 2 256 4 5 rfl rfl rfl _ _ _ _ _ _ _
  · exact strip_goal Q T t x k w b hx hk hw hb hQ hT 1 128 2 3 rfl rfl rfl _ _ _ _ _ _ _
  · exact strip_goal Q T t x k w b hx hk hw hb hQ hT 0 0 0 1 rfl rfl rfl _ _ _ _ _ _ _

theorem block_goal (k0 k1 k2 w0 w1 w2 : Vec Ideal S256x512 .bf16) (hx : ∀ r d, x (ix2 r d) = Q (ix2 (row t r) ⟨1536 + d.val, by omega⟩))
    (hk0 : ∀ r d, k0 (ix2 r d) = Q (ix2 (key t 0 r) ⟨2048 + d.val, by omega⟩)) (hk1 : ∀ r d, k1 (ix2 r d) = Q (ix2 (key t 1 r) ⟨2048 + d.val, by omega⟩)) (hk2 : ∀ r d, k2 (ix2 r d) = Q (ix2 (key t 2 r) ⟨2048 + d.val, by omega⟩))
    (hw0 : ∀ r d, w0 (ix2 r d) = Q (ix2 (key t 0 r) ⟨2560 + d.val, by omega⟩)) (hw1 : ∀ r d, w1 (ix2 r d) = Q (ix2 (key t 1 r) ⟨2560 + d.val, by omega⟩)) (hw2 : ∀ r d, w2 (ix2 r d) = Q (ix2 (key t 2 r) ⟨2560 + d.val, by omega⟩))
    (hb : ∀ h r (j : Fin 768), b (ix3 h r j) = bias T h r j.val) (hQ : ∀ i, Real' (Q i)) (hT : ∀ i, Real' (T i)) (i : grid0.Coords) (hi : (i 0).val = t.val) :
    out0_8 i x k0 k1 k2 w0 w1 w2 b = goal Q T t :=
  block Q T t x ![k0, k1, k2] ![w0, w1, w2] b hx
    (fun n r d => match n with
      | ⟨0, _⟩ => hk0 r d
      | ⟨1, _⟩ => hk1 r d
      | ⟨2, _⟩ => hk2 r d)
    (fun n r d => match n with
      | ⟨0, _⟩ => hw0 r d
      | ⟨1, _⟩ => hw1 r d
      | ⟨2, _⟩ => hw2 r d)
    hb hQ hT i hi

end

section

open Cert.Kernel7Ideal Cert.Kernel7Ideal.Gen Cert.Kernel7Ideal.Value

variable (m : (ℓ : Loc nD τ sig) → Buf (Elt Ideal) ℓ)

/-- The arrays the kernel is started on. -/
def qIn (c : Dev nD) : S16384x3584.Idx → EReal := m ((c.tc : Thread nD τ).loc main_arg0)
def tIn (c : Dev nD) : S8x257.Idx → EReal := m ((c.tc : Thread nD τ).loc main_arg1)

/-- A point's place in the grid. -/
def pt (t : Fin grid0.N) : Fin 64 := ⟨t.val, t.isLt.trans_eq N_0⟩

theorem coord : ∀ t : Fin grid0.N, (grid0.coords t 0).val = t.val := by decide +kernel

theorem place0 : ∀ t : Fin grid0.N, win0_0.index t 0 = t.val ∧ win0_0.index t 1 = 3 := by decide +kernel
theorem place1 : ∀ t : Fin grid0.N, win0_1.index t 0 = t.val + 0 - 2 ∧ win0_1.index t 1 = 4 := by decide +kernel
theorem place2 : ∀ t : Fin grid0.N, win0_2.index t 0 = t.val + 1 - 2 ∧ win0_2.index t 1 = 4 := by decide +kernel
theorem place3 : ∀ t : Fin grid0.N, win0_3.index t 0 = t.val + 2 - 2 ∧ win0_3.index t 1 = 4 := by decide +kernel
theorem place4 : ∀ t : Fin grid0.N, win0_4.index t 0 = t.val + 0 - 2 ∧ win0_4.index t 1 = 5 := by decide +kernel
theorem place5 : ∀ t : Fin grid0.N, win0_5.index t 0 = t.val + 1 - 2 ∧ win0_5.index t 1 = 5 := by decide +kernel
theorem place6 : ∀ t : Fin grid0.N, win0_6.index t 0 = t.val + 2 - 2 ∧ win0_6.index t 1 = 5 := by decide +kernel
theorem place8 : ∀ t : Fin grid0.N, win0_8.index t 0 = t.val ∧ win0_8.index t 1 = 0 := by decide +kernel

/-- An entry of a block lies at the block's place and its own. -/
theorem at_block (e : S16384x3584.Idx) (j : S256x512.Idx) {i0 i1 : ℕ} (a b : ℕ) (hi : i0 = a ∧ i1 = b) (h0 : (e 0).val = i0 * 256 + (j 0).val) (h1 : (e 1).val = i1 * 512 + (j 1).val)
    (A : Fin 16384) (B : Fin 3584) (hA : A.val = 256 * a + (j 0).val) (hB : B.val = b * 512 + (j 1).val) : e = ix2 A B := by
  obtain ⟨rfl, rfl⟩ := hi
  funext u
  match u with
  | ⟨0, _⟩ => exact Fin.ext (by show (e 0).val = A.val; omega)
  | ⟨1, _⟩ => exact Fin.ext (by show (e 1).val = B.val; omega)

/-- A block, read from its array. -/
theorem read_at (c : Dev nD) (w : Fin cfg0.W) (t : Fin cfg0.N) (j) (X) (h : V m c (Pipeline.arrRef spec0 w) = X) : iblk m c w t j = ((cfg0.win w).blk t).view.read (Elt Ideal) X j := by
  subst h
  rfl

theorem in0 (c : Dev nD) (t : Fin cfg0.N) (r : Fin 256) (d : Fin 512) : iblk m c 0 t (ix2 r d) = qIn m c (ix2 (row (pt t) r) ⟨1536 + d.val, by omega⟩) := by
  exact (read_at m c 0 t (ix2 r d) _ (V_main_arg0 m c)).trans <| congrArg (qIn m c) (at_block _ (ix2 r d) _ _ (place0 t) (win0_0.rect_emb_val t (ix2 r d) 0) (win0_0.rect_emb_val t (ix2 r d) 1) _ _ rfl rfl)

theorem in1 (c : Dev nD) (t : Fin cfg0.N) (r : Fin 256) (d : Fin 512) : iblk m c 1 t (ix2 r d) = qIn m c (ix2 (key (pt t) 0 r) ⟨2048 + d.val, by omega⟩) :=
  (read_at m c 1 t (ix2 r d) _ (V_main_arg0 m c)).trans <| congrArg (qIn m c) (at_block _ (ix2 r d) _ _ (place1 t) (win0_1.rect_emb_val t (ix2 r d) 0) (win0_1.rect_emb_val t (ix2 r d) 1) _ _ rfl rfl)

theorem in2 (c : Dev nD) (t : Fin cfg0.N) (r : Fin 256) (d : Fin 512) : iblk m c 2 t (ix2 r d) = qIn m c (ix2 (key (pt t) 1 r) ⟨2048 + d.val, by omega⟩) :=
  (read_at m c 2 t (ix2 r d) _ (V_main_arg0 m c)).trans <| congrArg (qIn m c) (at_block _ (ix2 r d) _ _ (place2 t) (win0_2.rect_emb_val t (ix2 r d) 0) (win0_2.rect_emb_val t (ix2 r d) 1) _ _ rfl rfl)

theorem in3 (c : Dev nD) (t : Fin cfg0.N) (r : Fin 256) (d : Fin 512) : iblk m c 3 t (ix2 r d) = qIn m c (ix2 (key (pt t) 2 r) ⟨2048 + d.val, by omega⟩) :=
  (read_at m c 3 t (ix2 r d) _ (V_main_arg0 m c)).trans <| congrArg (qIn m c) (at_block _ (ix2 r d) _ _ (place3 t) (win0_3.rect_emb_val t (ix2 r d) 0) (win0_3.rect_emb_val t (ix2 r d) 1) _ _ rfl rfl)

theorem in4 (c : Dev nD) (t : Fin cfg0.N) (r : Fin 256) (d : Fin 512) : iblk m c 4 t (ix2 r d) = qIn m c (ix2 (key (pt t) 0 r) ⟨2560 + d.val, by omega⟩) :=
  (read_at m c 4 t (ix2 r d) _ (V_main_arg0 m c)).trans <| congrArg (qIn m c) (at_block _ (ix2 r d) _ _ (place4 t) (win0_4.rect_emb_val t (ix2 r d) 0) (win0_4.rect_emb_val t (ix2 r d) 1) _ _ rfl rfl)

theorem in5 (c : Dev nD) (t : Fin cfg0.N) (r : Fin 256) (d : Fin 512) : iblk m c 5 t (ix2 r d) = qIn m c (ix2 (key (pt t) 1 r) ⟨2560 + d.val, by omega⟩) :=
  (read_at m c 5 t (ix2 r d) _ (V_main_arg0 m c)).trans <| congrArg (qIn m c) (at_block _ (ix2 r d) _ _ (place5 t) (win0_5.rect_emb_val t (ix2 r d) 0) (win0_5.rect_emb_val t (ix2 r d) 1) _ _ rfl rfl)

theorem in6 (c : Dev nD) (t : Fin cfg0.N) (r : Fin 256) (d : Fin 512) : iblk m c 6 t (ix2 r d) = qIn m c (ix2 (key (pt t) 2 r) ⟨2560 + d.val, by omega⟩) :=
  (read_at m c 6 t (ix2 r d) _ (V_main_arg0 m c)).trans <| congrArg (qIn m c) (at_block _ (ix2 r d) _ _ (place6 t) (win0_6.rect_emb_val t (ix2 r d) 0) (win0_6.rect_emb_val t (ix2 r d) 1) _ _ rfl rfl)

theorem whole7 (t : Fin cfg0.N) (j : S8x256x768.Idx) : ((cfg0.win 7).blk t).view.emb j = j := by
  funext a
  match a with
  | ⟨0, _⟩ => exact Fin.ext (by show 0 * 8 + 1 * (j 0).val = (j 0).val; omega)
  | ⟨1, _⟩ => exact Fin.ext (by show 0 * 256 + 1 * (j 1).val = (j 1).val; omega)
  | ⟨2, _⟩ => exact Fin.ext (by show 0 * 768 + 1 * (j 2).val = (j 2).val; omega)

theorem in7 (c : Dev nD) (t : Fin cfg0.N) (h : Fin 8) (r : Fin 256) (j : Fin 768) : iblk m c 7 t (ix3 h r j) = bias (tIn m c) h r j.val := by
  exact (read_at m c 7 t (ix3 h r j) _ (V_tab m c)).trans <| (congrArg (tab (tIn m c)) (whole7 t (ix3 h r j))).trans (tab_at _ h r j)

theorem emb8 (t : Fin grid0.N) (j : S256x512.Idx) : (win0_8.rect t).emb j = ix2 (row (pt t) (j 0)) (j 1) := by
  funext a
  match a with
  | ⟨0, _⟩ => exact Fin.ext ((win0_8.rect_emb_val t j 0).trans (by rw [(place8 t).1]; show t.val * 256 + (j 0).val = 256 * t.val + (j 0).val; omega))
  | ⟨1, _⟩ => exact Fin.ext ((win0_8.rect_emb_val t j 1).trans (by rw [(place8 t).2]; show 0 * 512 + (j 1).val = (j 1).val; omega))

/-- The result. -/
def yOut (c : Dev nD) : S16384x512.Idx → EReal := band (qIn m c) (tIn m c)

variable (c : Dev nD) (hQ : ∀ i, Real' (qIn m c i)) (hT : ∀ i, Real' (tIn m c i))

include hQ hT in
theorem flush (t : Fin cfg0.N) (j : S256x512.Idx) : (dats m 0 c).flushed 8 t j = yOut m c ((win0_8.rect t).emb j) := by
  refine Eq.trans ?_ (congrArg (yOut m c) (emb8 t j)).symm
  exact (congrFun (flushed8 m c t) j).trans (congrFun (block_goal (qIn m c) (tIn m c) (pt t) (iblk m c 0 t) (iblk m c 7 t) (iblk m c 1 t) (iblk m c 2 t) (iblk m c 3 t) (iblk m c 4 t) (iblk m c 5 t) (iblk m c 6 t)
    (in0 m c t) (in1 m c t) (in2 m c t) (in3 m c t) (in4 m c t) (in5 m c t) (in6 m c t) (in7 m c t) hQ hT (grid0.coords t) (coord t)) j)

include hQ hT in
theorem final : (dats m 0 c).arrAt 8 cfg0.N = yOut m c := by
  refine (dats m 0 c).arrAt_eq_of_cover 8 (yOut m c) (fun t _ => funext fun j => flush m c hQ hT t j) (fun i => ?_)
  have h0 : (i 0).val < 16384 := (i 0).isLt
  have hN : grid0.N = 64 := N_0
  have ht : (i 0).val / 256 < grid0.N := by omega
  refine ⟨⟨(i 0).val / 256, ht⟩, flush0_8 _, Finset.mem_map.mpr ⟨ix2 ⟨(i 0).val % 256, Nat.mod_lt _ (by decide)⟩ (i 1), Finset.mem_univ _, ?_⟩⟩
  refine (emb8 _ _).trans ((congrArg (fun r => ix2 r (i 1)) (Fin.ext ?_)).trans (eq_ix2 i).symm)
  show 256 * ((i 0).val / 256) + (i 0).val % 256 = (i 0).val
  omega

end

section

open Cert.Pre_finite7 Cert.Pre_finite7.Gen

theorem finite (q : FVec Ideal S16384x3584 .bf16) (r : FVec Ideal S8x257 .f32) (h : Cert.Pre_finite7.fn (F := Ideal) q r = fun _ => 1#1) :
    (∀ i, Real' (q i)) ∧ (∀ i, Real' (r i)) := by
  have h0 := congrFun h (fun a => a.elim0)
  dsimp only [Cert.Pre_finite7.fn] at h0
  obtain ⟨h1, h2⟩ := IntOp.andi_eq_one.mp h0
  haveI : Subsingleton S_.Idx := ⟨fun a b => funext fun i => i.elim0⟩
  exact ⟨fun i => fin_of_lt _ (Host.reduce_andi_all _ _ _ _ _ h1 i), fun i => fin_of_lt _ (Host.reduce_andi_all _ _ _ _ _ h2 i)⟩

end

/-- The mask's printed word is the named number's own rounding. -/
theorem named_masks : Cert.preserves_Kernel7_Kernel7Ideal :=
  IdealRules.named_const.statement Cert.Kernel7Ideal.κ "mask" .f32 0xF149F2CA#32 ⊥ rfl

theorem algebraic : Cert.algebraic_Kernel7Ideal_Reference7Ideal_pre_finite7 := by
  intro m g m' g' hpre hagree
  have hf := fun c => finite (qIn m c) (tIn m c) (hpre c)
  refine ⟨fun c => yOut m c, ?_, ?_⟩
  · exact (θ_run Cert.Kernel7Ideal.defs _ _).mono (fun _ h c => ⟨(h c).1.trans (final m c (hf c).1 (hf c).2), (h c).2⟩)
      (Cert.Kernel7Ideal.Value.run_blocks (F := Ideal) m g)
  · refine (θ_run Cert.Reference7Ideal.defs _ _).mono (fun _ h c => ⟨(h c).1.trans ?_, (h c).2⟩) (Cert.Reference7Ideal.Value.run (F := Ideal) m' g')
    unfold Cert.Reference7Ideal.Value.res_main_v58
    rw [(hagree c).1, (hagree c).2]
    exact rOut_eq (qIn m c) (tIn m c) (hf c).1 (hf c).2

end Cert.Band

end
-- ==== Proof.lean ====
/-
  The certificate of the kernel: the frames, the two named constants, and the equality of the kernel's and the
  reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Frames
public import proofs.«01_k».proof.Proof.Val.Claim
public import proofs.«01_k».proof.Proof.Lin.Frames
public import proofs.«01_k».proof.Proof.Lin.InRun
public import proofs.«01_k».proof.Proof.Lin.Mem
public import proofs.«01_k».proof.Proof.Lin.InSampleRun
public import proofs.«01_k».proof.Proof.Lin.MergeRun
public import proofs.«01_k».proof.Proof.Att.CrossRun
public import proofs.«01_k».proof.Proof.Att.BandRun
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite6.Gen.facts, Cert.Pre_finite7.Gen.facts,
  frame_kernel, frame_ideal, frame_reference,
  frame_kernel2, frame_ideal2, frame_reference2,
  frame_kernel3, frame_ideal3, frame_reference3,
  frame_kernel4, frame_ideal4, frame_reference4,
  frame_kernel5, frame_ideal5, frame_reference5,
  frame_kernel6, frame_ideal6, fun m g _ => frame_ideal6 m g trivial, frame_reference6, fun m g _ => frame_reference6 m g trivial,
  frame_kernel7, frame_ideal7, fun m g _ => frame_ideal7 m g trivial, frame_reference7, fun m g _ => frame_reference7 m g trivial,
  named_consts, Cert.Stick.algebraic,
  trivial, Cert.Lin.In.algebraic,
  trivial, Cert.Lin.Mem.algebraic,
  trivial, Cert.Lin.InSample.algebraic,
  trivial, Cert.Merge.algebraic,
  Cert.Cross.named_scale, Cert.Cross.algebraic,
  Cert.Band.named_masks, Cert.Band.algebraic⟩

end Cert.Proof

end
